-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x2048 : Shape := ⟨2, ![4096, 2048]⟩
abbrev S1 : Shape := ⟨1, ![1]⟩
abbrev S256x2048 : Shape := ⟨2, ![256, 2048]⟩
abbrev S256x4096 : Shape := ⟨2, ![256, 4096]⟩
abbrev S2x1024x2048 : Shape := ⟨3, ![2, 1024, 2048]⟩
abbrev S16 : Shape := ⟨1, ![16]⟩
abbrev S2 : Shape := ⟨1, ![2]⟩
abbrev S4 : Shape := ⟨1, ![4]⟩
abbrev S_ : Shape := ⟨0, ![]⟩
abbrev S1024x256 : Shape := ⟨2, ![1024, 256]⟩
abbrev S1x1024x2048 : Shape := ⟨3, ![1, 1024, 2048]⟩
abbrev S1024x2048 : Shape := ⟨2, ![1024, 2048]⟩
abbrev S256x256 : Shape := ⟨2, ![256, 256]⟩
abbrev S256x1024 : Shape := ⟨2, ![256, 1024]⟩

abbrev nBuf : Space → Nat
  | .hbm => 5
  | .vmem => 6
  | .smem => 2
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S256x2048, .f32⟩
  | .local _ .vmem, ⟨0, _⟩ => ⟨S256x2048, .f32⟩
  | .local _ .vmem, ⟨1, _⟩ => ⟨S4096x256, .f32⟩
  | .local _ .vmem, ⟨2, _⟩ => ⟨S4096x256, .fp8e5m2⟩
  | .local _ .vmem, ⟨3, _⟩ => ⟨S256x4096, .fp8e5m2⟩
  | .local _ .vmem, ⟨4, _⟩ => ⟨S2x1024x2048, .f32⟩
  | .local _ .vmem, ⟨5, _⟩ => ⟨S2x1024x2048, .fp8e5m2⟩
  | .local _ .smem, ⟨0, _⟩ => ⟨S1, .f32⟩
  | .local _ .smem, ⟨1, _⟩ => ⟨S1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_off1 (d0 : Dev nD) (c0_i32_5 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi v19 c0_i32_5
  let c4_i32_6 : BitVec 32 := 4#32
  let v21 : BitVec 32 := Scalar.remsi v20 c4_i32_6
  let c1024_i32_7 : BitVec 32 := 1024#32
  let v23 : BitVec 32 := Scalar.muli v21 c1024_i32_7
  let c0_i32_9 : BitVec 32 := 0#32
  ![v23.toNat, 0]
def k0_off2 (d0 : Dev nD) (c0_i32_30 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v52 : BitVec 32 := Scalar.addi v19 c0_i32_30
  let c4_i32_31 : BitVec 32 := 4#32
  let v53 : BitVec 32 := Scalar.remsi v52 c4_i32_31
  let c1024_i32_32 : BitVec 32 := 1024#32
  let v54 : BitVec 32 := Scalar.muli v53 c1024_i32_32
  let c0_i32_37 : BitVec 32 := 0#32
  ![v54.toNat, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_46 : BitVec 32 := 0#32
  let v69 : BitVec 1 := Scalar.cmpi .ne v2 c0_i32_46
  let v70 : BitVec 32 := Scalar.extui v69
  let c0_i32_47 : BitVec 32 := 0#32
  let v71 : BitVec 1 := Scalar.cmpi .ne v70 c0_i32_47
  v71

def k0_dev1 : Nat :=
  let c0_i32_380 : BitVec 32 := 0#32
  let c0_i32_378 : BitVec 32 := 0#32
  let c1_i32_379 : BitVec 32 := 1#32
  let v567 : BitVec 32 := Scalar.muli c0_i32_378 c1_i32_379
  let v568 : BitVec 32 := Scalar.addi c0_i32_380 v567
  v568.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_48 : BitVec 32 := 1#32
  let v72 : BitVec 1 := Scalar.cmpi .ne v2 c1_i32_48
  let v73 : BitVec 32 := Scalar.extui v72
  let c0_i32_49 : BitVec 32 := 0#32
  let v74 : BitVec 1 := Scalar.cmpi .ne v73 c0_i32_49
  v74

def k0_dev2 : Nat :=
  let c0_i32_380 : BitVec 32 := 0#32
  let c1_i32_378 : BitVec 32 := 1#32
  let c1_i32_379 : BitVec 32 := 1#32
  let v567 : BitVec 32 := Scalar.muli c1_i32_378 c1_i32_379
  let v568 : BitVec 32 := Scalar.addi c0_i32_380 v567
  v568.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_50 : BitVec 32 := 2#32
  let v75 : BitVec 1 := Scalar.cmpi .ne v2 c2_i32_50
  let v76 : BitVec 32 := Scalar.extui v75
  let c0_i32_51 : BitVec 32 := 0#32
  let v77 : BitVec 1 := Scalar.cmpi .ne v76 c0_i32_51
  v77

def k0_dev3 : Nat :=
  let c0_i32_380 : BitVec 32 := 0#32
  let c2_i32_378 : BitVec 32 := 2#32
  let c1_i32_379 : BitVec 32 := 1#32
  let v567 : BitVec 32 := Scalar.muli c2_i32_378 c1_i32_379
  let v568 : BitVec 32 := Scalar.addi c0_i32_380 v567
  v568.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_52 : BitVec 32 := 3#32
  let v78 : BitVec 1 := Scalar.cmpi .ne v2 c3_i32_52
  let v79 : BitVec 32 := Scalar.extui v78
  let c0_i32_53 : BitVec 32 := 0#32
  let v80 : BitVec 1 := Scalar.cmpi .ne v79 c0_i32_53
  v80

def k0_dev4 : Nat :=
  let c0_i32_380 : BitVec 32 := 0#32
  let c3_i32_378 : BitVec 32 := 3#32
  let c1_i32_379 : BitVec 32 := 1#32
  let v567 : BitVec 32 := Scalar.muli c3_i32_378 c1_i32_379
  let v568 : BitVec 32 := Scalar.addi c0_i32_380 v567
  v568.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_54 : BitVec 32 := 4#32
  let v81 : BitVec 1 := Scalar.cmpi .ne v2 c4_i32_54
  let v82 : BitVec 32 := Scalar.extui v81
  let c0_i32_55 : BitVec 32 := 0#32
  let v83 : BitVec 1 := Scalar.cmpi .ne v82 c0_i32_55
  v83

def k0_dev5 : Nat :=
  let c0_i32_380 : BitVec 32 := 0#32
  let c4_i32_378 : BitVec 32 := 4#32
  let c1_i32_379 : BitVec 32 := 1#32
  let v567 : BitVec 32 := Scalar.muli c4_i32_378 c1_i32_379
  let v568 : BitVec 32 := Scalar.addi c0_i32_380 v567
  v568.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v84 : BitVec 1 := Scalar.cmpi .ne v2 c5_i32
  let v85 : BitVec 32 := Scalar.extui v84
  let c0_i32_56 : BitVec 32 := 0#32
  let v86 : BitVec 1 := Scalar.cmpi .ne v85 c0_i32_56
  v86

def k0_dev6 : Nat :=
  let c0_i32_380 : BitVec 32 := 0#32
  let c5_i32_378 : BitVec 32 := 5#32
  let c1_i32_379 : BitVec 32 := 1#32
  let v567 : BitVec 32 := Scalar.muli c5_i32_378 c1_i32_379
  let v568 : BitVec 32 := Scalar.addi c0_i32_380 v567
  v568.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v87 : BitVec 1 := Scalar.cmpi .ne v2 c6_i32
  let v88 : BitVec 32 := Scalar.extui v87
  let c0_i32_57 : BitVec 32 := 0#32
  let v89 : BitVec 1 := Scalar.cmpi .ne v88 c0_i32_57
  v89

def k0_dev7 : Nat :=
  let c0_i32_380 : BitVec 32 := 0#32
  let c6_i32_378 : BitVec 32 := 6#32
  let c1_i32_379 : BitVec 32 := 1#32
  let v567 : BitVec 32 := Scalar.muli c6_i32_378 c1_i32_379
  let v568 : BitVec 32 := Scalar.addi c0_i32_380 v567
  v568.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v90 : BitVec 1 := Scalar.cmpi .ne v2 c7_i32
  let v91 : BitVec 32 := Scalar.extui v90
  let c0_i32_58 : BitVec 32 := 0#32
  let v92 : BitVec 1 := Scalar.cmpi .ne v91 c0_i32_58
  v92

def k0_dev8 : Nat :=
  let c0_i32_380 : BitVec 32 := 0#32
  let c7_i32_378 : BitVec 32 := 7#32
  let c1_i32_379 : BitVec 32 := 1#32
  let v567 : BitVec 32 := Scalar.muli c7_i32_378 c1_i32_379
  let v568 : BitVec 32 := Scalar.addi c0_i32_380 v567
  v568.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v93 : BitVec 1 := Scalar.cmpi .ne v2 c8_i32
  let v94 : BitVec 32 := Scalar.extui v93
  let c0_i32_59 : BitVec 32 := 0#32
  let v95 : BitVec 1 := Scalar.cmpi .ne v94 c0_i32_59
  v95

def k0_dev9 : Nat :=
  let c0_i32_380 : BitVec 32 := 0#32
  let c8_i32_378 : BitVec 32 := 8#32
  let c1_i32_379 : BitVec 32 := 1#32
  let v567 : BitVec 32 := Scalar.muli c8_i32_378 c1_i32_379
  let v568 : BitVec 32 := Scalar.addi c0_i32_380 v567
  v568.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v96 : BitVec 1 := Scalar.cmpi .ne v2 c9_i32
  let v97 : BitVec 32 := Scalar.extui v96
  let c0_i32_60 : BitVec 32 := 0#32
  let v98 : BitVec 1 := Scalar.cmpi .ne v97 c0_i32_60
  v98

def k0_dev10 : Nat :=
  let c0_i32_380 : BitVec 32 := 0#32
  let c9_i32_378 : BitVec 32 := 9#32
  let c1_i32_379 : BitVec 32 := 1#32
  let v567 : BitVec 32 := Scalar.muli c9_i32_378 c1_i32_379
  let v568 : BitVec 32 := Scalar.addi c0_i32_380 v567
  v568.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v99 : BitVec 1 := Scalar.cmpi .ne v2 c10_i32
  let v100 : BitVec 32 := Scalar.extui v99
  let c0_i32_61 : BitVec 32 := 0#32
  let v101 : BitVec 1 := Scalar.cmpi .ne v100 c0_i32_61
  v101

def k0_dev11 : Nat :=
  let c0_i32_380 : BitVec 32 := 0#32
  let c10_i32_378 : BitVec 32 := 10#32
  let c1_i32_379 : BitVec 32 := 1#32
  let v567 : BitVec 32 := Scalar.muli c10_i32_378 c1_i32_379
  let v568 : BitVec 32 := Scalar.addi c0_i32_380 v567
  v568.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v102 : BitVec 1 := Scalar.cmpi .ne v2 c11_i32
  let v103 : BitVec 32 := Scalar.extui v102
  let c0_i32_62 : BitVec 32 := 0#32
  let v104 : BitVec 1 := Scalar.cmpi .ne v103 c0_i32_62
  v104

def k0_dev12 : Nat :=
  let c0_i32_380 : BitVec 32 := 0#32
  let c11_i32_378 : BitVec 32 := 11#32
  let c1_i32_379 : BitVec 32 := 1#32
  let v567 : BitVec 32 := Scalar.muli c11_i32_378 c1_i32_379
  let v568 : BitVec 32 := Scalar.addi c0_i32_380 v567
  v568.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v105 : BitVec 1 := Scalar.cmpi .ne v2 c12_i32
  let v106 : BitVec 32 := Scalar.extui v105
  let c0_i32_63 : BitVec 32 := 0#32
  let v107 : BitVec 1 := Scalar.cmpi .ne v106 c0_i32_63
  v107

def k0_dev13 : Nat :=
  let c0_i32_380 : BitVec 32 := 0#32
  let c12_i32_378 : BitVec 32 := 12#32
  let c1_i32_379 : BitVec 32 := 1#32
  let v567 : BitVec 32 := Scalar.muli c12_i32_378 c1_i32_379
  let v568 : BitVec 32 := Scalar.addi c0_i32_380 v567
  v568.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v108 : BitVec 1 := Scalar.cmpi .ne v2 c13_i32
  let v109 : BitVec 32 := Scalar.extui v108
  let c0_i32_64 : BitVec 32 := 0#32
  let v110 : BitVec 1 := Scalar.cmpi .ne v109 c0_i32_64
  v110

def k0_dev14 : Nat :=
  let c0_i32_380 : BitVec 32 := 0#32
  let c13_i32_378 : BitVec 32 := 13#32
  let c1_i32_379 : BitVec 32 := 1#32
  let v567 : BitVec 32 := Scalar.muli c13_i32_378 c1_i32_379
  let v568 : BitVec 32 := Scalar.addi c0_i32_380 v567
  v568.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v111 : BitVec 1 := Scalar.cmpi .ne v2 c14_i32
  let v112 : BitVec 32 := Scalar.extui v111
  let c0_i32_65 : BitVec 32 := 0#32
  let v113 : BitVec 1 := Scalar.cmpi .ne v112 c0_i32_65
  v113

def k0_dev15 : Nat :=
  let c0_i32_380 : BitVec 32 := 0#32
  let c14_i32_378 : BitVec 32 := 14#32
  let c1_i32_379 : BitVec 32 := 1#32
  let v567 : BitVec 32 := Scalar.muli c14_i32_378 c1_i32_379
  let v568 : BitVec 32 := Scalar.addi c0_i32_380 v567
  v568.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v114 : BitVec 1 := Scalar.cmpi .ne v2 c15_i32
  let v115 : BitVec 32 := Scalar.extui v114
  let c0_i32_66 : BitVec 32 := 0#32
  let v116 : BitVec 1 := Scalar.cmpi .ne v115 c0_i32_66
  v116

def k0_dev16 : Nat :=
  let c0_i32_380 : BitVec 32 := 0#32
  let c15_i32_378 : BitVec 32 := 15#32
  let c1_i32_379 : BitVec 32 := 1#32
  let v567 : BitVec 32 := Scalar.muli c15_i32_378 c1_i32_379
  let v568 : BitVec 32 := Scalar.addi c0_i32_380 v567
  v568.toNat
def k0_off3 (d0 : Dev nD) (c0_i32_67 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v117 : BitVec 32 := Scalar.addi v19 c0_i32_67
  let c4_i32_68 : BitVec 32 := 4#32
  let v118 : BitVec 32 := Scalar.remsi v117 c4_i32_68
  let c1024_i32_76 : BitVec 32 := 1024#32
  let v127 : BitVec 32 := Scalar.muli v118 c1024_i32_76
  let v128 : Index := Scalar.indexCast v127
  let c0 : Index := 0#32
  ![v128.toNat, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_67 : BitVec 32 := 0#32
  let v117 : BitVec 32 := Scalar.addi v19 c0_i32_67
  let c4_i32_68 : BitVec 32 := 4#32
  let v118 : BitVec 32 := Scalar.remsi v117 c4_i32_68
  let c4_i32_79 : BitVec 32 := 4#32
  let v135 : BitVec 32 := Scalar.muli v118 c4_i32_79
  let c0_i32_80 : BitVec 32 := 0#32
  let v136 : BitVec 32 := Scalar.addi v135 c0_i32_80
  let v137 : BitVec 1 := Scalar.cmpi .eq v136 v2
  let v138 : BitVec 32 := Scalar.extui v137
  let c0_i32_81 : BitVec 32 := 0#32
  let v139 : BitVec 1 := Scalar.cmpi .ne v138 c0_i32_81
  v139

def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  let v568 : Index := Scalar.indexCast v567
  let c0_377 : Index := 0#32
  ![v568.toNat, 0]
def k0_off5 (d0 : Dev nD) : Fin 2 → Nat :=
  let c0_379 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_378 : BitVec 32 := 256#32
  let v570 : BitVec 32 := Scalar.muli v2 c256_i32_378
  let v571 : Index := Scalar.indexCast v570
  ![0, v571.toNat]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_67 : BitVec 32 := 0#32
  let v117 : BitVec 32 := Scalar.addi v19 c0_i32_67
  let c4_i32_68 : BitVec 32 := 4#32
  let v118 : BitVec 32 := Scalar.remsi v117 c4_i32_68
  let c4_i32_79 : BitVec 32 := 4#32
  let v135 : BitVec 32 := Scalar.muli v118 c4_i32_79
  let c0_i32_80 : BitVec 32 := 0#32
  let v136 : BitVec 32 := Scalar.addi v135 c0_i32_80
  let v140 : BitVec 1 := Scalar.cmpi .ne v136 v2
  let v141 : BitVec 32 := Scalar.extui v140
  let c0_i32_82 : BitVec 32 := 0#32
  let v142 : BitVec 1 := Scalar.cmpi .ne v141 c0_i32_82
  v142

def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_67 : BitVec 32 := 0#32
  let v117 : BitVec 32 := Scalar.addi v19 c0_i32_67
  let c4_i32_68 : BitVec 32 := 4#32
  let v118 : BitVec 32 := Scalar.remsi v117 c4_i32_68
  let c4_i32_79 : BitVec 32 := 4#32
  let v135 : BitVec 32 := Scalar.muli v118 c4_i32_79
  let c0_i32_80 : BitVec 32 := 0#32
  let v136 : BitVec 32 := Scalar.addi v135 c0_i32_80
  ![v136.toNat]
def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 2 → Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_377 : BitVec 32 := 256#32
  let v568 : BitVec 32 := Scalar.muli v2 c256_i32_377
  ![0, v568.toNat]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_67 : BitVec 32 := 0#32
  let v117 : BitVec 32 := Scalar.addi v19 c0_i32_67
  let c4_i32_68 : BitVec 32 := 4#32
  let v118 : BitVec 32 := Scalar.remsi v117 c4_i32_68
  let c4_i32_79 : BitVec 32 := 4#32
  let v135 : BitVec 32 := Scalar.muli v118 c4_i32_79
  let c0_i32_80 : BitVec 32 := 0#32
  let v136 : BitVec 32 := Scalar.addi v135 c0_i32_80
  let c256_i32 : BitVec 32 := 256#32
  let v567 : BitVec 32 := Scalar.muli v136 c256_i32
  let c0_i32_381 : BitVec 32 := 0#32
  ![v567.toNat, 0]
def k0_dev17 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_67 : BitVec 32 := 0#32
  let v117 : BitVec 32 := Scalar.addi v19 c0_i32_67
  let c4_i32_68 : BitVec 32 := 4#32
  let v118 : BitVec 32 := Scalar.remsi v117 c4_i32_68
  let c4_i32_79 : BitVec 32 := 4#32
  let v135 : BitVec 32 := Scalar.muli v118 c4_i32_79
  let c0_i32_80 : BitVec 32 := 0#32
  let v136 : BitVec 32 := Scalar.addi v135 c0_i32_80
  let c1_i32_378 : BitVec 32 := 1#32
  let v569 : BitVec 32 := Scalar.muli v136 c1_i32_378
  let v570 : BitVec 32 := Scalar.addi c0_i32_379 v569
  v570.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_67 : BitVec 32 := 0#32
  let v117 : BitVec 32 := Scalar.addi v19 c0_i32_67
  let c4_i32_68 : BitVec 32 := 4#32
  let v118 : BitVec 32 := Scalar.remsi v117 c4_i32_68
  let c4_i32_83 : BitVec 32 := 4#32
  let v143 : BitVec 32 := Scalar.muli v118 c4_i32_83
  let c1_i32_84 : BitVec 32 := 1#32
  let v144 : BitVec 32 := Scalar.addi v143 c1_i32_84
  let v145 : BitVec 1 := Scalar.cmpi .eq v144 v2
  let v146 : BitVec 32 := Scalar.extui v145
  let c0_i32_85 : BitVec 32 := 0#32
  let v147 : BitVec 1 := Scalar.cmpi .ne v146 c0_i32_85
  v147

def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  let v568 : Index := Scalar.indexCast v567
  let c0_377 : Index := 0#32
  ![v568.toNat, 0]
def k0_off11 (d0 : Dev nD) : Fin 2 → Nat :=
  let c0_379 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_378 : BitVec 32 := 256#32
  let v570 : BitVec 32 := Scalar.muli v2 c256_i32_378
  let v571 : Index := Scalar.indexCast v570
  ![0, v571.toNat]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_67 : BitVec 32 := 0#32
  let v117 : BitVec 32 := Scalar.addi v19 c0_i32_67
  let c4_i32_68 : BitVec 32 := 4#32
  let v118 : BitVec 32 := Scalar.remsi v117 c4_i32_68
  let c4_i32_83 : BitVec 32 := 4#32
  let v143 : BitVec 32 := Scalar.muli v118 c4_i32_83
  let c1_i32_84 : BitVec 32 := 1#32
  let v144 : BitVec 32 := Scalar.addi v143 c1_i32_84
  let v148 : BitVec 1 := Scalar.cmpi .ne v144 v2
  let v149 : BitVec 32 := Scalar.extui v148
  let c0_i32_86 : BitVec 32 := 0#32
  let v150 : BitVec 1 := Scalar.cmpi .ne v149 c0_i32_86
  v150

def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_67 : BitVec 32 := 0#32
  let v117 : BitVec 32 := Scalar.addi v19 c0_i32_67
  let c4_i32_68 : BitVec 32 := 4#32
  let v118 : BitVec 32 := Scalar.remsi v117 c4_i32_68
  let c4_i32_83 : BitVec 32 := 4#32
  let v143 : BitVec 32 := Scalar.muli v118 c4_i32_83
  let c1_i32_84 : BitVec 32 := 1#32
  let v144 : BitVec 32 := Scalar.addi v143 c1_i32_84
  ![v144.toNat]
def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 2 → Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_377 : BitVec 32 := 256#32
  let v568 : BitVec 32 := Scalar.muli v2 c256_i32_377
  ![0, v568.toNat]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_67 : BitVec 32 := 0#32
  let v117 : BitVec 32 := Scalar.addi v19 c0_i32_67
  let c4_i32_68 : BitVec 32 := 4#32
  let v118 : BitVec 32 := Scalar.remsi v117 c4_i32_68
  let c4_i32_83 : BitVec 32 := 4#32
  let v143 : BitVec 32 := Scalar.muli v118 c4_i32_83
  let c1_i32_84 : BitVec 32 := 1#32
  let v144 : BitVec 32 := Scalar.addi v143 c1_i32_84
  let c256_i32 : BitVec 32 := 256#32
  let v567 : BitVec 32 := Scalar.muli v144 c256_i32
  let c0_i32_381 : BitVec 32 := 0#32
  ![v567.toNat, 0]
def k0_dev18 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_67 : BitVec 32 := 0#32
  let v117 : BitVec 32 := Scalar.addi v19 c0_i32_67
  let c4_i32_68 : BitVec 32 := 4#32
  let v118 : BitVec 32 := Scalar.remsi v117 c4_i32_68
  let c4_i32_83 : BitVec 32 := 4#32
  let v143 : BitVec 32 := Scalar.muli v118 c4_i32_83
  let c1_i32_84 : BitVec 32 := 1#32
  let v144 : BitVec 32 := Scalar.addi v143 c1_i32_84
  let c1_i32_378 : BitVec 32 := 1#32
  let v569 : BitVec 32 := Scalar.muli v144 c1_i32_378
  let v570 : BitVec 32 := Scalar.addi c0_i32_379 v569
  v570.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_67 : BitVec 32 := 0#32
  let v117 : BitVec 32 := Scalar.addi v19 c0_i32_67
  let c4_i32_68 : BitVec 32 := 4#32
  let v118 : BitVec 32 := Scalar.remsi v117 c4_i32_68
  let c4_i32_87 : BitVec 32 := 4#32
  let v151 : BitVec 32 := Scalar.muli v118 c4_i32_87
  let c2_i32_88 : BitVec 32 := 2#32
  let v152 : BitVec 32 := Scalar.addi v151 c2_i32_88
  let v153 : BitVec 1 := Scalar.cmpi .eq v152 v2
  let v154 : BitVec 32 := Scalar.extui v153
  let c0_i32_89 : BitVec 32 := 0#32
  let v155 : BitVec 1 := Scalar.cmpi .ne v154 c0_i32_89
  v155

def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  let v568 : Index := Scalar.indexCast v567
  let c0_377 : Index := 0#32
  ![v568.toNat, 0]
def k0_off17 (d0 : Dev nD) : Fin 2 → Nat :=
  let c0_379 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_378 : BitVec 32 := 256#32
  let v570 : BitVec 32 := Scalar.muli v2 c256_i32_378
  let v571 : Index := Scalar.indexCast v570
  ![0, v571.toNat]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_67 : BitVec 32 := 0#32
  let v117 : BitVec 32 := Scalar.addi v19 c0_i32_67
  let c4_i32_68 : BitVec 32 := 4#32
  let v118 : BitVec 32 := Scalar.remsi v117 c4_i32_68
  let c4_i32_87 : BitVec 32 := 4#32
  let v151 : BitVec 32 := Scalar.muli v118 c4_i32_87
  let c2_i32_88 : BitVec 32 := 2#32
  let v152 : BitVec 32 := Scalar.addi v151 c2_i32_88
  let v156 : BitVec 1 := Scalar.cmpi .ne v152 v2
  let v157 : BitVec 32 := Scalar.extui v156
  let c0_i32_90 : BitVec 32 := 0#32
  let v158 : BitVec 1 := Scalar.cmpi .ne v157 c0_i32_90
  v158

def k0_off18 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_67 : BitVec 32 := 0#32
  let v117 : BitVec 32 := Scalar.addi v19 c0_i32_67
  let c4_i32_68 : BitVec 32 := 4#32
  let v118 : BitVec 32 := Scalar.remsi v117 c4_i32_68
  let c4_i32_87 : BitVec 32 := 4#32
  let v151 : BitVec 32 := Scalar.muli v118 c4_i32_87
  let c2_i32_88 : BitVec 32 := 2#32
  let v152 : BitVec 32 := Scalar.addi v151 c2_i32_88
  ![v152.toNat]
def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 2 → Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_377 : BitVec 32 := 256#32
  let v568 : BitVec 32 := Scalar.muli v2 c256_i32_377
  ![0, v568.toNat]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_67 : BitVec 32 := 0#32
  let v117 : BitVec 32 := Scalar.addi v19 c0_i32_67
  let c4_i32_68 : BitVec 32 := 4#32
  let v118 : BitVec 32 := Scalar.remsi v117 c4_i32_68
  let c4_i32_87 : BitVec 32 := 4#32
  let v151 : BitVec 32 := Scalar.muli v118 c4_i32_87
  let c2_i32_88 : BitVec 32 := 2#32
  let v152 : BitVec 32 := Scalar.addi v151 c2_i32_88
  let c256_i32 : BitVec 32 := 256#32
  let v567 : BitVec 32 := Scalar.muli v152 c256_i32
  let c0_i32_381 : BitVec 32 := 0#32
  ![v567.toNat, 0]
def k0_dev19 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_67 : BitVec 32 := 0#32
  let v117 : BitVec 32 := Scalar.addi v19 c0_i32_67
  let c4_i32_68 : BitVec 32 := 4#32
  let v118 : BitVec 32 := Scalar.remsi v117 c4_i32_68
  let c4_i32_87 : BitVec 32 := 4#32
  let v151 : BitVec 32 := Scalar.muli v118 c4_i32_87
  let c2_i32_88 : BitVec 32 := 2#32
  let v152 : BitVec 32 := Scalar.addi v151 c2_i32_88
  let c1_i32_378 : BitVec 32 := 1#32
  let v569 : BitVec 32 := Scalar.muli v152 c1_i32_378
  let v570 : BitVec 32 := Scalar.addi c0_i32_379 v569
  v570.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_67 : BitVec 32 := 0#32
  let v117 : BitVec 32 := Scalar.addi v19 c0_i32_67
  let c4_i32_68 : BitVec 32 := 4#32
  let v118 : BitVec 32 := Scalar.remsi v117 c4_i32_68
  let c4_i32_91 : BitVec 32 := 4#32
  let v159 : BitVec 32 := Scalar.muli v118 c4_i32_91
  let c3_i32_92 : BitVec 32 := 3#32
  let v160 : BitVec 32 := Scalar.addi v159 c3_i32_92
  let v161 : BitVec 1 := Scalar.cmpi .eq v160 v2
  let v162 : BitVec 32 := Scalar.extui v161
  let c0_i32_93 : BitVec 32 := 0#32
  let v163 : BitVec 1 := Scalar.cmpi .ne v162 c0_i32_93
  v163

def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  let v568 : Index := Scalar.indexCast v567
  let c0_377 : Index := 0#32
  ![v568.toNat, 0]
def k0_off23 (d0 : Dev nD) : Fin 2 → Nat :=
  let c0_379 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_378 : BitVec 32 := 256#32
  let v570 : BitVec 32 := Scalar.muli v2 c256_i32_378
  let v571 : Index := Scalar.indexCast v570
  ![0, v571.toNat]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_67 : BitVec 32 := 0#32
  let v117 : BitVec 32 := Scalar.addi v19 c0_i32_67
  let c4_i32_68 : BitVec 32 := 4#32
  let v118 : BitVec 32 := Scalar.remsi v117 c4_i32_68
  let c4_i32_91 : BitVec 32 := 4#32
  let v159 : BitVec 32 := Scalar.muli v118 c4_i32_91
  let c3_i32_92 : BitVec 32 := 3#32
  let v160 : BitVec 32 := Scalar.addi v159 c3_i32_92
  let v164 : BitVec 1 := Scalar.cmpi .ne v160 v2
  let v165 : BitVec 32 := Scalar.extui v164
  let c0_i32_94 : BitVec 32 := 0#32
  let v166 : BitVec 1 := Scalar.cmpi .ne v165 c0_i32_94
  v166

def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_67 : BitVec 32 := 0#32
  let v117 : BitVec 32 := Scalar.addi v19 c0_i32_67
  let c4_i32_68 : BitVec 32 := 4#32
  let v118 : BitVec 32 := Scalar.remsi v117 c4_i32_68
  let c4_i32_91 : BitVec 32 := 4#32
  let v159 : BitVec 32 := Scalar.muli v118 c4_i32_91
  let c3_i32_92 : BitVec 32 := 3#32
  let v160 : BitVec 32 := Scalar.addi v159 c3_i32_92
  ![v160.toNat]
def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 2 → Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_377 : BitVec 32 := 256#32
  let v568 : BitVec 32 := Scalar.muli v2 c256_i32_377
  ![0, v568.toNat]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_67 : BitVec 32 := 0#32
  let v117 : BitVec 32 := Scalar.addi v19 c0_i32_67
  let c4_i32_68 : BitVec 32 := 4#32
  let v118 : BitVec 32 := Scalar.remsi v117 c4_i32_68
  let c4_i32_91 : BitVec 32 := 4#32
  let v159 : BitVec 32 := Scalar.muli v118 c4_i32_91
  let c3_i32_92 : BitVec 32 := 3#32
  let v160 : BitVec 32 := Scalar.addi v159 c3_i32_92
  let c256_i32 : BitVec 32 := 256#32
  let v567 : BitVec 32 := Scalar.muli v160 c256_i32
  let c0_i32_381 : BitVec 32 := 0#32
  ![v567.toNat, 0]
def k0_dev20 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_67 : BitVec 32 := 0#32
  let v117 : BitVec 32 := Scalar.addi v19 c0_i32_67
  let c4_i32_68 : BitVec 32 := 4#32
  let v118 : BitVec 32 := Scalar.remsi v117 c4_i32_68
  let c4_i32_91 : BitVec 32 := 4#32
  let v159 : BitVec 32 := Scalar.muli v118 c4_i32_91
  let c3_i32_92 : BitVec 32 := 3#32
  let v160 : BitVec 32 := Scalar.addi v159 c3_i32_92
  let c1_i32_378 : BitVec 32 := 1#32
  let v569 : BitVec 32 := Scalar.muli v160 c1_i32_378
  let v570 : BitVec 32 := Scalar.addi c0_i32_379 v569
  v570.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_95 : BitVec 32 := 1#32
  let v167 : BitVec 32 := Scalar.addi v19 c1_i32_95
  let c4_i32_96 : BitVec 32 := 4#32
  let v168 : BitVec 32 := Scalar.remsi v167 c4_i32_96
  let c4_i32_107 : BitVec 32 := 4#32
  let v185 : BitVec 32 := Scalar.muli v168 c4_i32_107
  let c0_i32_108 : BitVec 32 := 0#32
  let v186 : BitVec 32 := Scalar.addi v185 c0_i32_108
  let v187 : BitVec 1 := Scalar.cmpi .eq v186 v2
  let v188 : BitVec 32 := Scalar.extui v187
  let c0_i32_109 : BitVec 32 := 0#32
  let v189 : BitVec 1 := Scalar.cmpi .ne v188 c0_i32_109
  v189

def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  let v568 : Index := Scalar.indexCast v567
  let c0_377 : Index := 0#32
  ![v568.toNat, 0]
def k0_off29 (d0 : Dev nD) : Fin 2 → Nat :=
  let c0_379 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_378 : BitVec 32 := 256#32
  let v570 : BitVec 32 := Scalar.muli v2 c256_i32_378
  let v571 : Index := Scalar.indexCast v570
  ![0, v571.toNat]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_95 : BitVec 32 := 1#32
  let v167 : BitVec 32 := Scalar.addi v19 c1_i32_95
  let c4_i32_96 : BitVec 32 := 4#32
  let v168 : BitVec 32 := Scalar.remsi v167 c4_i32_96
  let c4_i32_107 : BitVec 32 := 4#32
  let v185 : BitVec 32 := Scalar.muli v168 c4_i32_107
  let c0_i32_108 : BitVec 32 := 0#32
  let v186 : BitVec 32 := Scalar.addi v185 c0_i32_108
  let v190 : BitVec 1 := Scalar.cmpi .ne v186 v2
  let v191 : BitVec 32 := Scalar.extui v190
  let c0_i32_110 : BitVec 32 := 0#32
  let v192 : BitVec 1 := Scalar.cmpi .ne v191 c0_i32_110
  v192

def k0_off30 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_95 : BitVec 32 := 1#32
  let v167 : BitVec 32 := Scalar.addi v19 c1_i32_95
  let c4_i32_96 : BitVec 32 := 4#32
  let v168 : BitVec 32 := Scalar.remsi v167 c4_i32_96
  let c4_i32_107 : BitVec 32 := 4#32
  let v185 : BitVec 32 := Scalar.muli v168 c4_i32_107
  let c0_i32_108 : BitVec 32 := 0#32
  let v186 : BitVec 32 := Scalar.addi v185 c0_i32_108
  ![v186.toNat]
def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 2 → Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_377 : BitVec 32 := 256#32
  let v568 : BitVec 32 := Scalar.muli v2 c256_i32_377
  ![0, v568.toNat]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_95 : BitVec 32 := 1#32
  let v167 : BitVec 32 := Scalar.addi v19 c1_i32_95
  let c4_i32_96 : BitVec 32 := 4#32
  let v168 : BitVec 32 := Scalar.remsi v167 c4_i32_96
  let c4_i32_107 : BitVec 32 := 4#32
  let v185 : BitVec 32 := Scalar.muli v168 c4_i32_107
  let c0_i32_108 : BitVec 32 := 0#32
  let v186 : BitVec 32 := Scalar.addi v185 c0_i32_108
  let c256_i32 : BitVec 32 := 256#32
  let v567 : BitVec 32 := Scalar.muli v186 c256_i32
  let c0_i32_381 : BitVec 32 := 0#32
  ![v567.toNat, 0]
def k0_dev21 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_95 : BitVec 32 := 1#32
  let v167 : BitVec 32 := Scalar.addi v19 c1_i32_95
  let c4_i32_96 : BitVec 32 := 4#32
  let v168 : BitVec 32 := Scalar.remsi v167 c4_i32_96
  let c4_i32_107 : BitVec 32 := 4#32
  let v185 : BitVec 32 := Scalar.muli v168 c4_i32_107
  let c0_i32_108 : BitVec 32 := 0#32
  let v186 : BitVec 32 := Scalar.addi v185 c0_i32_108
  let c1_i32_378 : BitVec 32 := 1#32
  let v569 : BitVec 32 := Scalar.muli v186 c1_i32_378
  let v570 : BitVec 32 := Scalar.addi c0_i32_379 v569
  v570.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_95 : BitVec 32 := 1#32
  let v167 : BitVec 32 := Scalar.addi v19 c1_i32_95
  let c4_i32_96 : BitVec 32 := 4#32
  let v168 : BitVec 32 := Scalar.remsi v167 c4_i32_96
  let c4_i32_111 : BitVec 32 := 4#32
  let v193 : BitVec 32 := Scalar.muli v168 c4_i32_111
  let c1_i32_112 : BitVec 32 := 1#32
  let v194 : BitVec 32 := Scalar.addi v193 c1_i32_112
  let v195 : BitVec 1 := Scalar.cmpi .eq v194 v2
  let v196 : BitVec 32 := Scalar.extui v195
  let c0_i32_113 : BitVec 32 := 0#32
  let v197 : BitVec 1 := Scalar.cmpi .ne v196 c0_i32_113
  v197

def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  let v568 : Index := Scalar.indexCast v567
  let c0_377 : Index := 0#32
  ![v568.toNat, 0]
def k0_off35 (d0 : Dev nD) : Fin 2 → Nat :=
  let c0_379 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_378 : BitVec 32 := 256#32
  let v570 : BitVec 32 := Scalar.muli v2 c256_i32_378
  let v571 : Index := Scalar.indexCast v570
  ![0, v571.toNat]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_95 : BitVec 32 := 1#32
  let v167 : BitVec 32 := Scalar.addi v19 c1_i32_95
  let c4_i32_96 : BitVec 32 := 4#32
  let v168 : BitVec 32 := Scalar.remsi v167 c4_i32_96
  let c4_i32_111 : BitVec 32 := 4#32
  let v193 : BitVec 32 := Scalar.muli v168 c4_i32_111
  let c1_i32_112 : BitVec 32 := 1#32
  let v194 : BitVec 32 := Scalar.addi v193 c1_i32_112
  let v198 : BitVec 1 := Scalar.cmpi .ne v194 v2
  let v199 : BitVec 32 := Scalar.extui v198
  let c0_i32_114 : BitVec 32 := 0#32
  let v200 : BitVec 1 := Scalar.cmpi .ne v199 c0_i32_114
  v200

def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_95 : BitVec 32 := 1#32
  let v167 : BitVec 32 := Scalar.addi v19 c1_i32_95
  let c4_i32_96 : BitVec 32 := 4#32
  let v168 : BitVec 32 := Scalar.remsi v167 c4_i32_96
  let c4_i32_111 : BitVec 32 := 4#32
  let v193 : BitVec 32 := Scalar.muli v168 c4_i32_111
  let c1_i32_112 : BitVec 32 := 1#32
  let v194 : BitVec 32 := Scalar.addi v193 c1_i32_112
  ![v194.toNat]
def k0_off37 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off38 (d0 : Dev nD) : Fin 2 → Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_377 : BitVec 32 := 256#32
  let v568 : BitVec 32 := Scalar.muli v2 c256_i32_377
  ![0, v568.toNat]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_95 : BitVec 32 := 1#32
  let v167 : BitVec 32 := Scalar.addi v19 c1_i32_95
  let c4_i32_96 : BitVec 32 := 4#32
  let v168 : BitVec 32 := Scalar.remsi v167 c4_i32_96
  let c4_i32_111 : BitVec 32 := 4#32
  let v193 : BitVec 32 := Scalar.muli v168 c4_i32_111
  let c1_i32_112 : BitVec 32 := 1#32
  let v194 : BitVec 32 := Scalar.addi v193 c1_i32_112
  let c256_i32 : BitVec 32 := 256#32
  let v567 : BitVec 32 := Scalar.muli v194 c256_i32
  let c0_i32_381 : BitVec 32 := 0#32
  ![v567.toNat, 0]
def k0_dev22 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_95 : BitVec 32 := 1#32
  let v167 : BitVec 32 := Scalar.addi v19 c1_i32_95
  let c4_i32_96 : BitVec 32 := 4#32
  let v168 : BitVec 32 := Scalar.remsi v167 c4_i32_96
  let c4_i32_111 : BitVec 32 := 4#32
  let v193 : BitVec 32 := Scalar.muli v168 c4_i32_111
  let c1_i32_112 : BitVec 32 := 1#32
  let v194 : BitVec 32 := Scalar.addi v193 c1_i32_112
  let c1_i32_378 : BitVec 32 := 1#32
  let v569 : BitVec 32 := Scalar.muli v194 c1_i32_378
  let v570 : BitVec 32 := Scalar.addi c0_i32_379 v569
  v570.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_95 : BitVec 32 := 1#32
  let v167 : BitVec 32 := Scalar.addi v19 c1_i32_95
  let c4_i32_96 : BitVec 32 := 4#32
  let v168 : BitVec 32 := Scalar.remsi v167 c4_i32_96
  let c4_i32_115 : BitVec 32 := 4#32
  let v201 : BitVec 32 := Scalar.muli v168 c4_i32_115
  let c2_i32_116 : BitVec 32 := 2#32
  let v202 : BitVec 32 := Scalar.addi v201 c2_i32_116
  let v203 : BitVec 1 := Scalar.cmpi .eq v202 v2
  let v204 : BitVec 32 := Scalar.extui v203
  let c0_i32_117 : BitVec 32 := 0#32
  let v205 : BitVec 1 := Scalar.cmpi .ne v204 c0_i32_117
  v205

def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  let v568 : Index := Scalar.indexCast v567
  let c0_377 : Index := 0#32
  ![v568.toNat, 0]
def k0_off41 (d0 : Dev nD) : Fin 2 → Nat :=
  let c0_379 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_378 : BitVec 32 := 256#32
  let v570 : BitVec 32 := Scalar.muli v2 c256_i32_378
  let v571 : Index := Scalar.indexCast v570
  ![0, v571.toNat]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_95 : BitVec 32 := 1#32
  let v167 : BitVec 32 := Scalar.addi v19 c1_i32_95
  let c4_i32_96 : BitVec 32 := 4#32
  let v168 : BitVec 32 := Scalar.remsi v167 c4_i32_96
  let c4_i32_115 : BitVec 32 := 4#32
  let v201 : BitVec 32 := Scalar.muli v168 c4_i32_115
  let c2_i32_116 : BitVec 32 := 2#32
  let v202 : BitVec 32 := Scalar.addi v201 c2_i32_116
  let v206 : BitVec 1 := Scalar.cmpi .ne v202 v2
  let v207 : BitVec 32 := Scalar.extui v206
  let c0_i32_118 : BitVec 32 := 0#32
  let v208 : BitVec 1 := Scalar.cmpi .ne v207 c0_i32_118
  v208

def k0_off42 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_95 : BitVec 32 := 1#32
  let v167 : BitVec 32 := Scalar.addi v19 c1_i32_95
  let c4_i32_96 : BitVec 32 := 4#32
  let v168 : BitVec 32 := Scalar.remsi v167 c4_i32_96
  let c4_i32_115 : BitVec 32 := 4#32
  let v201 : BitVec 32 := Scalar.muli v168 c4_i32_115
  let c2_i32_116 : BitVec 32 := 2#32
  let v202 : BitVec 32 := Scalar.addi v201 c2_i32_116
  ![v202.toNat]
def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off44 (d0 : Dev nD) : Fin 2 → Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_377 : BitVec 32 := 256#32
  let v568 : BitVec 32 := Scalar.muli v2 c256_i32_377
  ![0, v568.toNat]
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_95 : BitVec 32 := 1#32
  let v167 : BitVec 32 := Scalar.addi v19 c1_i32_95
  let c4_i32_96 : BitVec 32 := 4#32
  let v168 : BitVec 32 := Scalar.remsi v167 c4_i32_96
  let c4_i32_115 : BitVec 32 := 4#32
  let v201 : BitVec 32 := Scalar.muli v168 c4_i32_115
  let c2_i32_116 : BitVec 32 := 2#32
  let v202 : BitVec 32 := Scalar.addi v201 c2_i32_116
  let c256_i32 : BitVec 32 := 256#32
  let v567 : BitVec 32 := Scalar.muli v202 c256_i32
  let c0_i32_381 : BitVec 32 := 0#32
  ![v567.toNat, 0]
def k0_dev23 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_95 : BitVec 32 := 1#32
  let v167 : BitVec 32 := Scalar.addi v19 c1_i32_95
  let c4_i32_96 : BitVec 32 := 4#32
  let v168 : BitVec 32 := Scalar.remsi v167 c4_i32_96
  let c4_i32_115 : BitVec 32 := 4#32
  let v201 : BitVec 32 := Scalar.muli v168 c4_i32_115
  let c2_i32_116 : BitVec 32 := 2#32
  let v202 : BitVec 32 := Scalar.addi v201 c2_i32_116
  let c1_i32_378 : BitVec 32 := 1#32
  let v569 : BitVec 32 := Scalar.muli v202 c1_i32_378
  let v570 : BitVec 32 := Scalar.addi c0_i32_379 v569
  v570.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_95 : BitVec 32 := 1#32
  let v167 : BitVec 32 := Scalar.addi v19 c1_i32_95
  let c4_i32_96 : BitVec 32 := 4#32
  let v168 : BitVec 32 := Scalar.remsi v167 c4_i32_96
  let c4_i32_119 : BitVec 32 := 4#32
  let v209 : BitVec 32 := Scalar.muli v168 c4_i32_119
  let c3_i32_120 : BitVec 32 := 3#32
  let v210 : BitVec 32 := Scalar.addi v209 c3_i32_120
  let v211 : BitVec 1 := Scalar.cmpi .eq v210 v2
  let v212 : BitVec 32 := Scalar.extui v211
  let c0_i32_121 : BitVec 32 := 0#32
  let v213 : BitVec 1 := Scalar.cmpi .ne v212 c0_i32_121
  v213

def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  let v568 : Index := Scalar.indexCast v567
  let c0_377 : Index := 0#32
  ![v568.toNat, 0]
def k0_off47 (d0 : Dev nD) : Fin 2 → Nat :=
  let c0_379 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_378 : BitVec 32 := 256#32
  let v570 : BitVec 32 := Scalar.muli v2 c256_i32_378
  let v571 : Index := Scalar.indexCast v570
  ![0, v571.toNat]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_95 : BitVec 32 := 1#32
  let v167 : BitVec 32 := Scalar.addi v19 c1_i32_95
  let c4_i32_96 : BitVec 32 := 4#32
  let v168 : BitVec 32 := Scalar.remsi v167 c4_i32_96
  let c4_i32_119 : BitVec 32 := 4#32
  let v209 : BitVec 32 := Scalar.muli v168 c4_i32_119
  let c3_i32_120 : BitVec 32 := 3#32
  let v210 : BitVec 32 := Scalar.addi v209 c3_i32_120
  let v214 : BitVec 1 := Scalar.cmpi .ne v210 v2
  let v215 : BitVec 32 := Scalar.extui v214
  let c0_i32_122 : BitVec 32 := 0#32
  let v216 : BitVec 1 := Scalar.cmpi .ne v215 c0_i32_122
  v216

def k0_off48 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_95 : BitVec 32 := 1#32
  let v167 : BitVec 32 := Scalar.addi v19 c1_i32_95
  let c4_i32_96 : BitVec 32 := 4#32
  let v168 : BitVec 32 := Scalar.remsi v167 c4_i32_96
  let c4_i32_119 : BitVec 32 := 4#32
  let v209 : BitVec 32 := Scalar.muli v168 c4_i32_119
  let c3_i32_120 : BitVec 32 := 3#32
  let v210 : BitVec 32 := Scalar.addi v209 c3_i32_120
  ![v210.toNat]
def k0_off49 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off50 (d0 : Dev nD) : Fin 2 → Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_377 : BitVec 32 := 256#32
  let v568 : BitVec 32 := Scalar.muli v2 c256_i32_377
  ![0, v568.toNat]
def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_95 : BitVec 32 := 1#32
  let v167 : BitVec 32 := Scalar.addi v19 c1_i32_95
  let c4_i32_96 : BitVec 32 := 4#32
  let v168 : BitVec 32 := Scalar.remsi v167 c4_i32_96
  let c4_i32_119 : BitVec 32 := 4#32
  let v209 : BitVec 32 := Scalar.muli v168 c4_i32_119
  let c3_i32_120 : BitVec 32 := 3#32
  let v210 : BitVec 32 := Scalar.addi v209 c3_i32_120
  let c256_i32 : BitVec 32 := 256#32
  let v567 : BitVec 32 := Scalar.muli v210 c256_i32
  let c0_i32_381 : BitVec 32 := 0#32
  ![v567.toNat, 0]
def k0_dev24 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_95 : BitVec 32 := 1#32
  let v167 : BitVec 32 := Scalar.addi v19 c1_i32_95
  let c4_i32_96 : BitVec 32 := 4#32
  let v168 : BitVec 32 := Scalar.remsi v167 c4_i32_96
  let c4_i32_119 : BitVec 32 := 4#32
  let v209 : BitVec 32 := Scalar.muli v168 c4_i32_119
  let c3_i32_120 : BitVec 32 := 3#32
  let v210 : BitVec 32 := Scalar.addi v209 c3_i32_120
  let c1_i32_378 : BitVec 32 := 1#32
  let v569 : BitVec 32 := Scalar.muli v210 c1_i32_378
  let v570 : BitVec 32 := Scalar.addi c0_i32_379 v569
  v570.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_123 : BitVec 32 := 2#32
  let v217 : BitVec 32 := Scalar.addi v19 c2_i32_123
  let c4_i32_124 : BitVec 32 := 4#32
  let v218 : BitVec 32 := Scalar.remsi v217 c4_i32_124
  let c4_i32_135 : BitVec 32 := 4#32
  let v235 : BitVec 32 := Scalar.muli v218 c4_i32_135
  let c0_i32_136 : BitVec 32 := 0#32
  let v236 : BitVec 32 := Scalar.addi v235 c0_i32_136
  let v237 : BitVec 1 := Scalar.cmpi .eq v236 v2
  let v238 : BitVec 32 := Scalar.extui v237
  let c0_i32_137 : BitVec 32 := 0#32
  let v239 : BitVec 1 := Scalar.cmpi .ne v238 c0_i32_137
  v239

def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  let v568 : Index := Scalar.indexCast v567
  let c0_377 : Index := 0#32
  ![v568.toNat, 0]
def k0_off53 (d0 : Dev nD) : Fin 2 → Nat :=
  let c0_379 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_378 : BitVec 32 := 256#32
  let v570 : BitVec 32 := Scalar.muli v2 c256_i32_378
  let v571 : Index := Scalar.indexCast v570
  ![0, v571.toNat]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_123 : BitVec 32 := 2#32
  let v217 : BitVec 32 := Scalar.addi v19 c2_i32_123
  let c4_i32_124 : BitVec 32 := 4#32
  let v218 : BitVec 32 := Scalar.remsi v217 c4_i32_124
  let c4_i32_135 : BitVec 32 := 4#32
  let v235 : BitVec 32 := Scalar.muli v218 c4_i32_135
  let c0_i32_136 : BitVec 32 := 0#32
  let v236 : BitVec 32 := Scalar.addi v235 c0_i32_136
  let v240 : BitVec 1 := Scalar.cmpi .ne v236 v2
  let v241 : BitVec 32 := Scalar.extui v240
  let c0_i32_138 : BitVec 32 := 0#32
  let v242 : BitVec 1 := Scalar.cmpi .ne v241 c0_i32_138
  v242

def k0_off54 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_123 : BitVec 32 := 2#32
  let v217 : BitVec 32 := Scalar.addi v19 c2_i32_123
  let c4_i32_124 : BitVec 32 := 4#32
  let v218 : BitVec 32 := Scalar.remsi v217 c4_i32_124
  let c4_i32_135 : BitVec 32 := 4#32
  let v235 : BitVec 32 := Scalar.muli v218 c4_i32_135
  let c0_i32_136 : BitVec 32 := 0#32
  let v236 : BitVec 32 := Scalar.addi v235 c0_i32_136
  ![v236.toNat]
def k0_off55 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off56 (d0 : Dev nD) : Fin 2 → Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_377 : BitVec 32 := 256#32
  let v568 : BitVec 32 := Scalar.muli v2 c256_i32_377
  ![0, v568.toNat]
def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_123 : BitVec 32 := 2#32
  let v217 : BitVec 32 := Scalar.addi v19 c2_i32_123
  let c4_i32_124 : BitVec 32 := 4#32
  let v218 : BitVec 32 := Scalar.remsi v217 c4_i32_124
  let c4_i32_135 : BitVec 32 := 4#32
  let v235 : BitVec 32 := Scalar.muli v218 c4_i32_135
  let c0_i32_136 : BitVec 32 := 0#32
  let v236 : BitVec 32 := Scalar.addi v235 c0_i32_136
  let c256_i32 : BitVec 32 := 256#32
  let v567 : BitVec 32 := Scalar.muli v236 c256_i32
  let c0_i32_381 : BitVec 32 := 0#32
  ![v567.toNat, 0]
def k0_dev25 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_123 : BitVec 32 := 2#32
  let v217 : BitVec 32 := Scalar.addi v19 c2_i32_123
  let c4_i32_124 : BitVec 32 := 4#32
  let v218 : BitVec 32 := Scalar.remsi v217 c4_i32_124
  let c4_i32_135 : BitVec 32 := 4#32
  let v235 : BitVec 32 := Scalar.muli v218 c4_i32_135
  let c0_i32_136 : BitVec 32 := 0#32
  let v236 : BitVec 32 := Scalar.addi v235 c0_i32_136
  let c1_i32_378 : BitVec 32 := 1#32
  let v569 : BitVec 32 := Scalar.muli v236 c1_i32_378
  let v570 : BitVec 32 := Scalar.addi c0_i32_379 v569
  v570.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_123 : BitVec 32 := 2#32
  let v217 : BitVec 32 := Scalar.addi v19 c2_i32_123
  let c4_i32_124 : BitVec 32 := 4#32
  let v218 : BitVec 32 := Scalar.remsi v217 c4_i32_124
  let c4_i32_139 : BitVec 32 := 4#32
  let v243 : BitVec 32 := Scalar.muli v218 c4_i32_139
  let c1_i32_140 : BitVec 32 := 1#32
  let v244 : BitVec 32 := Scalar.addi v243 c1_i32_140
  let v245 : BitVec 1 := Scalar.cmpi .eq v244 v2
  let v246 : BitVec 32 := Scalar.extui v245
  let c0_i32_141 : BitVec 32 := 0#32
  let v247 : BitVec 1 := Scalar.cmpi .ne v246 c0_i32_141
  v247

def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  let v568 : Index := Scalar.indexCast v567
  let c0_377 : Index := 0#32
  ![v568.toNat, 0]
def k0_off59 (d0 : Dev nD) : Fin 2 → Nat :=
  let c0_379 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_378 : BitVec 32 := 256#32
  let v570 : BitVec 32 := Scalar.muli v2 c256_i32_378
  let v571 : Index := Scalar.indexCast v570
  ![0, v571.toNat]
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_123 : BitVec 32 := 2#32
  let v217 : BitVec 32 := Scalar.addi v19 c2_i32_123
  let c4_i32_124 : BitVec 32 := 4#32
  let v218 : BitVec 32 := Scalar.remsi v217 c4_i32_124
  let c4_i32_139 : BitVec 32 := 4#32
  let v243 : BitVec 32 := Scalar.muli v218 c4_i32_139
  let c1_i32_140 : BitVec 32 := 1#32
  let v244 : BitVec 32 := Scalar.addi v243 c1_i32_140
  let v248 : BitVec 1 := Scalar.cmpi .ne v244 v2
  let v249 : BitVec 32 := Scalar.extui v248
  let c0_i32_142 : BitVec 32 := 0#32
  let v250 : BitVec 1 := Scalar.cmpi .ne v249 c0_i32_142
  v250

def k0_off60 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_123 : BitVec 32 := 2#32
  let v217 : BitVec 32 := Scalar.addi v19 c2_i32_123
  let c4_i32_124 : BitVec 32 := 4#32
  let v218 : BitVec 32 := Scalar.remsi v217 c4_i32_124
  let c4_i32_139 : BitVec 32 := 4#32
  let v243 : BitVec 32 := Scalar.muli v218 c4_i32_139
  let c1_i32_140 : BitVec 32 := 1#32
  let v244 : BitVec 32 := Scalar.addi v243 c1_i32_140
  ![v244.toNat]
def k0_off61 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off62 (d0 : Dev nD) : Fin 2 → Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_377 : BitVec 32 := 256#32
  let v568 : BitVec 32 := Scalar.muli v2 c256_i32_377
  ![0, v568.toNat]
def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_123 : BitVec 32 := 2#32
  let v217 : BitVec 32 := Scalar.addi v19 c2_i32_123
  let c4_i32_124 : BitVec 32 := 4#32
  let v218 : BitVec 32 := Scalar.remsi v217 c4_i32_124
  let c4_i32_139 : BitVec 32 := 4#32
  let v243 : BitVec 32 := Scalar.muli v218 c4_i32_139
  let c1_i32_140 : BitVec 32 := 1#32
  let v244 : BitVec 32 := Scalar.addi v243 c1_i32_140
  let c256_i32 : BitVec 32 := 256#32
  let v567 : BitVec 32 := Scalar.muli v244 c256_i32
  let c0_i32_381 : BitVec 32 := 0#32
  ![v567.toNat, 0]
def k0_dev26 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_123 : BitVec 32 := 2#32
  let v217 : BitVec 32 := Scalar.addi v19 c2_i32_123
  let c4_i32_124 : BitVec 32 := 4#32
  let v218 : BitVec 32 := Scalar.remsi v217 c4_i32_124
  let c4_i32_139 : BitVec 32 := 4#32
  let v243 : BitVec 32 := Scalar.muli v218 c4_i32_139
  let c1_i32_140 : BitVec 32 := 1#32
  let v244 : BitVec 32 := Scalar.addi v243 c1_i32_140
  let c1_i32_378 : BitVec 32 := 1#32
  let v569 : BitVec 32 := Scalar.muli v244 c1_i32_378
  let v570 : BitVec 32 := Scalar.addi c0_i32_379 v569
  v570.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_123 : BitVec 32 := 2#32
  let v217 : BitVec 32 := Scalar.addi v19 c2_i32_123
  let c4_i32_124 : BitVec 32 := 4#32
  let v218 : BitVec 32 := Scalar.remsi v217 c4_i32_124
  let c4_i32_143 : BitVec 32 := 4#32
  let v251 : BitVec 32 := Scalar.muli v218 c4_i32_143
  let c2_i32_144 : BitVec 32 := 2#32
  let v252 : BitVec 32 := Scalar.addi v251 c2_i32_144
  let v253 : BitVec 1 := Scalar.cmpi .eq v252 v2
  let v254 : BitVec 32 := Scalar.extui v253
  let c0_i32_145 : BitVec 32 := 0#32
  let v255 : BitVec 1 := Scalar.cmpi .ne v254 c0_i32_145
  v255

def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  let v568 : Index := Scalar.indexCast v567
  let c0_377 : Index := 0#32
  ![v568.toNat, 0]
def k0_off65 (d0 : Dev nD) : Fin 2 → Nat :=
  let c0_379 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_378 : BitVec 32 := 256#32
  let v570 : BitVec 32 := Scalar.muli v2 c256_i32_378
  let v571 : Index := Scalar.indexCast v570
  ![0, v571.toNat]
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_123 : BitVec 32 := 2#32
  let v217 : BitVec 32 := Scalar.addi v19 c2_i32_123
  let c4_i32_124 : BitVec 32 := 4#32
  let v218 : BitVec 32 := Scalar.remsi v217 c4_i32_124
  let c4_i32_143 : BitVec 32 := 4#32
  let v251 : BitVec 32 := Scalar.muli v218 c4_i32_143
  let c2_i32_144 : BitVec 32 := 2#32
  let v252 : BitVec 32 := Scalar.addi v251 c2_i32_144
  let v256 : BitVec 1 := Scalar.cmpi .ne v252 v2
  let v257 : BitVec 32 := Scalar.extui v256
  let c0_i32_146 : BitVec 32 := 0#32
  let v258 : BitVec 1 := Scalar.cmpi .ne v257 c0_i32_146
  v258

def k0_off66 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_123 : BitVec 32 := 2#32
  let v217 : BitVec 32 := Scalar.addi v19 c2_i32_123
  let c4_i32_124 : BitVec 32 := 4#32
  let v218 : BitVec 32 := Scalar.remsi v217 c4_i32_124
  let c4_i32_143 : BitVec 32 := 4#32
  let v251 : BitVec 32 := Scalar.muli v218 c4_i32_143
  let c2_i32_144 : BitVec 32 := 2#32
  let v252 : BitVec 32 := Scalar.addi v251 c2_i32_144
  ![v252.toNat]
def k0_off67 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off68 (d0 : Dev nD) : Fin 2 → Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_377 : BitVec 32 := 256#32
  let v568 : BitVec 32 := Scalar.muli v2 c256_i32_377
  ![0, v568.toNat]
def k0_off69 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_123 : BitVec 32 := 2#32
  let v217 : BitVec 32 := Scalar.addi v19 c2_i32_123
  let c4_i32_124 : BitVec 32 := 4#32
  let v218 : BitVec 32 := Scalar.remsi v217 c4_i32_124
  let c4_i32_143 : BitVec 32 := 4#32
  let v251 : BitVec 32 := Scalar.muli v218 c4_i32_143
  let c2_i32_144 : BitVec 32 := 2#32
  let v252 : BitVec 32 := Scalar.addi v251 c2_i32_144
  let c256_i32 : BitVec 32 := 256#32
  let v567 : BitVec 32 := Scalar.muli v252 c256_i32
  let c0_i32_381 : BitVec 32 := 0#32
  ![v567.toNat, 0]
def k0_dev27 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_123 : BitVec 32 := 2#32
  let v217 : BitVec 32 := Scalar.addi v19 c2_i32_123
  let c4_i32_124 : BitVec 32 := 4#32
  let v218 : BitVec 32 := Scalar.remsi v217 c4_i32_124
  let c4_i32_143 : BitVec 32 := 4#32
  let v251 : BitVec 32 := Scalar.muli v218 c4_i32_143
  let c2_i32_144 : BitVec 32 := 2#32
  let v252 : BitVec 32 := Scalar.addi v251 c2_i32_144
  let c1_i32_378 : BitVec 32 := 1#32
  let v569 : BitVec 32 := Scalar.muli v252 c1_i32_378
  let v570 : BitVec 32 := Scalar.addi c0_i32_379 v569
  v570.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_123 : BitVec 32 := 2#32
  let v217 : BitVec 32 := Scalar.addi v19 c2_i32_123
  let c4_i32_124 : BitVec 32 := 4#32
  let v218 : BitVec 32 := Scalar.remsi v217 c4_i32_124
  let c4_i32_147 : BitVec 32 := 4#32
  let v259 : BitVec 32 := Scalar.muli v218 c4_i32_147
  let c3_i32_148 : BitVec 32 := 3#32
  let v260 : BitVec 32 := Scalar.addi v259 c3_i32_148
  let v261 : BitVec 1 := Scalar.cmpi .eq v260 v2
  let v262 : BitVec 32 := Scalar.extui v261
  let c0_i32_149 : BitVec 32 := 0#32
  let v263 : BitVec 1 := Scalar.cmpi .ne v262 c0_i32_149
  v263

def k0_off70 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  let v568 : Index := Scalar.indexCast v567
  let c0_377 : Index := 0#32
  ![v568.toNat, 0]
def k0_off71 (d0 : Dev nD) : Fin 2 → Nat :=
  let c0_379 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_378 : BitVec 32 := 256#32
  let v570 : BitVec 32 := Scalar.muli v2 c256_i32_378
  let v571 : Index := Scalar.indexCast v570
  ![0, v571.toNat]
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_123 : BitVec 32 := 2#32
  let v217 : BitVec 32 := Scalar.addi v19 c2_i32_123
  let c4_i32_124 : BitVec 32 := 4#32
  let v218 : BitVec 32 := Scalar.remsi v217 c4_i32_124
  let c4_i32_147 : BitVec 32 := 4#32
  let v259 : BitVec 32 := Scalar.muli v218 c4_i32_147
  let c3_i32_148 : BitVec 32 := 3#32
  let v260 : BitVec 32 := Scalar.addi v259 c3_i32_148
  let v264 : BitVec 1 := Scalar.cmpi .ne v260 v2
  let v265 : BitVec 32 := Scalar.extui v264
  let c0_i32_150 : BitVec 32 := 0#32
  let v266 : BitVec 1 := Scalar.cmpi .ne v265 c0_i32_150
  v266

def k0_off72 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_123 : BitVec 32 := 2#32
  let v217 : BitVec 32 := Scalar.addi v19 c2_i32_123
  let c4_i32_124 : BitVec 32 := 4#32
  let v218 : BitVec 32 := Scalar.remsi v217 c4_i32_124
  let c4_i32_147 : BitVec 32 := 4#32
  let v259 : BitVec 32 := Scalar.muli v218 c4_i32_147
  let c3_i32_148 : BitVec 32 := 3#32
  let v260 : BitVec 32 := Scalar.addi v259 c3_i32_148
  ![v260.toNat]
def k0_off73 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off74 (d0 : Dev nD) : Fin 2 → Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_377 : BitVec 32 := 256#32
  let v568 : BitVec 32 := Scalar.muli v2 c256_i32_377
  ![0, v568.toNat]
def k0_off75 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_123 : BitVec 32 := 2#32
  let v217 : BitVec 32 := Scalar.addi v19 c2_i32_123
  let c4_i32_124 : BitVec 32 := 4#32
  let v218 : BitVec 32 := Scalar.remsi v217 c4_i32_124
  let c4_i32_147 : BitVec 32 := 4#32
  let v259 : BitVec 32 := Scalar.muli v218 c4_i32_147
  let c3_i32_148 : BitVec 32 := 3#32
  let v260 : BitVec 32 := Scalar.addi v259 c3_i32_148
  let c256_i32 : BitVec 32 := 256#32
  let v567 : BitVec 32 := Scalar.muli v260 c256_i32
  let c0_i32_381 : BitVec 32 := 0#32
  ![v567.toNat, 0]
def k0_dev28 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_123 : BitVec 32 := 2#32
  let v217 : BitVec 32 := Scalar.addi v19 c2_i32_123
  let c4_i32_124 : BitVec 32 := 4#32
  let v218 : BitVec 32 := Scalar.remsi v217 c4_i32_124
  let c4_i32_147 : BitVec 32 := 4#32
  let v259 : BitVec 32 := Scalar.muli v218 c4_i32_147
  let c3_i32_148 : BitVec 32 := 3#32
  let v260 : BitVec 32 := Scalar.addi v259 c3_i32_148
  let c1_i32_378 : BitVec 32 := 1#32
  let v569 : BitVec 32 := Scalar.muli v260 c1_i32_378
  let v570 : BitVec 32 := Scalar.addi c0_i32_379 v569
  v570.toNat
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_151 : BitVec 32 := 3#32
  let v267 : BitVec 32 := Scalar.addi v19 c3_i32_151
  let c4_i32_152 : BitVec 32 := 4#32
  let v268 : BitVec 32 := Scalar.remsi v267 c4_i32_152
  let c4_i32_163 : BitVec 32 := 4#32
  let v285 : BitVec 32 := Scalar.muli v268 c4_i32_163
  let c0_i32_164 : BitVec 32 := 0#32
  let v286 : BitVec 32 := Scalar.addi v285 c0_i32_164
  let v287 : BitVec 1 := Scalar.cmpi .eq v286 v2
  let v288 : BitVec 32 := Scalar.extui v287
  let c0_i32_165 : BitVec 32 := 0#32
  let v289 : BitVec 1 := Scalar.cmpi .ne v288 c0_i32_165
  v289

def k0_off76 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  let v568 : Index := Scalar.indexCast v567
  let c0_377 : Index := 0#32
  ![v568.toNat, 0]
def k0_off77 (d0 : Dev nD) : Fin 2 → Nat :=
  let c0_379 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_378 : BitVec 32 := 256#32
  let v570 : BitVec 32 := Scalar.muli v2 c256_i32_378
  let v571 : Index := Scalar.indexCast v570
  ![0, v571.toNat]
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_151 : BitVec 32 := 3#32
  let v267 : BitVec 32 := Scalar.addi v19 c3_i32_151
  let c4_i32_152 : BitVec 32 := 4#32
  let v268 : BitVec 32 := Scalar.remsi v267 c4_i32_152
  let c4_i32_163 : BitVec 32 := 4#32
  let v285 : BitVec 32 := Scalar.muli v268 c4_i32_163
  let c0_i32_164 : BitVec 32 := 0#32
  let v286 : BitVec 32 := Scalar.addi v285 c0_i32_164
  let v290 : BitVec 1 := Scalar.cmpi .ne v286 v2
  let v291 : BitVec 32 := Scalar.extui v290
  let c0_i32_166 : BitVec 32 := 0#32
  let v292 : BitVec 1 := Scalar.cmpi .ne v291 c0_i32_166
  v292

def k0_off78 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_151 : BitVec 32 := 3#32
  let v267 : BitVec 32 := Scalar.addi v19 c3_i32_151
  let c4_i32_152 : BitVec 32 := 4#32
  let v268 : BitVec 32 := Scalar.remsi v267 c4_i32_152
  let c4_i32_163 : BitVec 32 := 4#32
  let v285 : BitVec 32 := Scalar.muli v268 c4_i32_163
  let c0_i32_164 : BitVec 32 := 0#32
  let v286 : BitVec 32 := Scalar.addi v285 c0_i32_164
  ![v286.toNat]
def k0_off79 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off80 (d0 : Dev nD) : Fin 2 → Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_377 : BitVec 32 := 256#32
  let v568 : BitVec 32 := Scalar.muli v2 c256_i32_377
  ![0, v568.toNat]
def k0_off81 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_151 : BitVec 32 := 3#32
  let v267 : BitVec 32 := Scalar.addi v19 c3_i32_151
  let c4_i32_152 : BitVec 32 := 4#32
  let v268 : BitVec 32 := Scalar.remsi v267 c4_i32_152
  let c4_i32_163 : BitVec 32 := 4#32
  let v285 : BitVec 32 := Scalar.muli v268 c4_i32_163
  let c0_i32_164 : BitVec 32 := 0#32
  let v286 : BitVec 32 := Scalar.addi v285 c0_i32_164
  let c256_i32 : BitVec 32 := 256#32
  let v567 : BitVec 32 := Scalar.muli v286 c256_i32
  let c0_i32_381 : BitVec 32 := 0#32
  ![v567.toNat, 0]
def k0_dev29 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_151 : BitVec 32 := 3#32
  let v267 : BitVec 32 := Scalar.addi v19 c3_i32_151
  let c4_i32_152 : BitVec 32 := 4#32
  let v268 : BitVec 32 := Scalar.remsi v267 c4_i32_152
  let c4_i32_163 : BitVec 32 := 4#32
  let v285 : BitVec 32 := Scalar.muli v268 c4_i32_163
  let c0_i32_164 : BitVec 32 := 0#32
  let v286 : BitVec 32 := Scalar.addi v285 c0_i32_164
  let c1_i32_378 : BitVec 32 := 1#32
  let v569 : BitVec 32 := Scalar.muli v286 c1_i32_378
  let v570 : BitVec 32 := Scalar.addi c0_i32_379 v569
  v570.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_151 : BitVec 32 := 3#32
  let v267 : BitVec 32 := Scalar.addi v19 c3_i32_151
  let c4_i32_152 : BitVec 32 := 4#32
  let v268 : BitVec 32 := Scalar.remsi v267 c4_i32_152
  let c4_i32_167 : BitVec 32 := 4#32
  let v293 : BitVec 32 := Scalar.muli v268 c4_i32_167
  let c1_i32_168 : BitVec 32 := 1#32
  let v294 : BitVec 32 := Scalar.addi v293 c1_i32_168
  let v295 : BitVec 1 := Scalar.cmpi .eq v294 v2
  let v296 : BitVec 32 := Scalar.extui v295
  let c0_i32_169 : BitVec 32 := 0#32
  let v297 : BitVec 1 := Scalar.cmpi .ne v296 c0_i32_169
  v297

def k0_off82 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  let v568 : Index := Scalar.indexCast v567
  let c0_377 : Index := 0#32
  ![v568.toNat, 0]
def k0_off83 (d0 : Dev nD) : Fin 2 → Nat :=
  let c0_379 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_378 : BitVec 32 := 256#32
  let v570 : BitVec 32 := Scalar.muli v2 c256_i32_378
  let v571 : Index := Scalar.indexCast v570
  ![0, v571.toNat]
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_151 : BitVec 32 := 3#32
  let v267 : BitVec 32 := Scalar.addi v19 c3_i32_151
  let c4_i32_152 : BitVec 32 := 4#32
  let v268 : BitVec 32 := Scalar.remsi v267 c4_i32_152
  let c4_i32_167 : BitVec 32 := 4#32
  let v293 : BitVec 32 := Scalar.muli v268 c4_i32_167
  let c1_i32_168 : BitVec 32 := 1#32
  let v294 : BitVec 32 := Scalar.addi v293 c1_i32_168
  let v298 : BitVec 1 := Scalar.cmpi .ne v294 v2
  let v299 : BitVec 32 := Scalar.extui v298
  let c0_i32_170 : BitVec 32 := 0#32
  let v300 : BitVec 1 := Scalar.cmpi .ne v299 c0_i32_170
  v300

def k0_off84 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_151 : BitVec 32 := 3#32
  let v267 : BitVec 32 := Scalar.addi v19 c3_i32_151
  let c4_i32_152 : BitVec 32 := 4#32
  let v268 : BitVec 32 := Scalar.remsi v267 c4_i32_152
  let c4_i32_167 : BitVec 32 := 4#32
  let v293 : BitVec 32 := Scalar.muli v268 c4_i32_167
  let c1_i32_168 : BitVec 32 := 1#32
  let v294 : BitVec 32 := Scalar.addi v293 c1_i32_168
  ![v294.toNat]
def k0_off85 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off86 (d0 : Dev nD) : Fin 2 → Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_377 : BitVec 32 := 256#32
  let v568 : BitVec 32 := Scalar.muli v2 c256_i32_377
  ![0, v568.toNat]
def k0_off87 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_151 : BitVec 32 := 3#32
  let v267 : BitVec 32 := Scalar.addi v19 c3_i32_151
  let c4_i32_152 : BitVec 32 := 4#32
  let v268 : BitVec 32 := Scalar.remsi v267 c4_i32_152
  let c4_i32_167 : BitVec 32 := 4#32
  let v293 : BitVec 32 := Scalar.muli v268 c4_i32_167
  let c1_i32_168 : BitVec 32 := 1#32
  let v294 : BitVec 32 := Scalar.addi v293 c1_i32_168
  let c256_i32 : BitVec 32 := 256#32
  let v567 : BitVec 32 := Scalar.muli v294 c256_i32
  let c0_i32_381 : BitVec 32 := 0#32
  ![v567.toNat, 0]
def k0_dev30 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_151 : BitVec 32 := 3#32
  let v267 : BitVec 32 := Scalar.addi v19 c3_i32_151
  let c4_i32_152 : BitVec 32 := 4#32
  let v268 : BitVec 32 := Scalar.remsi v267 c4_i32_152
  let c4_i32_167 : BitVec 32 := 4#32
  let v293 : BitVec 32 := Scalar.muli v268 c4_i32_167
  let c1_i32_168 : BitVec 32 := 1#32
  let v294 : BitVec 32 := Scalar.addi v293 c1_i32_168
  let c1_i32_378 : BitVec 32 := 1#32
  let v569 : BitVec 32 := Scalar.muli v294 c1_i32_378
  let v570 : BitVec 32 := Scalar.addi c0_i32_379 v569
  v570.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_151 : BitVec 32 := 3#32
  let v267 : BitVec 32 := Scalar.addi v19 c3_i32_151
  let c4_i32_152 : BitVec 32 := 4#32
  let v268 : BitVec 32 := Scalar.remsi v267 c4_i32_152
  let c4_i32_171 : BitVec 32 := 4#32
  let v301 : BitVec 32 := Scalar.muli v268 c4_i32_171
  let c2_i32_172 : BitVec 32 := 2#32
  let v302 : BitVec 32 := Scalar.addi v301 c2_i32_172
  let v303 : BitVec 1 := Scalar.cmpi .eq v302 v2
  let v304 : BitVec 32 := Scalar.extui v303
  let c0_i32_173 : BitVec 32 := 0#32
  let v305 : BitVec 1 := Scalar.cmpi .ne v304 c0_i32_173
  v305

def k0_off88 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  let v568 : Index := Scalar.indexCast v567
  let c0_377 : Index := 0#32
  ![v568.toNat, 0]
def k0_off89 (d0 : Dev nD) : Fin 2 → Nat :=
  let c0_379 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_378 : BitVec 32 := 256#32
  let v570 : BitVec 32 := Scalar.muli v2 c256_i32_378
  let v571 : Index := Scalar.indexCast v570
  ![0, v571.toNat]
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_151 : BitVec 32 := 3#32
  let v267 : BitVec 32 := Scalar.addi v19 c3_i32_151
  let c4_i32_152 : BitVec 32 := 4#32
  let v268 : BitVec 32 := Scalar.remsi v267 c4_i32_152
  let c4_i32_171 : BitVec 32 := 4#32
  let v301 : BitVec 32 := Scalar.muli v268 c4_i32_171
  let c2_i32_172 : BitVec 32 := 2#32
  let v302 : BitVec 32 := Scalar.addi v301 c2_i32_172
  let v306 : BitVec 1 := Scalar.cmpi .ne v302 v2
  let v307 : BitVec 32 := Scalar.extui v306
  let c0_i32_174 : BitVec 32 := 0#32
  let v308 : BitVec 1 := Scalar.cmpi .ne v307 c0_i32_174
  v308

def k0_off90 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_151 : BitVec 32 := 3#32
  let v267 : BitVec 32 := Scalar.addi v19 c3_i32_151
  let c4_i32_152 : BitVec 32 := 4#32
  let v268 : BitVec 32 := Scalar.remsi v267 c4_i32_152
  let c4_i32_171 : BitVec 32 := 4#32
  let v301 : BitVec 32 := Scalar.muli v268 c4_i32_171
  let c2_i32_172 : BitVec 32 := 2#32
  let v302 : BitVec 32 := Scalar.addi v301 c2_i32_172
  ![v302.toNat]
def k0_off91 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off92 (d0 : Dev nD) : Fin 2 → Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_377 : BitVec 32 := 256#32
  let v568 : BitVec 32 := Scalar.muli v2 c256_i32_377
  ![0, v568.toNat]
def k0_off93 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_151 : BitVec 32 := 3#32
  let v267 : BitVec 32 := Scalar.addi v19 c3_i32_151
  let c4_i32_152 : BitVec 32 := 4#32
  let v268 : BitVec 32 := Scalar.remsi v267 c4_i32_152
  let c4_i32_171 : BitVec 32 := 4#32
  let v301 : BitVec 32 := Scalar.muli v268 c4_i32_171
  let c2_i32_172 : BitVec 32 := 2#32
  let v302 : BitVec 32 := Scalar.addi v301 c2_i32_172
  let c256_i32 : BitVec 32 := 256#32
  let v567 : BitVec 32 := Scalar.muli v302 c256_i32
  let c0_i32_381 : BitVec 32 := 0#32
  ![v567.toNat, 0]
def k0_dev31 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_151 : BitVec 32 := 3#32
  let v267 : BitVec 32 := Scalar.addi v19 c3_i32_151
  let c4_i32_152 : BitVec 32 := 4#32
  let v268 : BitVec 32 := Scalar.remsi v267 c4_i32_152
  let c4_i32_171 : BitVec 32 := 4#32
  let v301 : BitVec 32 := Scalar.muli v268 c4_i32_171
  let c2_i32_172 : BitVec 32 := 2#32
  let v302 : BitVec 32 := Scalar.addi v301 c2_i32_172
  let c1_i32_378 : BitVec 32 := 1#32
  let v569 : BitVec 32 := Scalar.muli v302 c1_i32_378
  let v570 : BitVec 32 := Scalar.addi c0_i32_379 v569
  v570.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_151 : BitVec 32 := 3#32
  let v267 : BitVec 32 := Scalar.addi v19 c3_i32_151
  let c4_i32_152 : BitVec 32 := 4#32
  let v268 : BitVec 32 := Scalar.remsi v267 c4_i32_152
  let c4_i32_175 : BitVec 32 := 4#32
  let v309 : BitVec 32 := Scalar.muli v268 c4_i32_175
  let c3_i32_176 : BitVec 32 := 3#32
  let v310 : BitVec 32 := Scalar.addi v309 c3_i32_176
  let v311 : BitVec 1 := Scalar.cmpi .eq v310 v2
  let v312 : BitVec 32 := Scalar.extui v311
  let c0_i32_177 : BitVec 32 := 0#32
  let v313 : BitVec 1 := Scalar.cmpi .ne v312 c0_i32_177
  v313

def k0_off94 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  let v568 : Index := Scalar.indexCast v567
  let c0_377 : Index := 0#32
  ![v568.toNat, 0]
def k0_off95 (d0 : Dev nD) : Fin 2 → Nat :=
  let c0_379 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_378 : BitVec 32 := 256#32
  let v570 : BitVec 32 := Scalar.muli v2 c256_i32_378
  let v571 : Index := Scalar.indexCast v570
  ![0, v571.toNat]
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_151 : BitVec 32 := 3#32
  let v267 : BitVec 32 := Scalar.addi v19 c3_i32_151
  let c4_i32_152 : BitVec 32 := 4#32
  let v268 : BitVec 32 := Scalar.remsi v267 c4_i32_152
  let c4_i32_175 : BitVec 32 := 4#32
  let v309 : BitVec 32 := Scalar.muli v268 c4_i32_175
  let c3_i32_176 : BitVec 32 := 3#32
  let v310 : BitVec 32 := Scalar.addi v309 c3_i32_176
  let v314 : BitVec 1 := Scalar.cmpi .ne v310 v2
  let v315 : BitVec 32 := Scalar.extui v314
  let c0_i32_178 : BitVec 32 := 0#32
  let v316 : BitVec 1 := Scalar.cmpi .ne v315 c0_i32_178
  v316

def k0_off96 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_151 : BitVec 32 := 3#32
  let v267 : BitVec 32 := Scalar.addi v19 c3_i32_151
  let c4_i32_152 : BitVec 32 := 4#32
  let v268 : BitVec 32 := Scalar.remsi v267 c4_i32_152
  let c4_i32_175 : BitVec 32 := 4#32
  let v309 : BitVec 32 := Scalar.muli v268 c4_i32_175
  let c3_i32_176 : BitVec 32 := 3#32
  let v310 : BitVec 32 := Scalar.addi v309 c3_i32_176
  ![v310.toNat]
def k0_off97 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off98 (d0 : Dev nD) : Fin 2 → Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_377 : BitVec 32 := 256#32
  let v568 : BitVec 32 := Scalar.muli v2 c256_i32_377
  ![0, v568.toNat]
def k0_off99 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_151 : BitVec 32 := 3#32
  let v267 : BitVec 32 := Scalar.addi v19 c3_i32_151
  let c4_i32_152 : BitVec 32 := 4#32
  let v268 : BitVec 32 := Scalar.remsi v267 c4_i32_152
  let c4_i32_175 : BitVec 32 := 4#32
  let v309 : BitVec 32 := Scalar.muli v268 c4_i32_175
  let c3_i32_176 : BitVec 32 := 3#32
  let v310 : BitVec 32 := Scalar.addi v309 c3_i32_176
  let c256_i32 : BitVec 32 := 256#32
  let v567 : BitVec 32 := Scalar.muli v310 c256_i32
  let c0_i32_381 : BitVec 32 := 0#32
  ![v567.toNat, 0]
def k0_dev32 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_151 : BitVec 32 := 3#32
  let v267 : BitVec 32 := Scalar.addi v19 c3_i32_151
  let c4_i32_152 : BitVec 32 := 4#32
  let v268 : BitVec 32 := Scalar.remsi v267 c4_i32_152
  let c4_i32_175 : BitVec 32 := 4#32
  let v309 : BitVec 32 := Scalar.muli v268 c4_i32_175
  let c3_i32_176 : BitVec 32 := 3#32
  let v310 : BitVec 32 := Scalar.addi v309 c3_i32_176
  let c1_i32_378 : BitVec 32 := 1#32
  let v569 : BitVec 32 := Scalar.muli v310 c1_i32_378
  let v570 : BitVec 32 := Scalar.addi c0_i32_379 v569
  v570.toNat
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_181 : BitVec 32 := 0#32
  let v320 : BitVec 32 := Scalar.addi v19 c0_i32_181
  let c4_i32_182 : BitVec 32 := 4#32
  let v321 : BitVec 32 := Scalar.remsi v320 c4_i32_182
  let c4_i32_205 : BitVec 32 := 4#32
  let v344 : BitVec 32 := Scalar.muli v321 c4_i32_205
  let c0_i32_206 : BitVec 32 := 0#32
  let v345 : BitVec 32 := Scalar.addi v344 c0_i32_206
  let v346 : BitVec 1 := Scalar.cmpi .ne v345 v2
  let v347 : BitVec 32 := Scalar.extui v346
  let c0_i32_207 : BitVec 32 := 0#32
  let v348 : BitVec 1 := Scalar.cmpi .ne v347 c0_i32_207
  v348

def k0_off100 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_181 : BitVec 32 := 0#32
  let v320 : BitVec 32 := Scalar.addi v19 c0_i32_181
  let c4_i32_182 : BitVec 32 := 4#32
  let v321 : BitVec 32 := Scalar.remsi v320 c4_i32_182
  let c4_i32_205 : BitVec 32 := 4#32
  let v344 : BitVec 32 := Scalar.muli v321 c4_i32_205
  let c0_i32_206 : BitVec 32 := 0#32
  let v345 : BitVec 32 := Scalar.addi v344 c0_i32_206
  ![v345.toNat]
def k0_off101 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_181 : BitVec 32 := 0#32
  let v320 : BitVec 32 := Scalar.addi v19 c0_i32_181
  let c4_i32_182 : BitVec 32 := 4#32
  let v321 : BitVec 32 := Scalar.remsi v320 c4_i32_182
  let c4_i32_205 : BitVec 32 := 4#32
  let v344 : BitVec 32 := Scalar.muli v321 c4_i32_205
  let c0_i32_206 : BitVec 32 := 0#32
  let v345 : BitVec 32 := Scalar.addi v344 c0_i32_206
  let c256_i32_377 : BitVec 32 := 256#32
  let v568 : BitVec 32 := Scalar.muli v345 c256_i32_377
  ![0, v568.toNat]
def k0_off102 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_181 : BitVec 32 := 0#32
  let v320 : BitVec 32 := Scalar.addi v19 c0_i32_181
  let c4_i32_182 : BitVec 32 := 4#32
  let v321 : BitVec 32 := Scalar.remsi v320 c4_i32_182
  let c4_i32_205 : BitVec 32 := 4#32
  let v344 : BitVec 32 := Scalar.muli v321 c4_i32_205
  let c0_i32_206 : BitVec 32 := 0#32
  let v345 : BitVec 32 := Scalar.addi v344 c0_i32_206
  let c256_i32 : BitVec 32 := 256#32
  let v567 : BitVec 32 := Scalar.muli v345 c256_i32
  let c0_i32_382 : BitVec 32 := 0#32
  ![v567.toNat, 0]
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_181 : BitVec 32 := 0#32
  let v320 : BitVec 32 := Scalar.addi v19 c0_i32_181
  let c4_i32_182 : BitVec 32 := 4#32
  let v321 : BitVec 32 := Scalar.remsi v320 c4_i32_182
  let c4_i32_208 : BitVec 32 := 4#32
  let v349 : BitVec 32 := Scalar.muli v321 c4_i32_208
  let c1_i32_209 : BitVec 32 := 1#32
  let v350 : BitVec 32 := Scalar.addi v349 c1_i32_209
  let v351 : BitVec 1 := Scalar.cmpi .ne v350 v2
  let v352 : BitVec 32 := Scalar.extui v351
  let c0_i32_210 : BitVec 32 := 0#32
  let v353 : BitVec 1 := Scalar.cmpi .ne v352 c0_i32_210
  v353

def k0_off103 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_181 : BitVec 32 := 0#32
  let v320 : BitVec 32 := Scalar.addi v19 c0_i32_181
  let c4_i32_182 : BitVec 32 := 4#32
  let v321 : BitVec 32 := Scalar.remsi v320 c4_i32_182
  let c4_i32_208 : BitVec 32 := 4#32
  let v349 : BitVec 32 := Scalar.muli v321 c4_i32_208
  let c1_i32_209 : BitVec 32 := 1#32
  let v350 : BitVec 32 := Scalar.addi v349 c1_i32_209
  ![v350.toNat]
def k0_off104 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_181 : BitVec 32 := 0#32
  let v320 : BitVec 32 := Scalar.addi v19 c0_i32_181
  let c4_i32_182 : BitVec 32 := 4#32
  let v321 : BitVec 32 := Scalar.remsi v320 c4_i32_182
  let c4_i32_208 : BitVec 32 := 4#32
  let v349 : BitVec 32 := Scalar.muli v321 c4_i32_208
  let c1_i32_209 : BitVec 32 := 1#32
  let v350 : BitVec 32 := Scalar.addi v349 c1_i32_209
  let c256_i32_377 : BitVec 32 := 256#32
  let v568 : BitVec 32 := Scalar.muli v350 c256_i32_377
  ![0, v568.toNat]
def k0_off105 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_181 : BitVec 32 := 0#32
  let v320 : BitVec 32 := Scalar.addi v19 c0_i32_181
  let c4_i32_182 : BitVec 32 := 4#32
  let v321 : BitVec 32 := Scalar.remsi v320 c4_i32_182
  let c4_i32_208 : BitVec 32 := 4#32
  let v349 : BitVec 32 := Scalar.muli v321 c4_i32_208
  let c1_i32_209 : BitVec 32 := 1#32
  let v350 : BitVec 32 := Scalar.addi v349 c1_i32_209
  let c256_i32 : BitVec 32 := 256#32
  let v567 : BitVec 32 := Scalar.muli v350 c256_i32
  let c0_i32_382 : BitVec 32 := 0#32
  ![v567.toNat, 0]
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_181 : BitVec 32 := 0#32
  let v320 : BitVec 32 := Scalar.addi v19 c0_i32_181
  let c4_i32_182 : BitVec 32 := 4#32
  let v321 : BitVec 32 := Scalar.remsi v320 c4_i32_182
  let c4_i32_211 : BitVec 32 := 4#32
  let v354 : BitVec 32 := Scalar.muli v321 c4_i32_211
  let c2_i32_212 : BitVec 32 := 2#32
  let v355 : BitVec 32 := Scalar.addi v354 c2_i32_212
  let v356 : BitVec 1 := Scalar.cmpi .ne v355 v2
  let v357 : BitVec 32 := Scalar.extui v356
  let c0_i32_213 : BitVec 32 := 0#32
  let v358 : BitVec 1 := Scalar.cmpi .ne v357 c0_i32_213
  v358

def k0_off106 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_181 : BitVec 32 := 0#32
  let v320 : BitVec 32 := Scalar.addi v19 c0_i32_181
  let c4_i32_182 : BitVec 32 := 4#32
  let v321 : BitVec 32 := Scalar.remsi v320 c4_i32_182
  let c4_i32_211 : BitVec 32 := 4#32
  let v354 : BitVec 32 := Scalar.muli v321 c4_i32_211
  let c2_i32_212 : BitVec 32 := 2#32
  let v355 : BitVec 32 := Scalar.addi v354 c2_i32_212
  ![v355.toNat]
def k0_off107 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_181 : BitVec 32 := 0#32
  let v320 : BitVec 32 := Scalar.addi v19 c0_i32_181
  let c4_i32_182 : BitVec 32 := 4#32
  let v321 : BitVec 32 := Scalar.remsi v320 c4_i32_182
  let c4_i32_211 : BitVec 32 := 4#32
  let v354 : BitVec 32 := Scalar.muli v321 c4_i32_211
  let c2_i32_212 : BitVec 32 := 2#32
  let v355 : BitVec 32 := Scalar.addi v354 c2_i32_212
  let c256_i32_377 : BitVec 32 := 256#32
  let v568 : BitVec 32 := Scalar.muli v355 c256_i32_377
  ![0, v568.toNat]
def k0_off108 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_181 : BitVec 32 := 0#32
  let v320 : BitVec 32 := Scalar.addi v19 c0_i32_181
  let c4_i32_182 : BitVec 32 := 4#32
  let v321 : BitVec 32 := Scalar.remsi v320 c4_i32_182
  let c4_i32_211 : BitVec 32 := 4#32
  let v354 : BitVec 32 := Scalar.muli v321 c4_i32_211
  let c2_i32_212 : BitVec 32 := 2#32
  let v355 : BitVec 32 := Scalar.addi v354 c2_i32_212
  let c256_i32 : BitVec 32 := 256#32
  let v567 : BitVec 32 := Scalar.muli v355 c256_i32
  let c0_i32_382 : BitVec 32 := 0#32
  ![v567.toNat, 0]
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_181 : BitVec 32 := 0#32
  let v320 : BitVec 32 := Scalar.addi v19 c0_i32_181
  let c4_i32_182 : BitVec 32 := 4#32
  let v321 : BitVec 32 := Scalar.remsi v320 c4_i32_182
  let c4_i32_214 : BitVec 32 := 4#32
  let v359 : BitVec 32 := Scalar.muli v321 c4_i32_214
  let c3_i32_215 : BitVec 32 := 3#32
  let v360 : BitVec 32 := Scalar.addi v359 c3_i32_215
  let v361 : BitVec 1 := Scalar.cmpi .ne v360 v2
  let v362 : BitVec 32 := Scalar.extui v361
  let c0_i32_216 : BitVec 32 := 0#32
  let v363 : BitVec 1 := Scalar.cmpi .ne v362 c0_i32_216
  v363

def k0_off109 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_181 : BitVec 32 := 0#32
  let v320 : BitVec 32 := Scalar.addi v19 c0_i32_181
  let c4_i32_182 : BitVec 32 := 4#32
  let v321 : BitVec 32 := Scalar.remsi v320 c4_i32_182
  let c4_i32_214 : BitVec 32 := 4#32
  let v359 : BitVec 32 := Scalar.muli v321 c4_i32_214
  let c3_i32_215 : BitVec 32 := 3#32
  let v360 : BitVec 32 := Scalar.addi v359 c3_i32_215
  ![v360.toNat]
def k0_off110 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_181 : BitVec 32 := 0#32
  let v320 : BitVec 32 := Scalar.addi v19 c0_i32_181
  let c4_i32_182 : BitVec 32 := 4#32
  let v321 : BitVec 32 := Scalar.remsi v320 c4_i32_182
  let c4_i32_214 : BitVec 32 := 4#32
  let v359 : BitVec 32 := Scalar.muli v321 c4_i32_214
  let c3_i32_215 : BitVec 32 := 3#32
  let v360 : BitVec 32 := Scalar.addi v359 c3_i32_215
  let c256_i32_377 : BitVec 32 := 256#32
  let v568 : BitVec 32 := Scalar.muli v360 c256_i32_377
  ![0, v568.toNat]
def k0_off111 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_181 : BitVec 32 := 0#32
  let v320 : BitVec 32 := Scalar.addi v19 c0_i32_181
  let c4_i32_182 : BitVec 32 := 4#32
  let v321 : BitVec 32 := Scalar.remsi v320 c4_i32_182
  let c4_i32_214 : BitVec 32 := 4#32
  let v359 : BitVec 32 := Scalar.muli v321 c4_i32_214
  let c3_i32_215 : BitVec 32 := 3#32
  let v360 : BitVec 32 := Scalar.addi v359 c3_i32_215
  let c256_i32 : BitVec 32 := 256#32
  let v567 : BitVec 32 := Scalar.muli v360 c256_i32
  let c0_i32_382 : BitVec 32 := 0#32
  ![v567.toNat, 0]
def k0_off112 (d0 : Dev nD) (c0_i32_181 : BitVec 32) : Fin 2 → Nat :=
  let c0_218 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v320 : BitVec 32 := Scalar.addi v19 c0_i32_181
  let c4_i32_182 : BitVec 32 := 4#32
  let v321 : BitVec 32 := Scalar.remsi v320 c4_i32_182
  let c1024_i32_217 : BitVec 32 := 1024#32
  let v364 : BitVec 32 := Scalar.muli v321 c1024_i32_217
  let v365 : Index := Scalar.indexCast v364
  ![0, v365.toNat]
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_224 : BitVec 32 := 1#32
  let v371 : BitVec 32 := Scalar.addi v19 c1_i32_224
  let c4_i32_225 : BitVec 32 := 4#32
  let v372 : BitVec 32 := Scalar.remsi v371 c4_i32_225
  let c4_i32_247 : BitVec 32 := 4#32
  let v395 : BitVec 32 := Scalar.muli v372 c4_i32_247
  let c0_i32_248 : BitVec 32 := 0#32
  let v396 : BitVec 32 := Scalar.addi v395 c0_i32_248
  let v397 : BitVec 1 := Scalar.cmpi .ne v396 v2
  let v398 : BitVec 32 := Scalar.extui v397
  let c0_i32_249 : BitVec 32 := 0#32
  let v399 : BitVec 1 := Scalar.cmpi .ne v398 c0_i32_249
  v399

def k0_off113 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_224 : BitVec 32 := 1#32
  let v371 : BitVec 32 := Scalar.addi v19 c1_i32_224
  let c4_i32_225 : BitVec 32 := 4#32
  let v372 : BitVec 32 := Scalar.remsi v371 c4_i32_225
  let c4_i32_247 : BitVec 32 := 4#32
  let v395 : BitVec 32 := Scalar.muli v372 c4_i32_247
  let c0_i32_248 : BitVec 32 := 0#32
  let v396 : BitVec 32 := Scalar.addi v395 c0_i32_248
  ![v396.toNat]
def k0_off114 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_224 : BitVec 32 := 1#32
  let v371 : BitVec 32 := Scalar.addi v19 c1_i32_224
  let c4_i32_225 : BitVec 32 := 4#32
  let v372 : BitVec 32 := Scalar.remsi v371 c4_i32_225
  let c4_i32_247 : BitVec 32 := 4#32
  let v395 : BitVec 32 := Scalar.muli v372 c4_i32_247
  let c0_i32_248 : BitVec 32 := 0#32
  let v396 : BitVec 32 := Scalar.addi v395 c0_i32_248
  let c256_i32_377 : BitVec 32 := 256#32
  let v568 : BitVec 32 := Scalar.muli v396 c256_i32_377
  ![0, v568.toNat]
def k0_off115 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_224 : BitVec 32 := 1#32
  let v371 : BitVec 32 := Scalar.addi v19 c1_i32_224
  let c4_i32_225 : BitVec 32 := 4#32
  let v372 : BitVec 32 := Scalar.remsi v371 c4_i32_225
  let c4_i32_247 : BitVec 32 := 4#32
  let v395 : BitVec 32 := Scalar.muli v372 c4_i32_247
  let c0_i32_248 : BitVec 32 := 0#32
  let v396 : BitVec 32 := Scalar.addi v395 c0_i32_248
  let c256_i32 : BitVec 32 := 256#32
  let v567 : BitVec 32 := Scalar.muli v396 c256_i32
  let c0_i32_382 : BitVec 32 := 0#32
  ![v567.toNat, 0]
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_224 : BitVec 32 := 1#32
  let v371 : BitVec 32 := Scalar.addi v19 c1_i32_224
  let c4_i32_225 : BitVec 32 := 4#32
  let v372 : BitVec 32 := Scalar.remsi v371 c4_i32_225
  let c4_i32_250 : BitVec 32 := 4#32
  let v400 : BitVec 32 := Scalar.muli v372 c4_i32_250
  let c1_i32_251 : BitVec 32 := 1#32
  let v401 : BitVec 32 := Scalar.addi v400 c1_i32_251
  let v402 : BitVec 1 := Scalar.cmpi .ne v401 v2
  let v403 : BitVec 32 := Scalar.extui v402
  let c0_i32_252 : BitVec 32 := 0#32
  let v404 : BitVec 1 := Scalar.cmpi .ne v403 c0_i32_252
  v404

def k0_off116 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_224 : BitVec 32 := 1#32
  let v371 : BitVec 32 := Scalar.addi v19 c1_i32_224
  let c4_i32_225 : BitVec 32 := 4#32
  let v372 : BitVec 32 := Scalar.remsi v371 c4_i32_225
  let c4_i32_250 : BitVec 32 := 4#32
  let v400 : BitVec 32 := Scalar.muli v372 c4_i32_250
  let c1_i32_251 : BitVec 32 := 1#32
  let v401 : BitVec 32 := Scalar.addi v400 c1_i32_251
  ![v401.toNat]
def k0_off117 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_224 : BitVec 32 := 1#32
  let v371 : BitVec 32 := Scalar.addi v19 c1_i32_224
  let c4_i32_225 : BitVec 32 := 4#32
  let v372 : BitVec 32 := Scalar.remsi v371 c4_i32_225
  let c4_i32_250 : BitVec 32 := 4#32
  let v400 : BitVec 32 := Scalar.muli v372 c4_i32_250
  let c1_i32_251 : BitVec 32 := 1#32
  let v401 : BitVec 32 := Scalar.addi v400 c1_i32_251
  let c256_i32_377 : BitVec 32 := 256#32
  let v568 : BitVec 32 := Scalar.muli v401 c256_i32_377
  ![0, v568.toNat]
def k0_off118 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_224 : BitVec 32 := 1#32
  let v371 : BitVec 32 := Scalar.addi v19 c1_i32_224
  let c4_i32_225 : BitVec 32 := 4#32
  let v372 : BitVec 32 := Scalar.remsi v371 c4_i32_225
  let c4_i32_250 : BitVec 32 := 4#32
  let v400 : BitVec 32 := Scalar.muli v372 c4_i32_250
  let c1_i32_251 : BitVec 32 := 1#32
  let v401 : BitVec 32 := Scalar.addi v400 c1_i32_251
  let c256_i32 : BitVec 32 := 256#32
  let v567 : BitVec 32 := Scalar.muli v401 c256_i32
  let c0_i32_382 : BitVec 32 := 0#32
  ![v567.toNat, 0]
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_224 : BitVec 32 := 1#32
  let v371 : BitVec 32 := Scalar.addi v19 c1_i32_224
  let c4_i32_225 : BitVec 32 := 4#32
  let v372 : BitVec 32 := Scalar.remsi v371 c4_i32_225
  let c4_i32_253 : BitVec 32 := 4#32
  let v405 : BitVec 32 := Scalar.muli v372 c4_i32_253
  let c2_i32_254 : BitVec 32 := 2#32
  let v406 : BitVec 32 := Scalar.addi v405 c2_i32_254
  let v407 : BitVec 1 := Scalar.cmpi .ne v406 v2
  let v408 : BitVec 32 := Scalar.extui v407
  let c0_i32_255 : BitVec 32 := 0#32
  let v409 : BitVec 1 := Scalar.cmpi .ne v408 c0_i32_255
  v409

def k0_off119 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_224 : BitVec 32 := 1#32
  let v371 : BitVec 32 := Scalar.addi v19 c1_i32_224
  let c4_i32_225 : BitVec 32 := 4#32
  let v372 : BitVec 32 := Scalar.remsi v371 c4_i32_225
  let c4_i32_253 : BitVec 32 := 4#32
  let v405 : BitVec 32 := Scalar.muli v372 c4_i32_253
  let c2_i32_254 : BitVec 32 := 2#32
  let v406 : BitVec 32 := Scalar.addi v405 c2_i32_254
  ![v406.toNat]
def k0_off120 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_224 : BitVec 32 := 1#32
  let v371 : BitVec 32 := Scalar.addi v19 c1_i32_224
  let c4_i32_225 : BitVec 32 := 4#32
  let v372 : BitVec 32 := Scalar.remsi v371 c4_i32_225
  let c4_i32_253 : BitVec 32 := 4#32
  let v405 : BitVec 32 := Scalar.muli v372 c4_i32_253
  let c2_i32_254 : BitVec 32 := 2#32
  let v406 : BitVec 32 := Scalar.addi v405 c2_i32_254
  let c256_i32_377 : BitVec 32 := 256#32
  let v568 : BitVec 32 := Scalar.muli v406 c256_i32_377
  ![0, v568.toNat]
def k0_off121 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_224 : BitVec 32 := 1#32
  let v371 : BitVec 32 := Scalar.addi v19 c1_i32_224
  let c4_i32_225 : BitVec 32 := 4#32
  let v372 : BitVec 32 := Scalar.remsi v371 c4_i32_225
  let c4_i32_253 : BitVec 32 := 4#32
  let v405 : BitVec 32 := Scalar.muli v372 c4_i32_253
  let c2_i32_254 : BitVec 32 := 2#32
  let v406 : BitVec 32 := Scalar.addi v405 c2_i32_254
  let c256_i32 : BitVec 32 := 256#32
  let v567 : BitVec 32 := Scalar.muli v406 c256_i32
  let c0_i32_382 : BitVec 32 := 0#32
  ![v567.toNat, 0]
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_224 : BitVec 32 := 1#32
  let v371 : BitVec 32 := Scalar.addi v19 c1_i32_224
  let c4_i32_225 : BitVec 32 := 4#32
  let v372 : BitVec 32 := Scalar.remsi v371 c4_i32_225
  let c4_i32_256 : BitVec 32 := 4#32
  let v410 : BitVec 32 := Scalar.muli v372 c4_i32_256
  let c3_i32_257 : BitVec 32 := 3#32
  let v411 : BitVec 32 := Scalar.addi v410 c3_i32_257
  let v412 : BitVec 1 := Scalar.cmpi .ne v411 v2
  let v413 : BitVec 32 := Scalar.extui v412
  let c0_i32_258 : BitVec 32 := 0#32
  let v414 : BitVec 1 := Scalar.cmpi .ne v413 c0_i32_258
  v414

def k0_off122 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_224 : BitVec 32 := 1#32
  let v371 : BitVec 32 := Scalar.addi v19 c1_i32_224
  let c4_i32_225 : BitVec 32 := 4#32
  let v372 : BitVec 32 := Scalar.remsi v371 c4_i32_225
  let c4_i32_256 : BitVec 32 := 4#32
  let v410 : BitVec 32 := Scalar.muli v372 c4_i32_256
  let c3_i32_257 : BitVec 32 := 3#32
  let v411 : BitVec 32 := Scalar.addi v410 c3_i32_257
  ![v411.toNat]
def k0_off123 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_224 : BitVec 32 := 1#32
  let v371 : BitVec 32 := Scalar.addi v19 c1_i32_224
  let c4_i32_225 : BitVec 32 := 4#32
  let v372 : BitVec 32 := Scalar.remsi v371 c4_i32_225
  let c4_i32_256 : BitVec 32 := 4#32
  let v410 : BitVec 32 := Scalar.muli v372 c4_i32_256
  let c3_i32_257 : BitVec 32 := 3#32
  let v411 : BitVec 32 := Scalar.addi v410 c3_i32_257
  let c256_i32_377 : BitVec 32 := 256#32
  let v568 : BitVec 32 := Scalar.muli v411 c256_i32_377
  ![0, v568.toNat]
def k0_off124 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_224 : BitVec 32 := 1#32
  let v371 : BitVec 32 := Scalar.addi v19 c1_i32_224
  let c4_i32_225 : BitVec 32 := 4#32
  let v372 : BitVec 32 := Scalar.remsi v371 c4_i32_225
  let c4_i32_256 : BitVec 32 := 4#32
  let v410 : BitVec 32 := Scalar.muli v372 c4_i32_256
  let c3_i32_257 : BitVec 32 := 3#32
  let v411 : BitVec 32 := Scalar.addi v410 c3_i32_257
  let c256_i32 : BitVec 32 := 256#32
  let v567 : BitVec 32 := Scalar.muli v411 c256_i32
  let c0_i32_382 : BitVec 32 := 0#32
  ![v567.toNat, 0]
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_269 : BitVec 32 := 2#32
  let v425 : BitVec 32 := Scalar.addi v19 c2_i32_269
  let c4_i32_270 : BitVec 32 := 4#32
  let v426 : BitVec 32 := Scalar.remsi v425 c4_i32_270
  let c4_i32_285 : BitVec 32 := 4#32
  let v441 : BitVec 32 := Scalar.muli v426 c4_i32_285
  let c0_i32_286 : BitVec 32 := 0#32
  let v442 : BitVec 32 := Scalar.addi v441 c0_i32_286
  let v443 : BitVec 1 := Scalar.cmpi .ne v442 v2
  let v444 : BitVec 32 := Scalar.extui v443
  let c0_i32_287 : BitVec 32 := 0#32
  let v445 : BitVec 1 := Scalar.cmpi .ne v444 c0_i32_287
  v445

def k0_off125 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_269 : BitVec 32 := 2#32
  let v425 : BitVec 32 := Scalar.addi v19 c2_i32_269
  let c4_i32_270 : BitVec 32 := 4#32
  let v426 : BitVec 32 := Scalar.remsi v425 c4_i32_270
  let c4_i32_285 : BitVec 32 := 4#32
  let v441 : BitVec 32 := Scalar.muli v426 c4_i32_285
  let c0_i32_286 : BitVec 32 := 0#32
  let v442 : BitVec 32 := Scalar.addi v441 c0_i32_286
  ![v442.toNat]
def k0_off126 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_269 : BitVec 32 := 2#32
  let v425 : BitVec 32 := Scalar.addi v19 c2_i32_269
  let c4_i32_270 : BitVec 32 := 4#32
  let v426 : BitVec 32 := Scalar.remsi v425 c4_i32_270
  let c4_i32_285 : BitVec 32 := 4#32
  let v441 : BitVec 32 := Scalar.muli v426 c4_i32_285
  let c0_i32_286 : BitVec 32 := 0#32
  let v442 : BitVec 32 := Scalar.addi v441 c0_i32_286
  let c256_i32_377 : BitVec 32 := 256#32
  let v568 : BitVec 32 := Scalar.muli v442 c256_i32_377
  ![0, v568.toNat]
def k0_off127 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_269 : BitVec 32 := 2#32
  let v425 : BitVec 32 := Scalar.addi v19 c2_i32_269
  let c4_i32_270 : BitVec 32 := 4#32
  let v426 : BitVec 32 := Scalar.remsi v425 c4_i32_270
  let c4_i32_285 : BitVec 32 := 4#32
  let v441 : BitVec 32 := Scalar.muli v426 c4_i32_285
  let c0_i32_286 : BitVec 32 := 0#32
  let v442 : BitVec 32 := Scalar.addi v441 c0_i32_286
  let c256_i32 : BitVec 32 := 256#32
  let v567 : BitVec 32 := Scalar.muli v442 c256_i32
  let c0_i32_382 : BitVec 32 := 0#32
  ![v567.toNat, 0]
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_269 : BitVec 32 := 2#32
  let v425 : BitVec 32 := Scalar.addi v19 c2_i32_269
  let c4_i32_270 : BitVec 32 := 4#32
  let v426 : BitVec 32 := Scalar.remsi v425 c4_i32_270
  let c4_i32_288 : BitVec 32 := 4#32
  let v446 : BitVec 32 := Scalar.muli v426 c4_i32_288
  let c1_i32_289 : BitVec 32 := 1#32
  let v447 : BitVec 32 := Scalar.addi v446 c1_i32_289
  let v448 : BitVec 1 := Scalar.cmpi .ne v447 v2
  let v449 : BitVec 32 := Scalar.extui v448
  let c0_i32_290 : BitVec 32 := 0#32
  let v450 : BitVec 1 := Scalar.cmpi .ne v449 c0_i32_290
  v450

def k0_off128 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_269 : BitVec 32 := 2#32
  let v425 : BitVec 32 := Scalar.addi v19 c2_i32_269
  let c4_i32_270 : BitVec 32 := 4#32
  let v426 : BitVec 32 := Scalar.remsi v425 c4_i32_270
  let c4_i32_288 : BitVec 32 := 4#32
  let v446 : BitVec 32 := Scalar.muli v426 c4_i32_288
  let c1_i32_289 : BitVec 32 := 1#32
  let v447 : BitVec 32 := Scalar.addi v446 c1_i32_289
  ![v447.toNat]
def k0_off129 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_269 : BitVec 32 := 2#32
  let v425 : BitVec 32 := Scalar.addi v19 c2_i32_269
  let c4_i32_270 : BitVec 32 := 4#32
  let v426 : BitVec 32 := Scalar.remsi v425 c4_i32_270
  let c4_i32_288 : BitVec 32 := 4#32
  let v446 : BitVec 32 := Scalar.muli v426 c4_i32_288
  let c1_i32_289 : BitVec 32 := 1#32
  let v447 : BitVec 32 := Scalar.addi v446 c1_i32_289
  let c256_i32_377 : BitVec 32 := 256#32
  let v568 : BitVec 32 := Scalar.muli v447 c256_i32_377
  ![0, v568.toNat]
def k0_off130 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_269 : BitVec 32 := 2#32
  let v425 : BitVec 32 := Scalar.addi v19 c2_i32_269
  let c4_i32_270 : BitVec 32 := 4#32
  let v426 : BitVec 32 := Scalar.remsi v425 c4_i32_270
  let c4_i32_288 : BitVec 32 := 4#32
  let v446 : BitVec 32 := Scalar.muli v426 c4_i32_288
  let c1_i32_289 : BitVec 32 := 1#32
  let v447 : BitVec 32 := Scalar.addi v446 c1_i32_289
  let c256_i32 : BitVec 32 := 256#32
  let v567 : BitVec 32 := Scalar.muli v447 c256_i32
  let c0_i32_382 : BitVec 32 := 0#32
  ![v567.toNat, 0]
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_269 : BitVec 32 := 2#32
  let v425 : BitVec 32 := Scalar.addi v19 c2_i32_269
  let c4_i32_270 : BitVec 32 := 4#32
  let v426 : BitVec 32 := Scalar.remsi v425 c4_i32_270
  let c4_i32_291 : BitVec 32 := 4#32
  let v451 : BitVec 32 := Scalar.muli v426 c4_i32_291
  let c2_i32_292 : BitVec 32 := 2#32
  let v452 : BitVec 32 := Scalar.addi v451 c2_i32_292
  let v453 : BitVec 1 := Scalar.cmpi .ne v452 v2
  let v454 : BitVec 32 := Scalar.extui v453
  let c0_i32_293 : BitVec 32 := 0#32
  let v455 : BitVec 1 := Scalar.cmpi .ne v454 c0_i32_293
  v455

def k0_off131 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_269 : BitVec 32 := 2#32
  let v425 : BitVec 32 := Scalar.addi v19 c2_i32_269
  let c4_i32_270 : BitVec 32 := 4#32
  let v426 : BitVec 32 := Scalar.remsi v425 c4_i32_270
  let c4_i32_291 : BitVec 32 := 4#32
  let v451 : BitVec 32 := Scalar.muli v426 c4_i32_291
  let c2_i32_292 : BitVec 32 := 2#32
  let v452 : BitVec 32 := Scalar.addi v451 c2_i32_292
  ![v452.toNat]
def k0_off132 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_269 : BitVec 32 := 2#32
  let v425 : BitVec 32 := Scalar.addi v19 c2_i32_269
  let c4_i32_270 : BitVec 32 := 4#32
  let v426 : BitVec 32 := Scalar.remsi v425 c4_i32_270
  let c4_i32_291 : BitVec 32 := 4#32
  let v451 : BitVec 32 := Scalar.muli v426 c4_i32_291
  let c2_i32_292 : BitVec 32 := 2#32
  let v452 : BitVec 32 := Scalar.addi v451 c2_i32_292
  let c256_i32_377 : BitVec 32 := 256#32
  let v568 : BitVec 32 := Scalar.muli v452 c256_i32_377
  ![0, v568.toNat]
def k0_off133 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_269 : BitVec 32 := 2#32
  let v425 : BitVec 32 := Scalar.addi v19 c2_i32_269
  let c4_i32_270 : BitVec 32 := 4#32
  let v426 : BitVec 32 := Scalar.remsi v425 c4_i32_270
  let c4_i32_291 : BitVec 32 := 4#32
  let v451 : BitVec 32 := Scalar.muli v426 c4_i32_291
  let c2_i32_292 : BitVec 32 := 2#32
  let v452 : BitVec 32 := Scalar.addi v451 c2_i32_292
  let c256_i32 : BitVec 32 := 256#32
  let v567 : BitVec 32 := Scalar.muli v452 c256_i32
  let c0_i32_382 : BitVec 32 := 0#32
  ![v567.toNat, 0]
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_269 : BitVec 32 := 2#32
  let v425 : BitVec 32 := Scalar.addi v19 c2_i32_269
  let c4_i32_270 : BitVec 32 := 4#32
  let v426 : BitVec 32 := Scalar.remsi v425 c4_i32_270
  let c4_i32_294 : BitVec 32 := 4#32
  let v456 : BitVec 32 := Scalar.muli v426 c4_i32_294
  let c3_i32_295 : BitVec 32 := 3#32
  let v457 : BitVec 32 := Scalar.addi v456 c3_i32_295
  let v458 : BitVec 1 := Scalar.cmpi .ne v457 v2
  let v459 : BitVec 32 := Scalar.extui v458
  let c0_i32_296 : BitVec 32 := 0#32
  let v460 : BitVec 1 := Scalar.cmpi .ne v459 c0_i32_296
  v460

def k0_off134 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_269 : BitVec 32 := 2#32
  let v425 : BitVec 32 := Scalar.addi v19 c2_i32_269
  let c4_i32_270 : BitVec 32 := 4#32
  let v426 : BitVec 32 := Scalar.remsi v425 c4_i32_270
  let c4_i32_294 : BitVec 32 := 4#32
  let v456 : BitVec 32 := Scalar.muli v426 c4_i32_294
  let c3_i32_295 : BitVec 32 := 3#32
  let v457 : BitVec 32 := Scalar.addi v456 c3_i32_295
  ![v457.toNat]
def k0_off135 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_269 : BitVec 32 := 2#32
  let v425 : BitVec 32 := Scalar.addi v19 c2_i32_269
  let c4_i32_270 : BitVec 32 := 4#32
  let v426 : BitVec 32 := Scalar.remsi v425 c4_i32_270
  let c4_i32_294 : BitVec 32 := 4#32
  let v456 : BitVec 32 := Scalar.muli v426 c4_i32_294
  let c3_i32_295 : BitVec 32 := 3#32
  let v457 : BitVec 32 := Scalar.addi v456 c3_i32_295
  let c256_i32_377 : BitVec 32 := 256#32
  let v568 : BitVec 32 := Scalar.muli v457 c256_i32_377
  ![0, v568.toNat]
def k0_off136 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_269 : BitVec 32 := 2#32
  let v425 : BitVec 32 := Scalar.addi v19 c2_i32_269
  let c4_i32_270 : BitVec 32 := 4#32
  let v426 : BitVec 32 := Scalar.remsi v425 c4_i32_270
  let c4_i32_294 : BitVec 32 := 4#32
  let v456 : BitVec 32 := Scalar.muli v426 c4_i32_294
  let c3_i32_295 : BitVec 32 := 3#32
  let v457 : BitVec 32 := Scalar.addi v456 c3_i32_295
  let c256_i32 : BitVec 32 := 256#32
  let v567 : BitVec 32 := Scalar.muli v457 c256_i32
  let c0_i32_382 : BitVec 32 := 0#32
  ![v567.toNat, 0]
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v471 : BitVec 32 := Scalar.addi v19 c3_i32_307
  let c4_i32_308 : BitVec 32 := 4#32
  let v472 : BitVec 32 := Scalar.remsi v471 c4_i32_308
  let c4_i32_323 : BitVec 32 := 4#32
  let v487 : BitVec 32 := Scalar.muli v472 c4_i32_323
  let c0_i32_324 : BitVec 32 := 0#32
  let v488 : BitVec 32 := Scalar.addi v487 c0_i32_324
  let v489 : BitVec 1 := Scalar.cmpi .ne v488 v2
  let v490 : BitVec 32 := Scalar.extui v489
  let c0_i32_325 : BitVec 32 := 0#32
  let v491 : BitVec 1 := Scalar.cmpi .ne v490 c0_i32_325
  v491

def k0_off137 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v471 : BitVec 32 := Scalar.addi v19 c3_i32_307
  let c4_i32_308 : BitVec 32 := 4#32
  let v472 : BitVec 32 := Scalar.remsi v471 c4_i32_308
  let c4_i32_323 : BitVec 32 := 4#32
  let v487 : BitVec 32 := Scalar.muli v472 c4_i32_323
  let c0_i32_324 : BitVec 32 := 0#32
  let v488 : BitVec 32 := Scalar.addi v487 c0_i32_324
  ![v488.toNat]
def k0_off138 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v471 : BitVec 32 := Scalar.addi v19 c3_i32_307
  let c4_i32_308 : BitVec 32 := 4#32
  let v472 : BitVec 32 := Scalar.remsi v471 c4_i32_308
  let c4_i32_323 : BitVec 32 := 4#32
  let v487 : BitVec 32 := Scalar.muli v472 c4_i32_323
  let c0_i32_324 : BitVec 32 := 0#32
  let v488 : BitVec 32 := Scalar.addi v487 c0_i32_324
  let c256_i32_377 : BitVec 32 := 256#32
  let v568 : BitVec 32 := Scalar.muli v488 c256_i32_377
  ![0, v568.toNat]
def k0_off139 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v471 : BitVec 32 := Scalar.addi v19 c3_i32_307
  let c4_i32_308 : BitVec 32 := 4#32
  let v472 : BitVec 32 := Scalar.remsi v471 c4_i32_308
  let c4_i32_323 : BitVec 32 := 4#32
  let v487 : BitVec 32 := Scalar.muli v472 c4_i32_323
  let c0_i32_324 : BitVec 32 := 0#32
  let v488 : BitVec 32 := Scalar.addi v487 c0_i32_324
  let c256_i32 : BitVec 32 := 256#32
  let v567 : BitVec 32 := Scalar.muli v488 c256_i32
  let c0_i32_382 : BitVec 32 := 0#32
  ![v567.toNat, 0]
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v471 : BitVec 32 := Scalar.addi v19 c3_i32_307
  let c4_i32_308 : BitVec 32 := 4#32
  let v472 : BitVec 32 := Scalar.remsi v471 c4_i32_308
  let c4_i32_326 : BitVec 32 := 4#32
  let v492 : BitVec 32 := Scalar.muli v472 c4_i32_326
  let c1_i32_327 : BitVec 32 := 1#32
  let v493 : BitVec 32 := Scalar.addi v492 c1_i32_327
  let v494 : BitVec 1 := Scalar.cmpi .ne v493 v2
  let v495 : BitVec 32 := Scalar.extui v494
  let c0_i32_328 : BitVec 32 := 0#32
  let v496 : BitVec 1 := Scalar.cmpi .ne v495 c0_i32_328
  v496

def k0_off140 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v471 : BitVec 32 := Scalar.addi v19 c3_i32_307
  let c4_i32_308 : BitVec 32 := 4#32
  let v472 : BitVec 32 := Scalar.remsi v471 c4_i32_308
  let c4_i32_326 : BitVec 32 := 4#32
  let v492 : BitVec 32 := Scalar.muli v472 c4_i32_326
  let c1_i32_327 : BitVec 32 := 1#32
  let v493 : BitVec 32 := Scalar.addi v492 c1_i32_327
  ![v493.toNat]
def k0_off141 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v471 : BitVec 32 := Scalar.addi v19 c3_i32_307
  let c4_i32_308 : BitVec 32 := 4#32
  let v472 : BitVec 32 := Scalar.remsi v471 c4_i32_308
  let c4_i32_326 : BitVec 32 := 4#32
  let v492 : BitVec 32 := Scalar.muli v472 c4_i32_326
  let c1_i32_327 : BitVec 32 := 1#32
  let v493 : BitVec 32 := Scalar.addi v492 c1_i32_327
  let c256_i32_377 : BitVec 32 := 256#32
  let v568 : BitVec 32 := Scalar.muli v493 c256_i32_377
  ![0, v568.toNat]
def k0_off142 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v471 : BitVec 32 := Scalar.addi v19 c3_i32_307
  let c4_i32_308 : BitVec 32 := 4#32
  let v472 : BitVec 32 := Scalar.remsi v471 c4_i32_308
  let c4_i32_326 : BitVec 32 := 4#32
  let v492 : BitVec 32 := Scalar.muli v472 c4_i32_326
  let c1_i32_327 : BitVec 32 := 1#32
  let v493 : BitVec 32 := Scalar.addi v492 c1_i32_327
  let c256_i32 : BitVec 32 := 256#32
  let v567 : BitVec 32 := Scalar.muli v493 c256_i32
  let c0_i32_382 : BitVec 32 := 0#32
  ![v567.toNat, 0]
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v471 : BitVec 32 := Scalar.addi v19 c3_i32_307
  let c4_i32_308 : BitVec 32 := 4#32
  let v472 : BitVec 32 := Scalar.remsi v471 c4_i32_308
  let c4_i32_329 : BitVec 32 := 4#32
  let v497 : BitVec 32 := Scalar.muli v472 c4_i32_329
  let c2_i32_330 : BitVec 32 := 2#32
  let v498 : BitVec 32 := Scalar.addi v497 c2_i32_330
  let v499 : BitVec 1 := Scalar.cmpi .ne v498 v2
  let v500 : BitVec 32 := Scalar.extui v499
  let c0_i32_331 : BitVec 32 := 0#32
  let v501 : BitVec 1 := Scalar.cmpi .ne v500 c0_i32_331
  v501

def k0_off143 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v471 : BitVec 32 := Scalar.addi v19 c3_i32_307
  let c4_i32_308 : BitVec 32 := 4#32
  let v472 : BitVec 32 := Scalar.remsi v471 c4_i32_308
  let c4_i32_329 : BitVec 32 := 4#32
  let v497 : BitVec 32 := Scalar.muli v472 c4_i32_329
  let c2_i32_330 : BitVec 32 := 2#32
  let v498 : BitVec 32 := Scalar.addi v497 c2_i32_330
  ![v498.toNat]
def k0_off144 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v471 : BitVec 32 := Scalar.addi v19 c3_i32_307
  let c4_i32_308 : BitVec 32 := 4#32
  let v472 : BitVec 32 := Scalar.remsi v471 c4_i32_308
  let c4_i32_329 : BitVec 32 := 4#32
  let v497 : BitVec 32 := Scalar.muli v472 c4_i32_329
  let c2_i32_330 : BitVec 32 := 2#32
  let v498 : BitVec 32 := Scalar.addi v497 c2_i32_330
  let c256_i32_377 : BitVec 32 := 256#32
  let v568 : BitVec 32 := Scalar.muli v498 c256_i32_377
  ![0, v568.toNat]
def k0_off145 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v471 : BitVec 32 := Scalar.addi v19 c3_i32_307
  let c4_i32_308 : BitVec 32 := 4#32
  let v472 : BitVec 32 := Scalar.remsi v471 c4_i32_308
  let c4_i32_329 : BitVec 32 := 4#32
  let v497 : BitVec 32 := Scalar.muli v472 c4_i32_329
  let c2_i32_330 : BitVec 32 := 2#32
  let v498 : BitVec 32 := Scalar.addi v497 c2_i32_330
  let c256_i32 : BitVec 32 := 256#32
  let v567 : BitVec 32 := Scalar.muli v498 c256_i32
  let c0_i32_382 : BitVec 32 := 0#32
  ![v567.toNat, 0]
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v471 : BitVec 32 := Scalar.addi v19 c3_i32_307
  let c4_i32_308 : BitVec 32 := 4#32
  let v472 : BitVec 32 := Scalar.remsi v471 c4_i32_308
  let c4_i32_332 : BitVec 32 := 4#32
  let v502 : BitVec 32 := Scalar.muli v472 c4_i32_332
  let c3_i32_333 : BitVec 32 := 3#32
  let v503 : BitVec 32 := Scalar.addi v502 c3_i32_333
  let v504 : BitVec 1 := Scalar.cmpi .ne v503 v2
  let v505 : BitVec 32 := Scalar.extui v504
  let c0_i32_334 : BitVec 32 := 0#32
  let v506 : BitVec 1 := Scalar.cmpi .ne v505 c0_i32_334
  v506

def k0_off146 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v471 : BitVec 32 := Scalar.addi v19 c3_i32_307
  let c4_i32_308 : BitVec 32 := 4#32
  let v472 : BitVec 32 := Scalar.remsi v471 c4_i32_308
  let c4_i32_332 : BitVec 32 := 4#32
  let v502 : BitVec 32 := Scalar.muli v472 c4_i32_332
  let c3_i32_333 : BitVec 32 := 3#32
  let v503 : BitVec 32 := Scalar.addi v502 c3_i32_333
  ![v503.toNat]
def k0_off147 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v471 : BitVec 32 := Scalar.addi v19 c3_i32_307
  let c4_i32_308 : BitVec 32 := 4#32
  let v472 : BitVec 32 := Scalar.remsi v471 c4_i32_308
  let c4_i32_332 : BitVec 32 := 4#32
  let v502 : BitVec 32 := Scalar.muli v472 c4_i32_332
  let c3_i32_333 : BitVec 32 := 3#32
  let v503 : BitVec 32 := Scalar.addi v502 c3_i32_333
  let c256_i32_377 : BitVec 32 := 256#32
  let v568 : BitVec 32 := Scalar.muli v503 c256_i32_377
  ![0, v568.toNat]
def k0_off148 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v471 : BitVec 32 := Scalar.addi v19 c3_i32_307
  let c4_i32_308 : BitVec 32 := 4#32
  let v472 : BitVec 32 := Scalar.remsi v471 c4_i32_308
  let c4_i32_332 : BitVec 32 := 4#32
  let v502 : BitVec 32 := Scalar.muli v472 c4_i32_332
  let c3_i32_333 : BitVec 32 := 3#32
  let v503 : BitVec 32 := Scalar.addi v502 c3_i32_333
  let c256_i32 : BitVec 32 := 256#32
  let v567 : BitVec 32 := Scalar.muli v503 c256_i32
  let c0_i32_382 : BitVec 32 := 0#32
  ![v567.toNat, 0]
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_345 : BitVec 32 := 0#32
  let v519 : BitVec 1 := Scalar.cmpi .ne v2 c0_i32_345
  let v520 : BitVec 32 := Scalar.extui v519
  let c0_i32_346 : BitVec 32 := 0#32
  let v521 : BitVec 1 := Scalar.cmpi .ne v520 c0_i32_346
  v521

def k0_off149 (d0 : Dev nD) : Fin 2 → Nat :=
  let c0_i32_382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  ![0, v567.toNat]
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_347 : BitVec 32 := 1#32
  let v522 : BitVec 1 := Scalar.cmpi .ne v2 c1_i32_347
  let v523 : BitVec 32 := Scalar.extui v522
  let c0_i32_348 : BitVec 32 := 0#32
  let v524 : BitVec 1 := Scalar.cmpi .ne v523 c0_i32_348
  v524

def k0_off150 (d0 : Dev nD) : Fin 2 → Nat :=
  let c0_i32_382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  ![0, v567.toNat]
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_349 : BitVec 32 := 2#32
  let v525 : BitVec 1 := Scalar.cmpi .ne v2 c2_i32_349
  let v526 : BitVec 32 := Scalar.extui v525
  let c0_i32_350 : BitVec 32 := 0#32
  let v527 : BitVec 1 := Scalar.cmpi .ne v526 c0_i32_350
  v527

def k0_off151 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  ![0, v567.toNat]
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_351 : BitVec 32 := 3#32
  let v528 : BitVec 1 := Scalar.cmpi .ne v2 c3_i32_351
  let v529 : BitVec 32 := Scalar.extui v528
  let c0_i32_352 : BitVec 32 := 0#32
  let v530 : BitVec 1 := Scalar.cmpi .ne v529 c0_i32_352
  v530

def k0_off152 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  ![0, v567.toNat]
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_353 : BitVec 32 := 4#32
  let v531 : BitVec 1 := Scalar.cmpi .ne v2 c4_i32_353
  let v532 : BitVec 32 := Scalar.extui v531
  let c0_i32_354 : BitVec 32 := 0#32
  let v533 : BitVec 1 := Scalar.cmpi .ne v532 c0_i32_354
  v533

def k0_off153 (d0 : Dev nD) : Fin 2 → Nat :=
  let c0_i32_382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  ![0, v567.toNat]
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_355 : BitVec 32 := 5#32
  let v534 : BitVec 1 := Scalar.cmpi .ne v2 c5_i32_355
  let v535 : BitVec 32 := Scalar.extui v534
  let c0_i32_356 : BitVec 32 := 0#32
  let v536 : BitVec 1 := Scalar.cmpi .ne v535 c0_i32_356
  v536

def k0_off154 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  ![0, v567.toNat]
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_357 : BitVec 32 := 6#32
  let v537 : BitVec 1 := Scalar.cmpi .ne v2 c6_i32_357
  let v538 : BitVec 32 := Scalar.extui v537
  let c0_i32_358 : BitVec 32 := 0#32
  let v539 : BitVec 1 := Scalar.cmpi .ne v538 c0_i32_358
  v539

def k0_off155 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  ![0, v567.toNat]
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_359 : BitVec 32 := 7#32
  let v540 : BitVec 1 := Scalar.cmpi .ne v2 c7_i32_359
  let v541 : BitVec 32 := Scalar.extui v540
  let c0_i32_360 : BitVec 32 := 0#32
  let v542 : BitVec 1 := Scalar.cmpi .ne v541 c0_i32_360
  v542

def k0_off156 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  ![0, v567.toNat]
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_361 : BitVec 32 := 8#32
  let v543 : BitVec 1 := Scalar.cmpi .ne v2 c8_i32_361
  let v544 : BitVec 32 := Scalar.extui v543
  let c0_i32_362 : BitVec 32 := 0#32
  let v545 : BitVec 1 := Scalar.cmpi .ne v544 c0_i32_362
  v545

def k0_off157 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  ![0, v567.toNat]
def k0_cond74 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_363 : BitVec 32 := 9#32
  let v546 : BitVec 1 := Scalar.cmpi .ne v2 c9_i32_363
  let v547 : BitVec 32 := Scalar.extui v546
  let c0_i32_364 : BitVec 32 := 0#32
  let v548 : BitVec 1 := Scalar.cmpi .ne v547 c0_i32_364
  v548

def k0_off158 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  ![0, v567.toNat]
def k0_cond75 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_365 : BitVec 32 := 10#32
  let v549 : BitVec 1 := Scalar.cmpi .ne v2 c10_i32_365
  let v550 : BitVec 32 := Scalar.extui v549
  let c0_i32_366 : BitVec 32 := 0#32
  let v551 : BitVec 1 := Scalar.cmpi .ne v550 c0_i32_366
  v551

def k0_off159 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  ![0, v567.toNat]
def k0_cond76 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_367 : BitVec 32 := 11#32
  let v552 : BitVec 1 := Scalar.cmpi .ne v2 c11_i32_367
  let v553 : BitVec 32 := Scalar.extui v552
  let c0_i32_368 : BitVec 32 := 0#32
  let v554 : BitVec 1 := Scalar.cmpi .ne v553 c0_i32_368
  v554

def k0_off160 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  ![0, v567.toNat]
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_369 : BitVec 32 := 12#32
  let v555 : BitVec 1 := Scalar.cmpi .ne v2 c12_i32_369
  let v556 : BitVec 32 := Scalar.extui v555
  let c0_i32_370 : BitVec 32 := 0#32
  let v557 : BitVec 1 := Scalar.cmpi .ne v556 c0_i32_370
  v557

def k0_off161 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  ![0, v567.toNat]
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_371 : BitVec 32 := 13#32
  let v558 : BitVec 1 := Scalar.cmpi .ne v2 c13_i32_371
  let v559 : BitVec 32 := Scalar.extui v558
  let c0_i32_372 : BitVec 32 := 0#32
  let v560 : BitVec 1 := Scalar.cmpi .ne v559 c0_i32_372
  v560

def k0_off162 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  ![0, v567.toNat]
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_373 : BitVec 32 := 14#32
  let v561 : BitVec 1 := Scalar.cmpi .ne v2 c14_i32_373
  let v562 : BitVec 32 := Scalar.extui v561
  let c0_i32_374 : BitVec 32 := 0#32
  let v563 : BitVec 1 := Scalar.cmpi .ne v562 c0_i32_374
  v563

def k0_off163 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  ![0, v567.toNat]
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_375 : BitVec 32 := 15#32
  let v564 : BitVec 1 := Scalar.cmpi .ne v2 c15_i32_375
  let v565 : BitVec 32 := Scalar.extui v564
  let c0_i32_376 : BitVec 32 := 0#32
  let v566 : BitVec 1 := Scalar.cmpi .ne v565 c0_i32_376
  v566

def k0_off164 (d0 : Dev nD) : Fin 2 → Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v567 : BitVec 32 := Scalar.muli v2 c256_i32
  ![0, v567.toNat]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.KernelIdealProto.lean ====
/-
The protocol of the exchange, for any float values.

Sixteen devices exchange blocks of 256 columns of the left factor. Device `c` sends the rows `256 j … 256 j + 255` of
its own columns to device `j`, which puts them at the columns `256 c … 256 c + 255` of its gathered block; a device
lets nobody write into its gathered block before it has signalled that peer's barrier semaphore. This file states the
cells of that protocol, what each of them hands over, and the contents every buffer ends with.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit.Geometry
public import Idealize.ShloMosaic.Lib.Rounds
public import Idealize.ShloMosaic.Lib.Transfers
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the exchange's rounds, the local copies' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds sit in the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ) (ρ : Dev nD → PrngReg)

/-! ## Buffers, semaphores and cells -/

abbrev xM : Memref sig .tc .hbm S4096x256 .f32 := Memref.whole main_arg0
abbrev wM : Memref sig .tc .hbm S4096x2048 .f32 := Memref.whole main_arg1
abbrev sxM : Memref sig .tc .smem S1 .f32 := Memref.whole cc0_stg0_0
abbrev swM : Memref sig .tc .smem S1 .f32 := Memref.whole cc0_stg1_0
abbrev oM : Memref sig .tc .vmem S256x2048 .f32 := Memref.whole cc0_stg2_0
abbrev xfM : Memref sig .tc .vmem S4096x256 .f32 := Memref.whole cc0_scratch0
abbrev x8M : Memref sig .tc .vmem S4096x256 .fp8e5m2 := Memref.whole cc0_scratch1
abbrev cmM : Memref sig .tc .vmem S256x4096 .fp8e5m2 := Memref.whole cc0_scratch2
abbrev wfM : Memref sig .tc .vmem S2x1024x2048 .f32 := Memref.whole cc0_scratch3
abbrev w8M : Memref sig .tc .vmem S2x1024x2048 .fp8e5m2 := Memref.whole cc0_scratch4

/-- The barrier semaphore; one send and one receive semaphore for each peer; the semaphores of the local copies. -/
abbrev barS : SemLoc sig := .reg (SemArray.scalar (sig.barrier 0 rfl) : Sems sig S_).sem
def sendS (j : Dev nD) : SemLoc sig :=
  .dma ((cc0_scratch5.slice (Rect.unit (s := S16) ![j.val] S1.size (Rect.inb₁ (show j.val + 1 ≤ 16 from j.isLt)))).squeeze S_ squeezes_S1_S_).sem
def recvS (j : Dev nD) : SemLoc sig :=
  .dma ((cc0_scratch6.slice (Rect.unit (s := S16) ![j.val] S1.size (Rect.inb₁ (show j.val + 1 ≤ 16 from j.isLt)))).squeeze S_ squeezes_S1_S_).sem
def wS (s : Fin 2) : SemLoc sig :=
  .dma ((cc0_scratch7.slice (Rect.unit (s := S2) ![s.val] S1.size (Rect.inb₁ (show s.val + 1 ≤ 2 from s.isLt)))).squeeze S_ squeezes_S1_S_).sem
def xS (s : Fin 4) : SemLoc sig :=
  .dma ((cc0_scratch8.slice (Rect.unit (s := S4) ![s.val] S1.size (Rect.inb₁ (show s.val + 1 ≤ 4 from s.isLt)))).squeeze S_ squeezes_S1_S_).sem

theorem sendS_injective : Function.Injective sendS := by decide +kernel
theorem recvS_injective : Function.Injective recvS := by decide +kernel
theorem send_ne_recv (j k : Dev nD) : sendS j ≠ recvS k := by revert j k; decide +kernel
theorem send_ne_bar (j : Dev nD) : sendS j ≠ barS := fun h => by cases h
theorem recv_ne_bar (j : Dev nD) : recvS j ≠ barS := fun h => by cases h
theorem w_ne_recv (s : Fin 2) (k : Dev nD) : wS s ≠ recvS k := by revert s k; decide +kernel
theorem x_ne_recv (s : Fin 4) (k : Dev nD) : xS s ≠ recvS k := by revert s k; decide +kernel

abbrev barCell (c : Dev nD) : GSem nD τ sig := ((c : Thread nD τ), barS)
abbrev sendCell (c j : Dev nD) : GSem nD τ sig := ((c : Thread nD τ), sendS j)
abbrev recvCell (c j : Dev nD) : GSem nD τ sig := ((c : Thread nD τ), recvS j)

/-! ## The parts of the buffers

Every buffer is cut along one axis into blocks of equal length; a part is named by the coordinates' quotient. -/

/-- The rows `n k … n k + n - 1` of an array of rank two. -/
def rows {d : Fin 2 → Nat} (n k : Nat) : Finset (⟨2, d⟩ : Shape).Idx := Finset.univ.filter fun i => (i 0 : Nat) / n = k
/-- The columns `n k … n k + n - 1` of an array of rank two. -/
def cols {d : Fin 2 → Nat} (n k : Nat) : Finset (⟨2, d⟩ : Shape).Idx := Finset.univ.filter fun i => (i 1 : Nat) / n = k

theorem div_eq_iff {n : Nat} (hn : 0 < n) (a k : Nat) : a / n = k ↔ n * k ≤ a ∧ a < n * k + n := by
  rw [Nat.div_eq_iff hn, Nat.mul_comm k n]; omega

/-- A block of whole rows of a whole buffer is a set of rows. -/
theorem rect_rows {d : Fin 2 → Nat} (n k : Nat) (hn : 0 < n) {off size : Fin 2 → Nat} {inb}
    (h0 : off 0 = n * k) (h1 : off 1 = 0) (s0 : size 0 = n) (s1 : size 1 = d 1) :
    (Rect.unit (s := ⟨2, d⟩) off size inb).set = rows n k := by
  ext i
  rw [Rect.mem_set_unit, rows, Finset.mem_filter, div_eq_iff hn]
  have hi : (i 1 : Nat) < d 1 := (i 1).isLt
  constructor
  · intro h; have := h 0; exact ⟨Finset.mem_univ _, by omega, by omega⟩
  · rintro ⟨-, ha, hb⟩
    refine Fin.forall_fin_two.mpr ⟨?_, ?_⟩ <;> constructor <;> first | omega | skip

/-- A block of whole columns of a whole buffer is a set of columns. -/
theorem rect_cols {d : Fin 2 → Nat} (n k : Nat) (hn : 0 < n) {off size : Fin 2 → Nat} {inb}
    (h0 : off 1 = n * k) (h1 : off 0 = 0) (s0 : size 1 = n) (s1 : size 0 = d 0) :
    (Rect.unit (s := ⟨2, d⟩) off size inb).set = cols n k := by
  ext i
  rw [Rect.mem_set_unit, cols, Finset.mem_filter, div_eq_iff hn]
  have hi : (i 0 : Nat) < d 0 := (i 0).isLt
  constructor
  · intro h; have := h 1; exact ⟨Finset.mem_univ _, by omega, by omega⟩
  · rintro ⟨-, ha, hb⟩
    refine Fin.forall_fin_two.mpr ⟨?_, ?_⟩ <;> constructor <;> first | omega | skip

/-- A points-to cut along a finite classification of its elements. -/
theorem pts_cut {ι : Type} [Fintype ι] [DecidableEq ι] {ℓ : Loc nD τ sig} (S : Finset (Idx ℓ)) (q : PosShare TreeShare)
    (f : Buf (Elt F) ℓ) (K : ι → Finset (Idx ℓ)) (hK : ∀ i, i ∈ S ↔ ∃ k, i ∈ K k)
    (hd : ∀ i k k', i ∈ K k → i ∈ K k' → k = k') :
    (ℓ ↦[S]{q} f : sProp 𝕄) = bigSep Finset.univ fun k => ℓ ↦[K k]{q} f := by
  rw [← pointsTo_biUnion Finset.univ K fun k _ k' _ hne => Finset.disjoint_left.mpr fun i hi hi' => hne (hd i k k' hi hi')]
  congr 1
  ext i
  rw [hK i]; simp

/-! ## Contents -/

/-- The index `(a, b)` of an array of rank two. -/
def at2 {d : Fin 2 → Nat} (a b : Nat) (ha : a < d 0) (hb : b < d 1) : (⟨2, d⟩ : Shape).Idx
  | ⟨0, _⟩ => ⟨a, ha⟩
  | ⟨1, _⟩ => ⟨b, hb⟩

/-- An index of an array of rank two is its two coordinates. -/
theorem eq_at2 {d : Fin 2 → Nat} (i : (⟨2, d⟩ : Shape).Idx) (a b : Nat) (ha : a < d 0) (hb : b < d 1)
    (h0 : (i 0 : Nat) = a) (h1 : (i 1 : Nat) = b) : i = at2 a b ha hb :=
  funext fun k => Fin.ext (match k with | ⟨0, _⟩ => h0 | ⟨1, _⟩ => h1)

/-- Device `c`'s columns of the left factor. -/
def X (c : Dev nD) : S4096x256.Idx → Elt F .f32 := m ((c : Thread nD τ).loc main_arg0)
/-- The right factor, which every device holds. -/
def Wt (c : Dev nD) : S4096x2048.Idx → Elt F .f32 := m ((c : Thread nD τ).loc main_arg1)
/-- Device `c`'s columns of the left factor, rounded to 8 bits. -/
def X8 (c : Dev nD) : S4096x256.Idx → Elt F .fp8e5m2 := truncf .fp8e5m2 (X m c) bitsLt_fp8e5m2_f32
/-- Device `c`'s gathered block: the rows `256 c …` of everybody's rounded columns, side by side. -/
def Gt (c : Dev nD) : S256x4096.Idx → Elt F .fp8e5m2 := fun i =>
  X8 m ⟨(i 1 : Nat) / 256, by have h : (i 1 : Nat) < 4096 := (i 1).isLt; show _ < 16; omega⟩
    (at2 (256 * c.val + (i 0 : Nat)) ((i 1 : Nat) % 256)
      (by have h : (i 0 : Nat) < 256 := (i 0).isLt; have := c.isLt; show _ < 4096; have : nD = 16 := rfl; omega)
      (by show _ < 256; omega))

/-- The rows `1024 q …` of the right factor, as a slot of two holds them: whichever the slot, -/
def WF (c : Dev nD) (q : Fin 4) : S2x1024x2048.Idx → Elt F .f32 := fun i =>
  Wt m c (at2 (1024 * q.val + (i 1 : Nat)) (i 2 : Nat)
    (by have h : (i 1 : Nat) < 1024 := (i 1).isLt; have := q.isLt; show _ < 4096; omega)
    (by have h : (i 2 : Nat) < 2048 := (i 2).isLt; exact h))
/-- rounded to 8 bits, -/
def W8F (c : Dev nD) (q : Fin 4) : S2x1024x2048.Idx → Elt F .fp8e5m2 := truncf .fp8e5m2 (WF m c q) bitsLt_fp8e5m2_f32
/-- and as an array of their own. -/
def WQ (c : Dev nD) (q : Fin 4) : S1024x2048.Idx → Elt F .f32 := fun i =>
  Wt m c (at2 (1024 * q.val + (i 0 : Nat)) (i 1 : Nat)
    (by have h : (i 0 : Nat) < 1024 := (i 0).isLt; have := q.isLt; show _ < 4096; omega)
    (by have h : (i 1 : Nat) < 2048 := (i 1).isLt; exact h))
def W8Q (c : Dev nD) (q : Fin 4) : S1024x2048.Idx → Elt F .fp8e5m2 := truncf .fp8e5m2 (WQ m c q) bitsLt_fp8e5m2_f32
/-- Quarter `q` of the gathered block: its columns `1024 q …`. -/
def GQ (c : Dev nD) (q : Fin 4) : S256x1024.Idx → Elt F .fp8e5m2 := fun i =>
  Gt m c (at2 (i 0 : Nat) (1024 * q.val + (i 1 : Nat))
    (by have h : (i 0 : Nat) < 256 := (i 0).isLt; exact h)
    (by have h : (i 1 : Nat) < 1024 := (i 1).isLt; have := q.isLt; show _ < 4096; omega))

/-! ## Points-tos of the parts -/

def xA (c : Dev nD) (q : Nat) : sProp 𝕄 := ((c : Thread nD τ).loc main_arg0) ↦[rows (d := ![4096, 256]) 1024 q]{fullShare} X m c
def wA (c : Dev nD) (q : Nat) : sProp 𝕄 := ((c : Thread nD τ).loc main_arg1) ↦[rows (d := ![4096, 2048]) 1024 q]{fullShare} Wt m c
def xfE (c : Dev nD) (q : Nat) : sProp 𝕄 := iprop(∃ f, ((c : Thread nD τ).loc cc0_scratch0) ↦[rows (d := ![4096, 256]) 1024 q]{fullShare} f)
def xfP (c : Dev nD) (q : Nat) : sProp 𝕄 := ((c : Thread nD τ).loc cc0_scratch0) ↦[rows (d := ![4096, 256]) 1024 q]{fullShare} X m c
def x8E (c : Dev nD) (q : Nat) : sProp 𝕄 := iprop(∃ f, ((c : Thread nD τ).loc cc0_scratch1) ↦[rows (d := ![4096, 256]) 1024 q]{fullShare} f)
def x8Q (c : Dev nD) (q : Nat) : sProp 𝕄 := ((c : Thread nD τ).loc cc0_scratch1) ↦[rows (d := ![4096, 256]) 1024 q]{fullShare} X8 m c
/-- The rows device `c` sends to device `j`. -/
def x8P (c j : Dev nD) : sProp 𝕄 := ((c : Thread nD τ).loc cc0_scratch1) ↦[rows (d := ![4096, 256]) 256 j.val]{fullShare} X8 m c
/-- Device `c`'s columns for what device `j` sends, at any contents. -/
def land (c j : Dev nD) : sProp 𝕄 := iprop(∃ f, ((c : Thread nD τ).loc cc0_scratch2) ↦[cols (d := ![256, 4096]) 256 j.val]{fullShare} f)
/-- The same columns once they have arrived. -/
def cmP (c j : Dev nD) : sProp 𝕄 := ((c : Thread nD τ).loc cc0_scratch2) ↦[cols (d := ![256, 4096]) 256 j.val]{fullShare} Gt m c
def cmQ (c : Dev nD) (q : Nat) : sProp 𝕄 := ((c : Thread nD τ).loc cc0_scratch2) ↦[cols (d := ![256, 4096]) 1024 q]{fullShare} Gt m c

instance land_storable (c j : Dev nD) : BI.Storable (upEmb : UEmb _ 𝕄) (land (F := F) c j) := by unfold land; infer_instance
instance x8P_storable (c j : Dev nD) : BI.Storable (upEmb : UEmb _ 𝕄) (x8P m c j) := by unfold x8P; infer_instance
instance cmP_storable (c j : Dev nD) : BI.Storable (upEmb : UEmb _ 𝕄) (cmP m c j) := by unfold cmP; infer_instance

/-- The elements of slot `s` of a buffer of two slots. -/
def slot (s : ℕ) : Finset S2x1024x2048.Idx := Finset.univ.filter fun i => (i 0 : Nat) = s
def wfE (c : Dev nD) (s : ℕ) : sProp 𝕄 := iprop(∃ f, ((c : Thread nD τ).loc cc0_scratch3) ↦[slot s]{fullShare} f)
def wfP (c : Dev nD) (s : ℕ) (q : Fin 4) : sProp 𝕄 := ((c : Thread nD τ).loc cc0_scratch3) ↦[slot s]{fullShare} WF m c q
def w8E (c : Dev nD) (s : ℕ) : sProp 𝕄 := iprop(∃ f, ((c : Thread nD τ).loc cc0_scratch4) ↦[slot s]{fullShare} f)
def w8P (c : Dev nD) (s : ℕ) (q : Fin 4) : sProp 𝕄 := ((c : Thread nD τ).loc cc0_scratch4) ↦[slot s]{fullShare} W8F m c q
/-- The device's block of the result, at contents `v`. -/
def outP (c : Dev nD) (v : S256x2048.Idx → Elt F .f32) : sProp 𝕄 := ((c : Thread nD τ).loc cc0_stg2_0) ↦{fullShare} v

/-! ## The schedule -/

/-- The credit of one block of 256 rows and 256 columns at 8 bits. -/
abbrev N : ℕ := ((cmM.slice (Rect.unit (s := S256x4096) ![0, 0] S256x256.size (Rect.inb₂ (by decide) (by decide))) (fun _ => rfl)).view).dmaCredit
theorem N_pos : 0 < N := View.dmaCredit_pos _ (by decide)

/-- One round. A barrier cell is paid one unit by every other device `d`, which hands over its columns for the cell's
    device. The receive cell for `d` is paid by `d`'s copy, which hands over the columns that arrived; the send cell for
    `d` by the device's own copy to `d`, which hands back the rows it read. A device's cells for itself are never paid. -/
def Rd : Rounds.Schedule (GSem nD τ sig) (Dev nD) 𝕄 where
  duties g r := if r = 0 then Finset.univ.filter fun d => d ≠ g.1.1 ∧ (g.2 = barS ∨ g.2 = recvS d ∨ g.2 = sendS d) else ∅
  unitless _ := False
  amount g _ _ := if g.2 = barS then 1 else N
  payload g _ d :=
    if g.2 = barS then land d g.1.1
    else if g.2 = recvS d then cmP m g.1.1 d
    else if g.2 = sendS d then x8P m g.1.1 d
    else iprop(emp)
  amount_pos g _ _ _ := by
    by_cases h : g.2 = barS
    · rw [if_pos h]; exact Nat.one_pos
    · rw [if_neg h]; exact N_pos

instance Rd_payload_storable (g : GSem nD τ sig) (r : ℕ) (d : Dev nD) :
    BI.Storable (upEmb : UEmb _ 𝕄) ((Rd (F := F) m).payload g r d) := by
  show BI.Storable upEmb (if g.2 = barS then land d g.1.1 else if g.2 = recvS d then cmP m g.1.1 d
    else if g.2 = sendS d then x8P m g.1.1 d else iprop(emp))
  (repeat' split) <;> infer_instance

section Sched
variable (c j : Dev nD)

theorem duties_bar : (Rd (F := F) m).duties (barCell c) 0 = Finset.univ.erase c := by
  dsimp only [Rd]; rw [if_pos rfl]; ext d; simp [barCell]
theorem duties_recv (h : j ≠ c) : (Rd (F := F) m).duties (recvCell c j) 0 = {j} := by
  dsimp only [Rd]; rw [if_pos rfl]; ext d
  simp only [Finset.mem_filter, Finset.mem_univ, true_and, Finset.mem_singleton]
  constructor
  · rintro ⟨-, h | h | h⟩
    · exact absurd h (recv_ne_bar j)
    · exact (recvS_injective h).symm
    · exact absurd h.symm (send_ne_recv d j)
  · rintro rfl; exact ⟨h, .inr (.inl rfl)⟩
theorem duties_send (h : j ≠ c) : (Rd (F := F) m).duties (sendCell c j) 0 = {j} := by
  dsimp only [Rd]; rw [if_pos rfl]; ext d
  simp only [Finset.mem_filter, Finset.mem_univ, true_and, Finset.mem_singleton]
  constructor
  · rintro ⟨-, h | h | h⟩
    · exact absurd h (send_ne_bar j)
    · exact absurd h (send_ne_recv j d)
    · exact (sendS_injective h).symm
  · rintro rfl; exact ⟨h, .inr (.inr rfl)⟩
theorem duties_later (g : GSem nD τ sig) : ∀ r, 1 ≤ r → (Rd (F := F) m).duties g r = ∅ :=
  fun r hr => by dsimp only [Rd]; rw [if_neg fun h => by omega]
theorem duties_recv_self : ∀ r, 0 ≤ r → (Rd (F := F) m).duties (recvCell c c) r = ∅ := fun r _ => by
  rcases Nat.eq_zero_or_pos r with rfl | h
  · dsimp only [Rd]; rw [if_pos rfl]; ext d
    simp only [Finset.mem_filter, Finset.mem_univ, true_and, Finset.notMem_empty, iff_false]
    rintro ⟨hd, h | h | h⟩
    · exact recv_ne_bar c h
    · exact hd (recvS_injective h).symm
    · exact send_ne_recv d c h.symm
  · exact duties_later m _ r h
theorem duties_send_self : ∀ r, 0 ≤ r → (Rd (F := F) m).duties (sendCell c c) r = ∅ := fun r _ => by
  rcases Nat.eq_zero_or_pos r with rfl | h
  · dsimp only [Rd]; rw [if_pos rfl]; ext d
    simp only [Finset.mem_filter, Finset.mem_univ, true_and, Finset.notMem_empty, iff_false]
    rintro ⟨hd, h | h | h⟩
    · exact send_ne_bar c h
    · exact send_ne_recv c d h
    · exact hd (sendS_injective h).symm
  · exact duties_later m _ r h

theorem amount_bar (d : Dev nD) : (Rd (F := F) m).amount (barCell c) 0 d = 1 := by dsimp only [Rd]; exact if_pos rfl
theorem amount_send (d : Dev nD) : (Rd (F := F) m).amount (sendCell c j) 0 d = N := by dsimp only [Rd]; exact if_neg (send_ne_bar j)
theorem amount_recv (d : Dev nD) : (Rd (F := F) m).amount (recvCell c j) 0 d = N := by dsimp only [Rd]; exact if_neg (recv_ne_bar j)

theorem expect_bar : (Rd (F := F) m).expect (barCell c) 0 = 15 := by
  unfold Schedule.expect Schedule.amountOf
  rw [duties_bar, Finset.sum_congr rfl fun d _ => amount_bar m c d, Finset.sum_const, Finset.card_erase_of_mem (Finset.mem_univ _),
    Finset.card_univ, Fintype.card_fin]; rfl
theorem expect_send (h : j ≠ c) : (Rd (F := F) m).expect (sendCell c j) 0 = N := by
  unfold Schedule.expect Schedule.amountOf; rw [duties_send m c j h, Finset.sum_singleton, amount_send]
theorem expect_recv (h : j ≠ c) : (Rd (F := F) m).expect (recvCell c j) 0 = N := by
  unfold Schedule.expect Schedule.amountOf; rw [duties_recv m c j h, Finset.sum_singleton, amount_recv]

theorem payload_bar (d : Dev nD) : (Rd (F := F) m).payload (barCell c) 0 d = land d c := by dsimp only [Rd]; rw [if_pos rfl]
theorem payload_recv : (Rd (F := F) m).payload (recvCell c j) 0 j = cmP m c j := by
  dsimp only [Rd]; rw [if_neg (recv_ne_bar j), if_pos rfl]
theorem payload_send : (Rd (F := F) m).payload (sendCell c j) 0 j = x8P m c j := by
  dsimp only [Rd]; rw [if_neg (send_ne_bar j), if_neg (send_ne_recv j j), if_pos rfl]

theorem rest_bar : bigSep ((Rd (F := F) m).duties (barCell c) 0 \ ∅) (fun d => (Rd (F := F) m).payload (barCell c) 0 d)
    = bigSep (Finset.univ.erase c) fun d => land d c := by
  rw [Finset.sdiff_empty, duties_bar]; exact bigSep_congr fun d _ => payload_bar m c d
theorem rest_send (h : j ≠ c) : bigSep ((Rd (F := F) m).duties (sendCell c j) 0 \ ∅) (fun d => (Rd (F := F) m).payload (sendCell c j) 0 d) = x8P m c j := by
  rw [Finset.sdiff_empty, duties_send m c j h, bigSep_singleton, payload_send]
theorem rest_recv (h : j ≠ c) : bigSep ((Rd (F := F) m).duties (recvCell c j) 0 \ ∅) (fun d => (Rd (F := F) m).payload (recvCell c j) 0 d) = cmP m c j := by
  rw [Finset.sdiff_empty, duties_recv m c j h, bigSep_singleton, payload_recv]

end Sched

/-! ## Orders

A device visits its peers in an order of its own: the group of four it belongs to first, then the following groups. -/

/-- The `i`-th peer of device `c`. -/
def peer (c : Dev nD) (i : ℕ) : Dev nD := ⟨4 * ((c.val / 4 + i / 4) % 4) + i % 4, by show _ < 16; omega⟩
/-- When device `c` visits device `j`. -/
def pos (c j : Dev nD) : ℕ := 4 * ((j.val / 4 + (4 - c.val / 4)) % 4) + j.val % 4
/-- The quarter of the gathered block device `c` works on at step `s`. -/
def quarter (c : Dev nD) (s : ℕ) : Fin 4 := ⟨(c.val / 4 + s) % 4, Nat.mod_lt _ (by decide)⟩

theorem pos_eq_iff (c : Dev nD) (i : Fin 16) (j : Dev nD) : pos c j = i.val ↔ j = peer c i.val := by
  revert c i j; decide +kernel
theorem pos_lt (c j : Dev nD) : pos c j < 16 := by revert c j; decide +kernel

/-- One summand of many, the others dropped. -/
theorem bigSep_get {I : Type} [DecidableEq I] {i : I} {S : Finset I} (h : i ∈ S) {Φ : I → sProp 𝕄} : bigSep S Φ ⊢ Φ i := bigSep_elim h

/-- Every device's item, those visited before step `i` in the second form, the others in the first. -/
def sweep (ord : Dev nD → ℕ) (i : ℕ) (P Q : Dev nD → sProp 𝕄) : sProp 𝕄 :=
  bigSep Finset.univ fun d => if ord d < i then Q d else P d

theorem sweep_zero (ord : Dev nD → ℕ) (P Q : Dev nD → sProp 𝕄) : sweep ord 0 P Q = bigSep Finset.univ P :=
  bigSep_congr fun d _ => if_neg (Nat.not_lt_zero _)
theorem sweep_last (ord : Dev nD → ℕ) {n : ℕ} (h : ∀ d, ord d < n) (P Q : Dev nD → sProp 𝕄) : sweep ord n P Q = bigSep Finset.univ Q :=
  bigSep_congr fun d _ => if_pos (h d)
/-- One step of a sweep: the visited device's item out, and back in its second form. -/
theorem sweep_step (ord : Dev nD → ℕ) (i : ℕ) (j : Dev nD) (hj : ∀ d, ord d = i ↔ d = j) (P Q : Dev nD → sProp 𝕄) :
    sweep ord i P Q ⊢ iprop(P j ∗ (Q j -∗ sweep ord (i + 1) P Q)) := by
  unfold sweep
  have hi : ord j = i := (hj j).mpr rfl
  have hrest : bigSep (Finset.univ.erase j) (fun d => if ord d < i then Q d else P d)
      = bigSep (Finset.univ.erase j) (fun d => if ord d < i + 1 then Q d else P d) :=
    bigSep_congr fun d hd => by
      have hne : ord d ≠ i := fun h => (Finset.mem_erase.mp hd).1 ((hj d).mp h)
      by_cases h : ord d < i
      · rw [if_pos h, if_pos (by omega)]
      · rw [if_neg h, if_neg (by omega)]
  rw [bigSep_univ_at _ j, bigSep_univ_at (fun d => if ord d < i + 1 then Q d else P d) j,
    hrest, if_neg (by omega), if_pos (by omega)]
  iintro ⟨H, HR⟩
  isplitl [H]; · iexact H
  iintro HQ
  isplitl [HQ] <;> iassumption

/-- What is still owed at step `i` of a sweep. -/
def owing (ord : Dev nD → ℕ) (i : ℕ) (T : Dev nD → CellTallies nD τ sig Unit) : CellTallies nD τ sig Unit :=
  ∑ d, if ord d < i then 0 else T d

theorem owing_step (ord : Dev nD → ℕ) (i : ℕ) (j : Dev nD) (hj : ∀ d, ord d = i ↔ d = j) (T : Dev nD → CellTallies nD τ sig Unit) :
    owing ord i T = owing ord (i + 1) T + T j := by
  unfold owing
  have hi : ord j = i := (hj j).mpr rfl
  rw [← Finset.sum_erase_add _ _ (Finset.mem_univ j), ← Finset.sum_erase_add (s := Finset.univ) (f := fun d => if ord d < i + 1 then 0 else T d) (Finset.mem_univ j),
    if_neg (by omega), if_pos (by omega), add_zero]
  congr 1
  refine Finset.sum_congr rfl fun d hd => ?_
  have hne : ord d ≠ i := fun h => (Finset.mem_erase.mp hd).1 ((hj d).mp h)
  by_cases h : ord d < i
  · rw [if_pos h, if_pos (by omega)]
  · rw [if_neg h, if_neg (by omega)]
theorem owing_last (ord : Dev nD → ℕ) {n : ℕ} (h : ∀ d, ord d < n) (T : Dev nD → CellTallies nD τ sig Unit) : owing ord n T = 0 :=
  Finset.sum_eq_zero fun d _ => if_pos (h d)
theorem owing_apply (ord : Dev nD → ℕ) (i : ℕ) (T : Dev nD → CellTallies nD τ sig Unit) (g : GSem nD τ sig) (u : Unit) :
    owing ord i T g u = ∑ d, if ord d < i then 0 else T d g u := by
  unfold owing
  rw [Finset.sum_apply, Finsupp.finset_sum_apply]
  exact Finset.sum_congr rfl fun d _ => by split <;> rfl

/-- The credit device `c` owes the receive cells, its copies to the peers before step `i` made; -/
def owedRecv (c : Dev nD) (i : ℕ) : CellTallies nD τ sig Unit := owing (pos c) i fun d => if d = c then 0 else tallyAt (recvCell d c) () N
/-- the units it owes the barrier cells, the peers below `i` signalled. -/
def owedBar (c : Dev nD) (i : ℕ) : CellTallies nD τ sig Unit := owing Fin.val i fun d => if d = c then 0 else tallyAt (barCell d) () 1
/-- What device `c` owes at launch. -/
def O₀ (c : Dev nD) : CellTallies nD τ sig Unit := owedRecv c 0 + owedBar c 0

theorem owedRecv_pos {c : Dev nD} {i : ℕ} {g : GSem nD τ sig} {u : Unit} (h : 0 < owedRecv c i g u) : ∃ d : Dev nD, g = recvCell d c := by
  by_contra hn
  rw [owedRecv, owing_apply, Finset.sum_eq_zero] at h
  · exact Nat.lt_irrefl 0 h
  · intro d _
    split
    · rfl
    · split
      · rfl
      · rw [tallyAt_apply, if_neg fun h' => hn ⟨d, h'.1⟩]
theorem owedBar_pos {c : Dev nD} {i : ℕ} {g : GSem nD τ sig} {u : Unit} (h : 0 < owedBar c i g u) : ∃ d : Dev nD, g = barCell d := by
  by_contra hn
  rw [owedBar, owing_apply, Finset.sum_eq_zero] at h
  · exact Nat.lt_irrefl 0 h
  · intro d _
    split
    · rfl
    · split
      · rfl
      · rw [tallyAt_apply, if_neg fun h' => hn ⟨d, h'.1⟩]

/-! ## Levels: barrier cells below receive cells, every other cell below both -/

def L (g : GSem nD τ sig) : Finset Unit := if g.1.2 = .tc then {()} else ∅
def lv (g : GSem nD τ sig) (_ : Unit) : ℕ := if g.2 = barS then 1 else if ∃ j, g.2 = recvS j then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c j : Dev nD) : lv (recvCell c j) () = 2 := by
  unfold lv; rw [if_neg (recv_ne_bar j), if_pos ⟨j, rfl⟩]
theorem lv_other (c : Dev nD) (sm : SemLoc sig) (h : sm ≠ barS) (h' : ∀ j, sm ≠ recvS j) : lv ((c : Thread nD τ), sm) () = 0 := by
  unfold lv; rw [if_neg h, if_neg fun ⟨j, hj⟩ => h' j hj]

/-- A wait on a cell that is neither a barrier nor a receive cell, whatever of the launch's debt is left. -/
theorem mayWait_other (c : Dev nD) (sm : SemLoc sig) (h : sm ≠ barS) (h' : ∀ j, sm ≠ recvS j) (O : CellTallies nD τ sig Unit)
    (hO : ∀ g u, 0 < O g u → (∃ d, g = barCell d) ∨ ∃ d, g = recvCell d c) :
    (levAts L lv : sProp 𝕄) ⊢ MayWait (c : Thread nD τ) sm () O :=
  MayOwe.of_cut (L := L) (lev := lv) 0 (fun p hp => by rw [Finset.mem_singleton.mp hp, L_tc]; exact Finset.mem_singleton_self _)
    (fun g u hg => by rcases hO g u hg with ⟨d, rfl⟩ | ⟨d, rfl⟩ <;> exact Finset.mem_singleton_self _)
    (fun p hp => by rw [Finset.mem_singleton.mp hp, lv_other c sm h h'])
    (fun g u hg => by
      rcases hO g u hg with ⟨d, rfl⟩ | ⟨d, rfl⟩
      · rw [lv_bar]; decide
      · rw [lv_recv]; decide)

/-- A wait on the barrier cell, owing receive credit only. -/
theorem mayWait_bar (c : Dev nD) (i : ℕ) : (levAts L lv : sProp 𝕄) ⊢ MayWait (c : Thread nD τ) barS () (owedRecv c i) :=
  MayOwe.of_cut (L := L) (lev := lv) 1 (fun p hp => by rw [Finset.mem_singleton.mp hp, L_tc]; exact Finset.mem_singleton_self _)
    (fun g u hg => by obtain ⟨d, rfl⟩ := owedRecv_pos hg; exact Finset.mem_singleton_self _)
    (fun p hp => by rw [Finset.mem_singleton.mp hp, lv_bar])
    (fun g u hg => by obtain ⟨d, rfl⟩ := owedRecv_pos hg; rw [lv_recv]; decide)

/-- The debt of a core, whatever it has waited for. -/
def ow (c : Dev nD) (O : CellTallies nD τ sig Unit) : sProp 𝕄 := iprop(∃ W, owes (c : Thread nD τ) O W)

/-! ## The cells' records -/

/-- The exchange's cells on one device: its barrier's, its send cells, its receive cells. -/
abbrev CI : Type := Unit ⊕ Dev nD ⊕ Dev nD
def csem : CI → SemLoc sig := Sum.elim (fun _ => barS) (Sum.elim sendS recvS)
def kcell (x : Dev nD × CI) : GSem nD τ sig := ((x.1 : Thread nD τ), csem x.2)

theorem csem_injective : Function.Injective csem := by
  rintro (_ | a | a) (_ | b | b) h
  · rfl
  · exact absurd h.symm (send_ne_bar b)
  · exact absurd h.symm (recv_ne_bar b)
  · exact absurd h (send_ne_bar a)
  · exact congrArg (fun z => Sum.inr (Sum.inl z)) (sendS_injective h)
  · exact absurd h (send_ne_recv a b)
  · exact absurd h (recv_ne_bar a)
  · exact absurd h.symm (send_ne_recv b a)
  · exact congrArg (fun z => Sum.inr (Sum.inr z)) (recvS_injective h)
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
def cells : Finset (GSem nD τ sig) := Finset.univ.map ⟨kcell, kcell_injective⟩

theorem kcell_mem (x : Dev nD × CI) : kcell x ∈ cells := Finset.mem_map_of_mem _ (Finset.mem_univ x)

/-- Every cell's invariant, and that every cell has reached round 0. -/
def recs : sProp 𝕄 := iprop(∃ K : GSem nD τ sig → ℕ, (bigSep cells fun g => cellInv ER (Rd m) (K g) g) ∗ bigSep cells fun g => reached ER g 0)

instance recs_persistent : BI.Persistent (recs (F := F) m) := by unfold recs; infer_instance

theorem recs_at (x : Dev nD × CI) : recs (F := F) m ⊢ iprop(∃ κ, cellInv ER (Rd m) κ (kcell x) ∗ reached ER (kcell x) 0) := by
  unfold recs
  iintro ⟨%K, HI, HR⟩
  iexists (K (kcell x))
  isplitl [HI]
  · iapply (bigSep_get (Φ := fun g => (cellInv ER (Rd m) (K g) g : sProp 𝕄)) (kcell_mem x)); iexact HI
  · iapply (bigSep_get (Φ := fun g => (reached ER g 0 : sProp 𝕄)) (kcell_mem x)); iexact HR
theorem recs_bar (c : Dev nD) : recs (F := F) m ⊢ iprop(∃ κ, cellInv ER (Rd m) κ (barCell c) ∗ reached ER (barCell c) 0) := recs_at m (c, .inl ())
theorem recs_send (c j : Dev nD) : recs (F := F) m ⊢ iprop(∃ κ, cellInv ER (Rd m) κ (sendCell c j) ∗ reached ER (sendCell c j) 0) := recs_at m (c, .inr (.inl j))
theorem recs_recv (c j : Dev nD) : recs (F := F) m ⊢ iprop(∃ κ, cellInv ER (Rd m) κ (recvCell c j) ∗ reached ER (recvCell c j) 0) := recs_at m (c, .inr (.inr j))

end Cert.KernelIdeal.Exchange

end
-- ==== Proof.KernelIdealSteps.lean ====
/-
The steps of the exchange's body, for any float values.

Each theorem takes one operation of the body, or one guarded block of it, from what the device holds before to what it
holds after: a local copy started or waited for, a load, a store, a signal, a copy to a peer, a wait for a peer's copy.
The offsets are variables with their values as hypotheses, so one theorem serves every place where the body does the
same thing.
-/
module

public import proofs.«01_k».proof.Proof.KernelIdealProto

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`'s core. -/
abbrev Wp {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What every step may use: the records of the exchange's cells, and the levels. -/
def ctx : sProp 𝕄 := iprop(recs m ∗ levAts L lv)
instance ctx_persistent : BI.Persistent (ctx (F := F) m) := by unfold ctx; infer_instance

/-! ## Parts of the buffers, seen through the views the body uses -/

/-- A part written through a view with what the view reads off some contents holds those contents. -/
theorem pts_written {sp : Space} {s : Shape} {e : EltTy} (t : Thread nD τ) (v : View sig t.2.kind sp s e) (q : PosShare TreeShare)
    (f G : Buf (Elt F) (v.loc t)) (w : s.Idx → Elt F e) (h : w = v.read (Elt F) G) :
    (v.loc t ↦[v.set]{q} (v.write (Elt F) f w Finset.univ) : sProp 𝕄) = v.loc t ↦[v.set]{q} G :=
  pointsTo_congr fun i hi => by
    obtain ⟨j, -, rfl⟩ := Finset.mem_map.mp hi
    rw [h, View.write_emb, View.read_apply, if_pos (Finset.mem_univ _)]
    simp

/-- A load of a part: what the view reads off the part's contents. -/
theorem load_part {α : Type} {Q : α → sProp 𝕄} (c : Dev nD) {cs : CoreSpace} {s : Shape} {e : EltTy} {M : Memref sig .tc cs s e} {r : Rect s} {hl : M.view.LoadsAt r}
    {k : (r.shape.Idx → Elt F e) → Prog (TpuEff nD τ sig (Elt F) Λ₀ .tc) α} {S : Finset (Idx ((M.access r).loc (c : Thread nD τ)))} {q : PosShare TreeShare}
    {G : Buf (Elt F) ((M.access r).loc (c : Thread nD τ))} {w : r.shape.Idx → Elt F e}
    (hS : (M.access r).set ⊆ S) (hw : (M.access r).read (Elt F) G = w) :
    ((M.access r).loc (c : Thread nD τ) ↦[S]{q} G)
      ⊢ iprop((((M.access r).loc (c : Thread nD τ) ↦[S]{q} G) -∗ Wp c (k w) Q) -∗ Wp c (.op (.load M r hl) k) Q) := by
  subst hw
  exact wp_load_rect 𝒱₀ (c : Thread nD τ) none Set.univ hS

/-- A store over a part: the part holds the contents the stored value is read off. -/
theorem store_part {α : Type} {Q : α → sProp 𝕄} (c : Dev nD) {cs : CoreSpace} {s : Shape} {e : EltTy} {M : Memref sig .tc cs s e} {r : Rect s} {w : r.shape.Idx → Elt F e}
    {hx : (M.access r).Stores Finset.univ} {hm} {k : PUnit → Prog (TpuEff nD τ sig (Elt F) Λ₀ .tc) α}
    {S : Finset (Idx ((M.access r).loc (c : Thread nD τ)))} {f G : Buf (Elt F) ((M.access r).loc (c : Thread nD τ))}
    (hS : (M.access r).set = S) (hw : w = (M.access r).read (Elt F) G) :
    ((M.access r).loc (c : Thread nD τ) ↦[S]{fullShare} f)
      ⊢ iprop((((M.access r).loc (c : Thread nD τ) ↦[S]{fullShare} G) -∗ Wp c (k ⟨⟩) Q) -∗ Wp c (.op (.store M r w Finset.univ hx hm) k) Q) := by
  subst hS
  rw [← pts_written (c : Thread nD τ) (M.access r) fullShare f G w hw]
  exact wp_store 𝒱₀ (c : Thread nD τ) none Set.univ (View.setOn_univ _).le

/-- A local copy of one part over another: it will deliver both, the target at the contents its view reads the same of. -/
theorem copy_part {α : Type} {Q : α → sProp 𝕄} (c : Dev nD) {sp sp' : Space} {s : Shape} {e : EltTy} {src : Memref sig .tc sp s e} {dst : Memref sig .tc sp' s e} {sm sm' : SemLoc sig}
    {w₁ w₂ ty} {k : PUnit → Prog (TpuEff nD τ sig (Elt F) Λ₀ .tc) α} (N : ℕ) (hN : dst.view.amount sm = N) (hN0 : 0 < N) (hsm : sm = sm')
    {S : Finset (Idx (src.view.loc (c : Thread nD τ)))} {D : Finset (Idx (dst.view.loc (c : Thread nD τ)))}
    {G : Buf (Elt F) (src.view.loc (c : Thread nD τ))} {f G' : Buf (Elt F) (dst.view.loc (c : Thread nD τ))}
    (hS : src.view.set = S) (hD : dst.view.set = D) (hr : src.view.read (Elt F) G = dst.view.read (Elt F) G') :
    iprop((src.view.loc (c : Thread nD τ) ↦[S]{fullShare} G) ∗ (dst.view.loc (c : Thread nD τ) ↦[D]{fullShare} f) ∗ semVal ((c : Thread nD τ), sm') 0)
      ⊢ iprop((Flight EC (c : Thread nD τ) sm' () N iprop((dst.view.loc (c : Thread nD τ) ↦[D]{fullShare} G') ∗ (src.view.loc (c : Thread nD τ) ↦[S]{fullShare} G))
          -∗ Wp c (k ⟨⟩) Q) -∗ Wp c (.op (.enqueueDma src (.here dst) sm w₁ w₂ ty) k) Q) := by
  subst hS; subst hD; subst hsm
  have hw := pts_written (c : Thread nD τ) dst.view fullShare f G' (src.view.read (Elt F) G) hr
  iintro H Hk
  iapply (wp_dmaLocal EC 𝒱₀ (c : Thread nD τ) none () N hN hN0 (Finset.Subset.refl _)) $$ [H]
  · iexact H
  iintro HF
  iapply Hk
  iapply (Flight_mono EC (c : Thread nD τ) (sep_mono_left (Entails.of_eq hw))); iexact HF

/-- A wait for a local copy of the device, whatever of the launch's debt is left. -/
theorem copy_wait {α : Type} {Q : α → sProp 𝕄} (c : Dev nD) {sp sp' : Space} {s s' : Shape} {e e' : EltTy} {src : Memref sig .tc sp s e} {dst : Memref sig .tc sp' s' e'} {sem : DmaSem sig}
    {sm : SemLoc sig} {w₁ w₂} {k : PUnit → Prog (TpuEff nD τ sig (Elt F) Λ₀ .tc) α} {N : ℕ} (hN : dst.view.dmaCredit = N) (hsm : SemLoc.dma sem = sm) (i : ℕ)
    (h : ∀ j, sm ≠ recvS j) {D : sProp 𝕄} :
    iprop(ctx m ∗ Flight EC (c : Thread nD τ) sm () N D ∗ ow c (owedRecv c i))
      ⊢ iprop((iprop(D ∗ semVal ((c : Thread nD τ), sm) 0 ∗ ow c (owedRecv c i)) -∗ Wp c (k ⟨⟩) Q) -∗ Wp c (.op (.waitDma2 sem src dst w₁ w₂) k) Q) := by
  subst hsm
  unfold ctx ow
  iintro ⟨⟨-, HL⟩, HF, ⟨%W, HO⟩⟩ Hk
  iapply (wp_waitLocalO EC 𝒱₀ (c : Thread nD τ) none () hN) $$ [HL HF HO]
  · isplitl [HF]; · iexact HF
    isplitl [HO]; · iexact HO
    iapply (mayWait_other c (.dma sem) (fun h => by cases h) h _ fun g u hg => .inr (owedRecv_pos hg)); iexact HL
  iintro ⟨HD, Hv, HO⟩
  iapply Hk
  isplitl [HD]; · iexact HD
  isplitl [Hv]; · iexact Hv
  iexists _; iexact HO

/-! ## What the views read -/

theorem set_slot {b : Ref sig .tc} {off : Fin 3 → ℕ} {inb} (s : ℕ) (h0 : off 0 = s) (h1 : off 1 = 0) (h2 : off 2 = 0) :
    (Rect.unit (s := S2x1024x2048) off S1x1024x2048.size inb).set = slot s := by
  ext i
  rw [Rect.mem_set_unit, slot, Finset.mem_filter]
  have hi1 : (i 1 : Nat) < 1024 := (i 1).isLt
  have hi2 : (i 2 : Nat) < 2048 := (i 2).isLt
  constructor
  · intro h
    have h' : off 0 ≤ (i 0 : Nat) ∧ (i 0 : Nat) < off 0 + 1 := h 0
    exact ⟨Finset.mem_univ _, by omega⟩
  · rintro ⟨-, ha⟩
    intro a
    match a with
    | ⟨0, _⟩ => show off 0 ≤ (i 0 : Nat) ∧ (i 0 : Nat) < off 0 + 1; omega
    | ⟨1, _⟩ => show off 1 ≤ (i 1 : Nat) ∧ (i 1 : Nat) < off 1 + 1024; omega
    | ⟨2, _⟩ => show off 2 ≤ (i 2 : Nat) ∧ (i 2 : Nat) < off 2 + 2048; omega

/-- A slot's rows, read as an array of one slot. -/
def W1 (c : Dev nD) (q : Fin 4) : S1x1024x2048.Idx → Elt F .f32 := fun i =>
  Wt m c (at2 (1024 * q.val + (i 1 : Nat)) (i 2 : Nat)
    (by have h : (i 1 : Nat) < 1024 := (i 1).isLt; have := q.isLt; show _ < 4096; omega)
    (by have h : (i 2 : Nat) < 2048 := (i 2).isLt; exact h))
def W81 (c : Dev nD) (q : Fin 4) : S1x1024x2048.Idx → Elt F .fp8e5m2 := truncf .fp8e5m2 (W1 m c q) bitsLt_fp8e5m2_f32

theorem at2_congr {d : Fin 2 → Nat} {a a' b b' : Nat} {ha hb ha' hb'} (h : a = a') (h' : b = b') :
    (at2 a b ha hb : (⟨2, d⟩ : Shape).Idx) = at2 a' b' ha' hb' := by subst h; subst h'; rfl

theorem read_wf (c : Dev nD) (q : Fin 4) {off : Fin 3 → ℕ} {inb} (h1 : off 1 = 0) (h2 : off 2 = 0) :
    (wfM.access (Rect.unit (s := S2x1024x2048) off S1x1024x2048.size inb)).read (Elt F) (WF m c q) = W1 m c q := by
  funext i
  show WF m c q ((Rect.unit (s := S2x1024x2048) off S1x1024x2048.size inb).emb i) = _
  unfold WF W1
  exact congrArg (Wt m c) (at2_congr (by rw [ValueKit.rect_emb_unit_val, h1, Nat.zero_add]) (by rw [ValueKit.rect_emb_unit_val, h2, Nat.zero_add]))
theorem read_w8 (c : Dev nD) (q : Fin 4) {off : Fin 3 → ℕ} {inb} (h1 : off 1 = 0) (h2 : off 2 = 0) :
    (w8M.access (Rect.unit (s := S2x1024x2048) off S1x1024x2048.size inb)).read (Elt F) (W8F m c q) = W81 m c q := by
  funext i
  show FloatOps.truncf .fp8e5m2 _ (WF m c q ((Rect.unit (s := S2x1024x2048) off S1x1024x2048.size inb).emb i)) = FloatOps.truncf .fp8e5m2 _ (W1 m c q i)
  unfold WF W1
  exact congrArg (fun z => FloatOps.truncf .fp8e5m2 _ (Wt m c z))
    (at2_congr (by rw [ValueKit.rect_emb_unit_val, h1, Nat.zero_add]) (by rw [ValueKit.rect_emb_unit_val, h2, Nat.zero_add]))
theorem cast_W1 (c : Dev nD) (q : Fin 4) (h) : shapeCast S1024x2048 (W1 m c q) h = WQ m c q := by
  funext j
  rw [shapeCast_dropUnit_apply ![1024, 2048] (W1 m c q) h j]
  rfl
theorem cast_W81 (c : Dev nD) (q : Fin 4) (h) : shapeCast S1024x2048 (W81 m c q) h = W8Q m c q := by
  funext j
  rw [shapeCast_dropUnit_apply ![1024, 2048] (W81 m c q) h j]
  rfl
theorem cast_W8Q (c : Dev nD) (q : Fin 4) (h) : shapeCast S1x1024x2048 (W8Q m c q) h = W81 m c q := by
  funext j
  rw [shapeCast_addUnit_apply ![1024, 2048] (W8Q m c q) h j]
  rfl
theorem read_wcopy (c : Dev nD) (q : Fin 4) {off : Fin 2 → ℕ} {off' : Fin 3 → ℕ} {inb inb' hu hu' sq} (h0 : off 0 = 1024 * q.val) (h1 : off 1 = 0)
    (h1' : off' 1 = 0) (h2' : off' 2 = 0) :
    (wM.slice (Rect.unit (s := S4096x2048) off S1024x2048.size inb) hu).view.read (Elt F) (Wt m c)
      = ((wfM.slice (Rect.unit (s := S2x1024x2048) off' S1x1024x2048.size inb') hu').squeeze S1024x2048 sq).view.read (Elt F) (WF m c q) := by
  have h : (wM.slice (Rect.unit (s := S4096x2048) off S1024x2048.size inb) hu).view.read (Elt F) (Wt m c) = WQ m c q := by
    funext i
    show Wt m c ((Rect.unit (s := S4096x2048) off S1024x2048.size inb).emb i) = _
    unfold WQ
    exact congrArg (Wt m c) (eq_at2 _ _ _ _ _ (by rw [ValueKit.rect_emb_unit_val, h0]) (by rw [ValueKit.rect_emb_unit_val, h1, Nat.zero_add]))
  rw [h, ← cast_W1 m c q (by decide), ← read_wf m c q (inb := inb') h1' h2']
  rfl
theorem read_xcopy (c : Dev nD) {off : Fin 2 → ℕ} {inb inb' hu hu'} :
    (xM.slice (Rect.unit (s := S4096x256) off S1024x256.size inb) hu).view.read (Elt F) (X m c)
      = (xfM.slice (Rect.unit (s := S4096x256) off S1024x256.size inb') hu').view.read (Elt F) (X m c) := rfl
theorem read_cm (c : Dev nD) (q : Fin 4) {off : Fin 2 → ℕ} {inb} (h0 : off 0 = 0) (h1 : off 1 = 1024 * q.val) :
    (cmM.access (Rect.unit (s := S256x4096) off S256x1024.size inb)).read (Elt F) (Gt m c) = GQ m c q := by
  funext i
  show Gt m c ((Rect.unit (s := S256x4096) off S256x1024.size inb).emb i) = _
  unfold GQ
  exact congrArg (Gt m c) (eq_at2 _ _ _ _ _ (by rw [ValueKit.rect_emb_unit_val, h0, Nat.zero_add]) (by rw [ValueKit.rect_emb_unit_val, h1]))
/-- The rows device `c` holds for device `j`, read as the columns device `j` keeps for device `c`. -/
theorem read_block (c j : Dev nD) {off off' : Fin 2 → ℕ} {inb inb'} (h0 : off 0 = 256 * j.val) (h1 : off 1 = 0) (h0' : off' 0 = 0) (h1' : off' 1 = 256 * c.val)
    (i : S256x256.Idx) :
    X8 m c ((Rect.unit (s := S4096x256) off S256x256.size inb).emb i) = Gt m j ((Rect.unit (s := S256x4096) off' S256x256.size inb').emb i) := by
  have hi : (i 1 : Nat) < 256 := (i 1).isLt
  have e1 : (((Rect.unit (s := S256x4096) off' S256x256.size inb').emb i 1 : Fin _) : Nat) = 256 * c.val + (i 1 : Nat) := by
    rw [ValueKit.rect_emb_unit_val, h1']
  have e0 : (((Rect.unit (s := S256x4096) off' S256x256.size inb').emb i 0 : Fin _) : Nat) = (i 0 : Nat) := by
    rw [ValueKit.rect_emb_unit_val, h0', Nat.zero_add]
  unfold Gt
  have hc : ∀ h, (⟨(((Rect.unit (s := S256x4096) off' S256x256.size inb').emb i 1 : Fin _) : Nat) / 256, h⟩ : Dev nD) = c := fun h =>
    Fin.ext (by show _ / 256 = c.val; rw [e1]; omega)
  rw [hc]
  refine congrArg (X8 m c) (eq_at2 _ _ _ _ _ ?_ ?_)
  · rw [ValueKit.rect_emb_unit_val, h0, e0]
  · rw [ValueKit.rect_emb_unit_val, h1, Nat.zero_add, e1]; omega

/-! ## The barrier -/

/-- What device `c` gives device `j` with its signal, and the right to signal; -/
def sigPre (c j : Dev nD) : sProp 𝕄 := iprop(land c j ∗ dutyTok ER (barCell j) 0 c)
/-- its own columns stay with it. -/
def sigPost (c j : Dev nD) : sProp 𝕄 := if j = c then land c c else iprop(emp)

/-- The signal to device `i`, which device `i` skips. -/
theorem sig_step {α : Type} {Q : α → sProp 𝕄} (c : Dev nD) (i : Fin 16) {cond : BitVec 1} {dv : ℕ} {lt : cond = 1#1 → dv < 16}
    {K : Prog (TpuEff nD τ sig (Elt F) Λ₀ .tc) α} (hc : cond = 1#1 ↔ i ≠ c) (hd : dv = i.val) :
    iprop(ctx m ∗ ow c (owedRecv c 0 + owedBar c i.val) ∗ sweep Fin.val i.val (sigPre c) (sigPost c))
      ⊢ iprop((iprop(ow c (owedRecv c 0 + owedBar c (i.val + 1)) ∗ sweep Fin.val (i.val + 1) (sigPre c) (sigPost c)) -∗ Wp c K Q)
        -∗ Wp c (if h : cond = 1#1 then
            .op (.semSignal (((⟨dv, lt h⟩ : Dev nD), .tc) : Thread nD τ) (SemArray.scalar (sig.barrier 0 rfl) : Sems sig S_).sem ((1#32).toInt)) fun _ => K
          else K) Q) := by
  have hj : ∀ d : Dev nD, d.val = i.val ↔ d = i := fun d => Fin.val_inj
  have hstep := sweep_step (F := F) Fin.val i.val i hj (sigPre c) (sigPost c)
  have howe := owing_step Fin.val i.val i hj fun d => if d = c then 0 else tallyAt (barCell d) () 1
  subst hd
  iintro ⟨#Hctx, HO, HS⟩ Hk
  ihave H := hstep $$ HS
  icases H with ⟨Hp, HS⟩
  unfold sigPre
  icases Hp with ⟨Hl, Ht⟩
  by_cases h : i = c
  · subst h
    rw [dif_neg (fun h => hc.mp h rfl)]
    iapply Hk
    isplitl [HO]
    · have e : owedBar i i.val = owedBar i (i.val + 1) := by unfold owedBar; rw [howe, if_pos rfl, add_zero]
      rw [e]; iexact HO
    · iapply HS; unfold sigPost; rw [if_pos rfl]; iexact Hl
  · rw [dif_pos (hc.mpr h)]
    have hO : owedRecv c 0 + owedBar c i.val = (owedRecv c 0 + owedBar c (i.val + 1)) + tallyAt (barCell i) () 1 := by
      unfold owedBar; rw [howe, if_neg h, add_assoc]
    unfold ctx ow
    icases Hctx with ⟨Hr, -⟩
    icases HO with ⟨%W, HO⟩
    ihave HI := (recs_bar m i) $$ Hr
    icases HI with ⟨%κ, #Hi, #Hre⟩
    iapply (Rounds.wp_signal 𝒱₀ ER (Rd m) (c : Thread nD τ) none (dst := (i : Thread nD τ)) (κ := κ) (d := c)
      (by rw [duties_bar]; exact Finset.mem_erase.mpr ⟨fun h' => h h'.symm, Finset.mem_univ _⟩) ((amount_bar m i c).trans (by decide)) ()
      (owedRecv c 0 + owedBar c (i.val + 1)) hO (W := W)) $$ [Hl Ht HO]
    · isplitl []; · iexact Hi
      isplitl [HO]; · iexact HO
      isplitl [Ht]; · iexact Ht
      isplitl [Hl]; · rw [payload_bar]; iexact Hl
      iexact Hre
    iintro HO
    iapply Hk
    isplitl [HO]; · iexists W; iexact HO
    iapply HS; unfold sigPost; rw [if_neg h]; iempintro

/-- All the signals arrived: every peer's columns for this device are now the device's to fill. -/
theorem bar_wait {α : Type} {Q : α → sProp 𝕄} (c : Dev nD) {K : Prog (TpuEff nD τ sig (Elt F) Λ₀ .tc) α} :
    iprop(ctx m ∗ ow c (owedRecv c 0) ∗ cred (tallyAt (barCell c) () 15) ∗ atPos ER (barCell c) 0 ∅ 0
        ∗ bigSep Finset.univ (sigPost (F := F) c))
      ⊢ iprop((iprop(ow c (owedRecv c 0) ∗ semVal (barCell c) 0 ∗ bigSep Finset.univ fun j => land j c) -∗ Wp c K Q)
        -∗ Wp c (.op (.semWait (SemArray.scalar (sig.barrier 0 rfl) : Sems sig S_).sem ((15#32).toInt)) fun _ => K) Q) := by
  have hself : bigSep Finset.univ (sigPost (F := F) c) ⊢ land c c := by
    refine (bigSep_get (Finset.mem_univ c)).trans (Entails.of_eq ?_)
    unfold sigPost; rw [if_pos rfl]
  unfold ctx ow
  iintro ⟨⟨#Hr, #HL⟩, ⟨%W, HO⟩, Hcr, Hat, Hs⟩ Hk
  ihave HI := (recs_bar m c) $$ Hr
  icases HI with ⟨%κ, #Hi, -⟩
  iapply (Rounds.wp_wait_rest_token 𝒱₀ ER (Rd m) (c : Thread nD τ) none (κ := κ) (hw := wpE_semWait_eq 𝒱₀ (c : Thread nD τ) none Set.univ)
      (Set.mem_univ _) () (O := owedRecv c 0) (W := W) (R := 0) (m := 0) (T := ∅)
      (by rw [Nat.zero_add]; exact (show (15#32).toInt.toNat = 15 by decide).trans (expect_bar m c).symm)) $$ [Hcr HO Hat]
  · isplitl []; · iexact Hi
    isplitl [Hcr]; · iexact Hcr
    isplitl [HO]; · iexact HO
    isplitr; · iapply (mayWait_bar c 0); iexact HL
    iexact Hat
  iintro ⟨HO, Hat, -, Hpay⟩
  ihave Hpay := (Entails.of_eq (rest_bar m c)) $$ Hpay
  imod (Rounds.cell_close ER (Rd m) (Set.mem_univ κ) (fun h => h) (R := 0 + 1) (duties_later m (barCell c))) $$ [Hat] with Hv
  · isplitl []; · iexact Hi
    iexact Hat
  iapply Hk
  isplitl [HO]; · iexists _; iexact HO
  isplitl [Hv]; · iexact Hv
  rw [bigSep_univ_at (fun j => land (F := F) j c) c]
  isplitl [Hs]; · iapply hself; iexact Hs
  iexact Hpay

/-! ## The copies to the peers -/

/-- What device `c` needs to serve device `j`, and what it is left with; its own block it keeps for itself. -/
def cpPre (c j : Dev nD) : sProp 𝕄 := iprop(land j c ∗ dutyTok ER (recvCell j c) 0 c ∗ dutyTok ER (sendCell c j) 0 j)
def cpPost (c j : Dev nD) : sProp 𝕄 := if j = c then iprop(cmP m c c ∗ x8P m c c) else cred (tallyAt (sendCell c j) () N)
def copies (c : Dev nD) (i : ℕ) : sProp 𝕄 := sweep (pos c) i (cpPre c) (cpPost m c)
/-- Between the two guarded blocks that serve the `i`-th peer. -/
def copiesMid (c : Dev nD) (i : ℕ) : sProp 𝕄 := if peer c i = c then copies m c (i + 1) else iprop(copies m c i ∗ x8P m c (peer c i))

theorem copies_step (c : Dev nD) (i : Fin 16) :
    copies (F := F) m c i.val ⊢ iprop(cpPre c (peer c i.val) ∗ (cpPost m c (peer c i.val) -∗ copies m c (i.val + 1))) :=
  sweep_step (pos c) i.val (peer c i.val) (pos_eq_iff c i) (cpPre c) (cpPost m c)

/-- The device's own block, stored into its gathered block when its turn comes. -/
theorem own_step {α : Type} {Q : α → sProp 𝕄} (c : Dev nD) (i : Fin 16) {cond : BitVec 1} {offa offb : Fin 2 → ℕ}
    {ia : cond = 1#1 → ∀ a : Fin S4096x256.rank, offa a + S256x256.size a ≤ S4096x256.size a}
    {ib : cond = 1#1 → ∀ a : Fin S256x4096.rank, offb a + S256x256.size a ≤ S256x4096.size a}
    {pay : (S256x256.Idx → Elt F .fp8e5m2) → S256x256.Idx → Elt F .fp8e5m2}
    {hla : ∀ h : cond = 1#1, x8M.view.LoadsAt (Rect.unit (s := S4096x256) offa S256x256.size (ia h)).toLoadRect}
    {hlb : ∀ h : cond = 1#1, cmM.view.LoadsAt (Rect.unit (s := S256x4096) offb S256x256.size (ib h)).toLoadRect}
    {hx : ∀ h : cond = 1#1, (cmM.access (Rect.unit (s := S256x4096) offb S256x256.size (ib h))).Stores Finset.univ}
    {hm : ∀ h : cond = 1#1, Finset.univ = Finset.univ ∨ ∀ a : Fin S256x4096.rank, (Rect.unit (s := S256x4096) offb S256x256.size (ib h)).stride a = 1}
    {K : Prog (TpuEff nD τ sig (Elt F) Λ₀ .tc) α} (hc : cond = 1#1 ↔ peer c i.val = c)
    (ha : offa = ![256 * c.val, 0]) (hb : offb = ![0, 256 * c.val]) (hpay : ∀ v, pay v = v) :
    iprop(copies m c i.val ∗ x8P m c (peer c i.val))
      ⊢ iprop((copiesMid m c i.val -∗ Wp c K Q)
        -∗ Wp c (if h : cond = 1#1 then
            .op (.load x8M (Rect.unit (s := S4096x256) offa S256x256.size (ia h)).toLoadRect (hla h)) fun v =>
            .op (.load cmM (Rect.unit (s := S256x4096) offb S256x256.size (ib h)).toLoadRect (hlb h)) fun _ =>
            .op (.store cmM (Rect.unit (s := S256x4096) offb S256x256.size (ib h)) (pay v) Finset.univ (hx h) (hm h)) fun _ => K
          else K) Q) := by
  unfold copiesMid
  iintro ⟨HS, Hx⟩ Hk
  by_cases h : peer c i.val = c
  · have hst := copies_step (F := F) m c i
    have hxe : x8P m c (peer c i.val) = x8P m c c := by rw [h]
    rw [h] at hst
    rw [dif_pos (hc.mpr h), if_pos h]
    ihave H := hst $$ HS
    icases H with ⟨Hp, HS⟩
    ihave Hx := (Entails.of_eq hxe) $$ Hx
    have h : cond = 1#1 := hc.mpr h
    unfold cpPre land x8P
    icases Hp with ⟨⟨%f, Hl⟩, -, -⟩
    have hsb : (cmM.access (Rect.unit (s := S256x4096) offb S256x256.size (ib h))).set = cols (d := ![256, 4096]) 256 c.val :=
      (View.set_slice_whole _ _).trans (rect_cols (d := ![256, 4096]) (off := offb) (size := S256x256.size) (inb := ib h) 256 c.val (by decide) (by rw [hb]; rfl) (by rw [hb]; rfl) rfl rfl)
    have hsa : (x8M.access (Rect.unit (s := S4096x256) offa S256x256.size (ia h))).set = rows (d := ![4096, 256]) 256 c.val :=
      (View.set_slice_whole _ _).trans (rect_rows (d := ![4096, 256]) (off := offa) (size := S256x256.size) (inb := ia h) 256 c.val (by decide) (by rw [ha]; rfl) (by rw [ha]; rfl) rfl rfl)
    have hw : pay ((x8M.access (Rect.unit (s := S4096x256) offa S256x256.size (ia h))).read (Elt F) (X8 m c))
        = (cmM.access (Rect.unit (s := S256x4096) offb S256x256.size (ib h))).read (Elt F) (Gt m c) := by
      rw [hpay]
      funext j
      exact read_block m c c (off := offa) (off' := offb) (inb := ia h) (inb' := ib h) (by rw [ha]; rfl) (by rw [ha]; rfl) (by rw [hb]; rfl) (by rw [hb]; rfl) j
    iapply (load_part c (M := x8M) (r := Rect.unit (s := S4096x256) offa S256x256.size (ia h)) hsa.le rfl) $$ [Hx]
    · iexact Hx
    iintro Hx
    iapply (load_part c (M := cmM) (r := Rect.unit (s := S256x4096) offb S256x256.size (ib h)) hsb.le rfl) $$ [Hl]
    · iexact Hl
    iintro Hl
    iapply (store_part c (M := cmM) (r := Rect.unit (s := S256x4096) offb S256x256.size (ib h)) (G := Gt m c) hsb hw) $$ [Hl]
    · iexact Hl
    iintro Hl
    iapply Hk
    iapply HS
    unfold cpPost cmP x8P
    rw [if_pos rfl]
    isplitl [Hl] <;> iassumption
  · rw [dif_neg (fun h' => h (hc.mp h')), if_neg h]
    iapply Hk
    isplitl [HS] <;> iassumption

theorem send_sem (j : Dev nD) {off : Fin 1 → ℕ} {inb} (h : off = ![j.val]) :
    SemLoc.dma ((cc0_scratch5.slice (Rect.unit (s := S16) off S1.size inb)).squeeze S_ squeezes_S1_S_).sem = sendS j := by
  subst h; rfl
theorem recv_sem (j : Dev nD) {off : Fin 1 → ℕ} {inb} (h : off = ![j.val]) :
    SemLoc.dma ((cc0_scratch6.slice (Rect.unit (s := S16) off S1.size inb)).squeeze S_ squeezes_S1_S_).sem = recvS j := by
  subst h; rfl

/-- A copy into a peer's gathered block: the columns it makes are the peer's, at their final contents. -/
theorem landed (c d : Dev nD) {off off' : Fin 2 → ℕ} {inb inb' hu hu'} (ho : off = ![256 * d.val, 0]) (ho' : off' = ![0, 256 * c.val]) (fd) :
    (((cmM.slice (Rect.unit (s := S256x4096) off' S256x256.size inb') hu').view.loc (d : Thread nD τ)
        ↦[(cmM.slice (Rect.unit (s := S256x4096) off' S256x256.size inb') hu').view.set]{fullShare}
          ((cmM.slice (Rect.unit (s := S256x4096) off' S256x256.size inb') hu').view.write (Elt F) fd
            ((x8M.slice (Rect.unit (s := S4096x256) off S256x256.size inb) hu).view.read (Elt F) (X8 m c)) Finset.univ)) : sProp 𝕄)
      = cmP m d c := by
  have hset : (cmM.slice (Rect.unit (s := S256x4096) off' S256x256.size inb') hu').view.set = cols (d := ![256, 4096]) 256 c.val :=
    (View.set_slice_whole _ _).trans (rect_cols (d := ![256, 4096]) (off := off') (size := S256x256.size) (inb := inb') 256 c.val (by decide)
      (by rw [ho']; rfl) (by rw [ho']; rfl) rfl rfl)
  have hw := pts_written (d : Thread nD τ) (cmM.slice (Rect.unit (s := S256x4096) off' S256x256.size inb') hu').view fullShare fd (Gt m d)
    ((x8M.slice (Rect.unit (s := S4096x256) off S256x256.size inb) hu).view.read (Elt F) (X8 m c))
    (funext fun j => read_block m c d (off := off) (off' := off') (inb := inb) (inb' := inb') (by rw [ho]; rfl) (by rw [ho]; rfl) (by rw [ho']; rfl) (by rw [ho']; rfl) j)
  rw [hw, hset]; rfl

/-- The copy of one block of rows to the peer `j`: what it takes, and what it leaves. -/
theorem send_core {α : Type} {Q : α → sProp 𝕄} (c j : Dev nD) (h : j ≠ c) (i : ℕ) {sS sem : SemLoc sig} {o8 o9 : Fin 2 → ℕ} {i8 i9 u8 u9 hsc w₁ w₂ ty}
    {K : Prog (TpuEff nD τ sig (Elt F) Λ₀ .tc) α} (e1 : sS = sendS j) (e2 : sem = recvS c) (h8 : o8 = ![0, 256 * c.val]) (h9 : o9 = ![256 * j.val, 0])
    (hO : owedRecv c i = owedRecv c (i + 1) + tallyAt (recvCell j c) () N) :
    iprop(ctx m ∗ ow c (owedRecv c i) ∗ cpPre c j ∗ x8P m c j)
      ⊢ iprop((iprop(ow c (owedRecv c (i + 1)) ∗ cred (tallyAt (sendCell c j) () N)) -∗ Wp c K Q)
        -∗ Wp c (.op (.enqueueDma (x8M.slice (Rect.unit (s := S4096x256) o9 S256x256.size i9) u9)
              (.remote (Dev.tc j) (cmM.slice (Rect.unit (s := S256x4096) o8 S256x256.size i8) u8) sS hsc) sem w₁ w₂ ty) fun _ => K) Q) := by
  have hS : (x8M.slice (Rect.unit (s := S4096x256) o9 S256x256.size i9) u9).view.set = rows (d := ![4096, 256]) 256 j.val :=
    (View.set_slice_whole _ _).trans (rect_rows (d := ![4096, 256]) (off := o9) (size := S256x256.size) (inb := i9) 256 j.val (by decide)
      (by rw [h9]; rfl) (by rw [h9]; rfl) rfl rfl)
  have hD : (cmM.slice (Rect.unit (s := S256x4096) o8 S256x256.size i8) u8).view.set = cols (d := ![256, 4096]) 256 c.val :=
    (View.set_slice_whole _ _).trans (rect_cols (d := ![256, 4096]) (off := o8) (size := S256x256.size) (inb := i8) 256 c.val (by decide)
      (by rw [h8]; rfl) (by rw [h8]; rfl) rfl rfl)
  have hpay₁ : (((x8M.slice (Rect.unit (s := S4096x256) o9 S256x256.size i9) u9).view.loc (c : Thread nD τ)
      ↦[(x8M.slice (Rect.unit (s := S4096x256) o9 S256x256.size i9) u9).view.set]{fullShare} X8 m c) : sProp 𝕄)
      ⊢ (Rd m).payload (sendCell c j) 0 j := by
    rw [payload_send, hS]; exact .rfl
  have hpay₂ : ∀ fd, (((cmM.slice (Rect.unit (s := S256x4096) o8 S256x256.size i8) u8).view.loc (j : Thread nD τ)
        ↦[(cmM.slice (Rect.unit (s := S256x4096) o8 S256x256.size i8) u8).view.set]{fullShare}
          ((cmM.slice (Rect.unit (s := S256x4096) o8 S256x256.size i8) u8).view.write (Elt F) fd
            ((x8M.slice (Rect.unit (s := S4096x256) o9 S256x256.size i9) u9).view.read (Elt F) (X8 m c)) Finset.univ)) : sProp 𝕄)
      ⊢ (Rd m).payload (recvCell j c) 0 c := fun fd => by
    rw [landed m c j h9 h8 fd, payload_recv]
  have hd₁ : j ∈ (Rd (F := F) m).duties (sendCell c j) 0 := by rw [duties_send m c j h]; exact Finset.mem_singleton_self _
  have hd₂ : c ∈ (Rd (F := F) m).duties (recvCell j c) 0 := by rw [duties_recv m j c (Ne.symm h)]; exact Finset.mem_singleton_self _
  have hN : (cmM.slice (Rect.unit (s := S256x4096) o8 S256x256.size i8) u8).view.amount sem = N := by subst e2; rfl
  subst e1; subst e2
  unfold ctx ow cpPre land x8P
  iintro ⟨⟨#Hr, -⟩, ⟨%W, HO⟩, ⟨⟨%fd, Hl⟩, Ht, Ht'⟩, Hx⟩ Hk
  ihave HI := (recs_send m c j) $$ Hr
  icases HI with ⟨%κ₁, #Hi₁, #Hr₁⟩
  ihave HI := (recs_recv m j c) $$ Hr
  icases HI with ⟨%κ₂, #Hi₂, #Hr₂⟩
  have hsend := Rounds.wp_send_pointsTo 𝒱₀ ER (Rd m) (c : Thread nD τ) none (c' := (j : Thread nD τ)) (src := x8M.slice (Rect.unit (s := S4096x256) o9 S256x256.size i9) u9)
      (dst := cmM.slice (Rect.unit (s := S256x4096) o8 S256x256.size i8) u8) (sS := sendS j) (sem := recvS c) (hsc := hsc) (hsrc := w₁) (hdst := w₂) (hsem := ty) (defs := defs₀) (Γ := .empty)
      (k := fun _ => K) (Q := Q) (q := fullShare) (κ₁ := κ₁) (κ₂ := κ₂) (r₁ := 0) (r₂ := 0) (d₁ := j) (d₂ := c) (fs := X8 m c) (fd := fd)
      hd₁ hd₂ () () N hN (amount_send m c j j) (amount_recv m j c c) (owedRecv c (i + 1)) hO (W := W) hpay₁ (hpay₂ fd) (Es := Set.univ)
  iapply hsend $$ [Hl Ht Ht' Hx HO]
  · isplitl []; · iexact Hi₁
    isplitl []; · iexact Hi₂
    isplitl [Hx]; · rw [hS]; iexact Hx
    isplitl [Hl]; · rw [hD]; iexact Hl
    isplitl [HO]; · iexact HO
    isplitl [Ht']; · iexact Ht'
    isplitl []; · iexact Hr₁
    isplitl [Ht]; · iexact Ht
    iexact Hr₂
  iintro ⟨Hc, HO⟩
  iapply Hk
  isplitl [HO]; · iexists _; iexact HO
  iexact Hc

/-- The copy of one block of rows to a peer when its turn comes. -/
theorem send_step {α : Type} {Q : α → sProp 𝕄} (c : Dev nD) (i : Fin 16) {cond : BitVec 1} {s6 s7 : Fin 1 → ℕ} {o8 o9 : Fin 2 → ℕ} {dv : ℕ}
    {i6 : cond = 1#1 → ∀ a : Fin S16.rank, s6 a + S1.size a ≤ S16.size a} {i7 : cond = 1#1 → ∀ a : Fin S16.rank, s7 a + S1.size a ≤ S16.size a}
    {i8 : cond = 1#1 → ∀ a : Fin S256x4096.rank, o8 a + S256x256.size a ≤ S256x4096.size a}
    {i9 : cond = 1#1 → ∀ a : Fin S4096x256.rank, o9 a + S256x256.size a ≤ S4096x256.size a} {lt : cond = 1#1 → dv < nD}
    {u8 : ∀ h : cond = 1#1, ∀ a : Fin S256x4096.rank, (Rect.unit (s := S256x4096) o8 S256x256.size (i8 h)).stride a = 1}
    {u9 : ∀ h : cond = 1#1, ∀ a : Fin S4096x256.rank, (Rect.unit (s := S4096x256) o9 S256x256.size (i9 h)).stride a = 1}
    {hsc : ∀ h : cond = 1#1, (cmM.slice (Rect.unit (s := S256x4096) o8 S256x256.size (i8 h)) (u8 h)).view.ref.isScScratch = false}
    {w₁ : ∀ h : cond = 1#1, (x8M.slice (Rect.unit (s := S4096x256) o9 S256x256.size (i9 h)) (u9 h)).view.WordExact}
    {w₂ : ∀ h : cond = 1#1, (cmM.slice (Rect.unit (s := S256x4096) o8 S256x256.size (i8 h)) (u8 h)).view.WordExact}
    {ty : ∀ h : cond = 1#1, DmaTarget.Typed _ (SemLoc.dma ((cc0_scratch6.slice (Rect.unit (s := S16) s7 S1.size (i7 h))).squeeze S_ squeezes_S1_S_).sem)
      (.remote (Dev.tc (⟨dv, lt h⟩ : Dev nD)) (cmM.slice (Rect.unit (s := S256x4096) o8 S256x256.size (i8 h)) (u8 h))
        (SemLoc.dma ((cc0_scratch5.slice (Rect.unit (s := S16) s6 S1.size (i6 h))).squeeze S_ squeezes_S1_S_).sem) (hsc h))}
    {K : Prog (TpuEff nD τ sig (Elt F) Λ₀ .tc) α} (hc : cond = 1#1 ↔ peer c i.val ≠ c)
    (h6 : s6 = ![(peer c i.val).val]) (h7 : s7 = ![c.val]) (h8 : o8 = ![0, 256 * c.val]) (h9 : o9 = ![256 * (peer c i.val).val, 0])
    (hd : dv = (peer c i.val).val) :
    iprop(ctx m ∗ ow c (owedRecv c i.val) ∗ copiesMid m c i.val)
      ⊢ iprop((iprop(ow c (owedRecv c (i.val + 1)) ∗ copies m c (i.val + 1)) -∗ Wp c K Q)
        -∗ Wp c (if h : cond = 1#1 then
            .op (.enqueueDma (x8M.slice (Rect.unit (s := S4096x256) o9 S256x256.size (i9 h)) (u9 h))
              (.remote (Dev.tc (⟨dv, lt h⟩ : Dev nD)) (cmM.slice (Rect.unit (s := S256x4096) o8 S256x256.size (i8 h)) (u8 h))
                (.dma ((cc0_scratch5.slice (Rect.unit (s := S16) s6 S1.size (i6 h))).squeeze S_ squeezes_S1_S_).sem) (hsc h))
              (.dma ((cc0_scratch6.slice (Rect.unit (s := S16) s7 S1.size (i7 h))).squeeze S_ squeezes_S1_S_).sem) (w₁ h) (w₂ h) (ty h)) fun _ => K
          else K) Q) := by
  have hstep : owedRecv c i.val = owedRecv c (i.val + 1) + if peer c i.val = c then 0 else tallyAt (recvCell (peer c i.val) c) () N :=
    owing_step (pos c) i.val (peer c i.val) (pos_eq_iff c i) _
  have hst := copies_step (F := F) m c i
  unfold copiesMid
  generalize hj : peer c i.val = j at *
  by_cases h : j = c
  · rw [if_pos h] at hstep
    rw [add_zero] at hstep
    rw [dif_neg (fun h' => hc.mp h' h), if_pos h, hstep]
    iintro ⟨-, HO, HS⟩ Hk
    iapply Hk
    isplitl [HO] <;> iassumption
  · rw [if_neg h] at hstep
    subst hd
    have hcc : cond = 1#1 := hc.mpr h
    rw [dif_pos hcc, if_neg h]
    iintro ⟨#Hctx, HO, HS, Hx⟩ Hk
    ihave H := hst $$ HS
    icases H with ⟨Hp, HS⟩
    iapply (send_core m c j h i.val (send_sem j h6) (recv_sem c h7) h8 h9 hstep) $$ [Hp Hx HO]
    · isplitl []; · iexact Hctx
      isplitl [HO]; · iexact HO
      isplitl [Hp]; · iexact Hp
      iexact Hx
    iintro ⟨HO, Hc⟩
    iapply Hk
    isplitl [HO]; · iexact HO
    iapply HS
    unfold cpPost
    rw [if_neg h]
    iexact Hc

/-! ## The waits for the peers -/

/-- The wait on a cell that one peer's copy pays: what the copy hands over, and the semaphore back at zero. -/
theorem wait_core {α : Type} {Q : α → sProp 𝕄} (c : Dev nD) {sp sp' : Space} {s s' : Shape} {e e' : EltTy} {src : Memref sig .tc sp s e} {dst : Memref sig .tc sp' s' e'} {sem : DmaSem sig}
    {w₁ w₂} {K : Prog (TpuEff nD τ sig (Elt F) Λ₀ .tc) α} (hN : dst.view.dmaCredit = N) {Pay : sProp 𝕄}
    (hrec : recs (F := F) m ⊢ iprop(∃ κ, cellInv ER (Rd m) κ ((c : Thread nD τ), SemLoc.dma sem) ∗ reached ER ((c : Thread nD τ), SemLoc.dma sem) 0))
    (hex : (Rd (F := F) m).expect ((c : Thread nD τ), SemLoc.dma sem) 0 = N)
    (hrest : bigSep ((Rd (F := F) m).duties ((c : Thread nD τ), SemLoc.dma sem) 0 \ ∅) (fun d => (Rd (F := F) m).payload ((c : Thread nD τ), SemLoc.dma sem) 0 d) = Pay) :
    iprop(ctx m ∗ ow c 0 ∗ cred (tallyAt ((c : Thread nD τ), SemLoc.dma sem) () N) ∗ atPos ER ((c : Thread nD τ), SemLoc.dma sem) 0 ∅ 0)
      ⊢ iprop((iprop(ow c 0 ∗ semVal ((c : Thread nD τ), SemLoc.dma sem) 0 ∗ Pay) -∗ Wp c K Q)
        -∗ Wp c (.op (.waitDma2 sem src dst w₁ w₂) fun _ => K) Q) := by
  unfold ctx ow
  subst hrest
  iintro ⟨⟨#Hr, -⟩, ⟨%W, HO⟩, Hcr, Hat⟩ Hk
  ihave HI := hrec $$ Hr
  icases HI with ⟨%κ, #Hi, -⟩
  iapply (Rounds.wp_wait_rest_token 𝒱₀ ER (Rd m) (c : Thread nD τ) none (κ := κ) (hw := wpE_waitDma2_eq 𝒱₀ (c : Thread nD τ) none Set.univ)
      (Set.mem_univ _) () (O := 0) (W := W) (R := 0) (m := 0) (T := ∅) (by rw [Nat.zero_add, hN]; exact hex.symm)) $$ [Hcr HO Hat]
  · isplitl []; · iexact Hi
    isplitl [Hcr]; · rw [hN]; iexact Hcr
    isplitl [HO]; · iexact HO
    isplitr; · rw [MayWait_zero]; iempintro
    iexact Hat
  iintro ⟨HO, Hat, -, Hpay⟩
  imod (Rounds.cell_close ER (Rd m) (Set.mem_univ κ) (fun h => h) (R := 0 + 1) (duties_later m ((c : Thread nD τ), SemLoc.dma sem))) $$ [Hat] with Hv
  · isplitl []; · iexact Hi
    iexact Hat
  iapply Hk
  isplitl [HO]; · iexists _; iexact HO
  isplitl [Hv] <;> iassumption

/-- A device's cell for itself is never paid: it closes as it is. -/
theorem close_self (c : Dev nD) (sm : SemLoc sig)
    (hrec : recs (F := F) m ⊢ iprop(∃ κ, cellInv ER (Rd m) κ ((c : Thread nD τ), sm) ∗ reached ER ((c : Thread nD τ), sm) 0))
    (hd : ∀ r, 0 ≤ r → (Rd (F := F) m).duties ((c : Thread nD τ), sm) r = ∅) :
    iprop(ctx m ∗ atPos ER ((c : Thread nD τ), sm) 0 ∅ 0) ⊢ iprop(|={Set.univ}=> semVal ((c : Thread nD τ), sm) 0) := by
  unfold ctx
  iintro ⟨⟨#Hr, -⟩, Hat⟩
  ihave HI := hrec $$ Hr
  icases HI with ⟨%κ, #Hi, -⟩
  iapply (Rounds.cell_close ER (Rd m) (Set.mem_univ κ) (fun h => h) (R := 0) hd)
  isplitl []; · iexact Hi
  iexact Hat

/-- What the device waits with for device `j`'s columns, and what is left of it; the columns are given out. -/
def rvPre (c j : Dev nD) : sProp 𝕄 :=
  iprop((if j = c then cmP m c c else cred (tallyAt (recvCell c j) () N)) ∗ atPos ER (recvCell c j) 0 ∅ 0)
def rvPost (c j : Dev nD) : sProp 𝕄 := semVal (recvCell c j) 0
def recvs (c : Dev nD) (i : ℕ) : sProp 𝕄 := sweep (pos c) i (rvPre m c) (rvPost c)

/-- The wait for one peer's columns when its turn comes. -/
theorem recv_step {α : Type} {Q : α → sProp 𝕄} (c : Dev nD) (i : Fin 16) {cond : BitVec 1} {off : Fin 1 → ℕ}
    {inb : cond = 1#1 → ∀ a : Fin S16.rank, off a + S1.size a ≤ S16.size a} {sp sp' : Space} {s s' : Shape} {e e' : EltTy}
    {src : cond = 1#1 → Memref sig .tc sp s e} {dst : cond = 1#1 → Memref sig .tc sp' s' e'}
    {w₁ : ∀ h, (src h).view.WordExact} {w₂ : ∀ h, (dst h).view.WordExact}
    {K : Prog (TpuEff nD τ sig (Elt F) Λ₀ .tc) α} (hc : cond = 1#1 ↔ peer c i.val ≠ c) (ho : off = ![(peer c i.val).val])
    (hN : ∀ h, (dst h).view.dmaCredit = N) :
    iprop(ctx m ∗ ow c 0 ∗ recvs m c i.val)
      ⊢ iprop((iprop(ow c 0 ∗ recvs m c (i.val + 1) ∗ cmP m c (peer c i.val)) -∗ Wp c K Q)
        -∗ Wp c (if h : cond = 1#1 then
            .op (.waitDma2 ((cc0_scratch6.slice (Rect.unit (s := S16) off S1.size (inb h))).squeeze S_ squeezes_S1_S_).sem (src h) (dst h) (w₁ h) (w₂ h)) fun _ => K
          else K) Q) := by
  have hst : recvs m c i.val ⊢ iprop(rvPre m c (peer c i.val) ∗ (rvPost (F := F) c (peer c i.val) -∗ recvs m c (i.val + 1))) :=
    sweep_step (pos c) i.val (peer c i.val) (pos_eq_iff c i) (rvPre m c) (rvPost c)
  generalize peer c i.val = j at *
  iintro ⟨#Hctx, HO, HS⟩ Hk
  ihave H := hst $$ HS
  icases H with ⟨Hp, HS⟩
  by_cases h : j = c
  · rw [dif_neg (fun h' => hc.mp h' h)]
    unfold rvPre
    rw [if_pos h]
    subst h
    icases Hp with ⟨Hp, Hat⟩
    imod (close_self m j (recvS j) (recs_recv m j j) (duties_recv_self m j)) $$ [Hat] with Hv
    · isplitl []; · iexact Hctx
      iexact Hat
    iapply Hk
    isplitl [HO]; · iexact HO
    isplitl [HS Hv]; · iapply HS; unfold rvPost; iexact Hv
    iexact Hp
  · have hcc : cond = 1#1 := hc.mpr h
    rw [dif_pos hcc]
    unfold rvPre
    rw [if_neg h]
    subst ho
    icases Hp with ⟨Hp, Hat⟩
    iapply (wait_core m c (hN hcc) (recs_recv m c j) (expect_recv m c j h) (rest_recv m c j h)) $$ [HO Hp Hat]
    · isplitl []; · iexact Hctx
      isplitl [HO]; · iexact HO
      isplitl [Hp]; · iexact Hp
      iexact Hat
    iintro ⟨HO, Hv, Hp⟩
    iapply Hk
    isplitl [HO]; · iexact HO
    isplitl [HS Hv]; · iapply HS; unfold rvPost; iexact Hv
    iexact Hp

/-- What the device waits with for its copy to device `j`, and what is left of it. -/
def swPre (c j : Dev nD) : sProp 𝕄 :=
  iprop((if j = c then x8P m c c else cred (tallyAt (sendCell c j) () N)) ∗ atPos ER (sendCell c j) 0 ∅ 0)
def swPost (c j : Dev nD) : sProp 𝕄 := iprop(semVal (sendCell c j) 0 ∗ x8P m c j)
def sent (c : Dev nD) (i : ℕ) : sProp 𝕄 := sweep Fin.val i (swPre m c) (swPost m c)

/-- The wait for one copy to a peer to have read its rows. -/
theorem sent_step {α : Type} {Q : α → sProp 𝕄} (c : Dev nD) (i : Fin 16) {cond : BitVec 1}
    {inb : cond = 1#1 → ∀ a : Fin S16.rank, (![i.val] : Fin 1 → ℕ) a + S1.size a ≤ S16.size a} {sp sp' : Space} {s s' : Shape} {e e' : EltTy}
    {src : cond = 1#1 → Memref sig .tc sp s e} {dst : cond = 1#1 → Memref sig .tc sp' s' e'}
    {w₁ : ∀ h, (src h).view.WordExact} {w₂ : ∀ h, (dst h).view.WordExact}
    {K : Prog (TpuEff nD τ sig (Elt F) Λ₀ .tc) α} (hc : cond = 1#1 ↔ i ≠ c)
    (hN : ∀ h, (dst h).view.dmaCredit = N) :
    iprop(ctx m ∗ ow c 0 ∗ sent m c i.val)
      ⊢ iprop((iprop(ow c 0 ∗ sent m c (i.val + 1)) -∗ Wp c K Q)
        -∗ Wp c (if h : cond = 1#1 then
            .op (.waitDma2 ((cc0_scratch5.slice (Rect.unit (s := S16) ![i.val] S1.size (inb h))).squeeze S_ squeezes_S1_S_).sem (src h) (dst h) (w₁ h) (w₂ h)) fun _ => K
          else K) Q) := by
  have hst : sent m c i.val ⊢ iprop(swPre m c i ∗ (swPost m c i -∗ sent m c (i.val + 1))) :=
    sweep_step Fin.val i.val i (fun d => Fin.val_inj) (swPre m c) (swPost m c)
  iintro ⟨#Hctx, HO, HS⟩ Hk
  ihave H := hst $$ HS
  icases H with ⟨Hp, HS⟩
  by_cases h : i = c
  · rw [dif_neg (fun h' => hc.mp h' h)]
    unfold swPre
    rw [if_pos h]
    subst h
    icases Hp with ⟨Hp, Hat⟩
    imod (close_self m i (sendS i) (recs_send m i i) (duties_send_self m i)) $$ [Hat] with Hv
    · isplitl []; · iexact Hctx
      iexact Hat
    iapply Hk
    isplitl [HO]; · iexact HO
    iapply HS; unfold swPost
    isplitl [Hv]; · iexact Hv
    iexact Hp
  · have hcc : cond = 1#1 := hc.mpr h
    rw [dif_pos hcc]
    unfold swPre
    rw [if_neg h]
    icases Hp with ⟨Hp, Hat⟩
    iapply (wait_core m c (hN hcc) (recs_send m c i) (expect_send m c i h) (rest_send m c i h)) $$ [HO Hp Hat]
    · isplitl []; · iexact Hctx
      isplitl [HO]; · iexact HO
      isplitl [Hp]; · iexact Hp
      iexact Hat
    iintro ⟨HO, Hv, Hp⟩
    iapply Hk
    isplitl [HO]; · iexact HO
    iapply HS; unfold swPost
    isplitl [Hv]; · iexact Hv
    iexact Hp

/-! ## The local copies and the casts -/

abbrev NX : ℕ := ((xfM.slice (Rect.unit (s := S4096x256) ![0, 0] S1024x256.size (Rect.inb₂ (by decide) (by decide))) (fun _ => rfl)).view).dmaCredit
theorem NX_pos : 0 < NX := View.dmaCredit_pos _ (by decide)
abbrev NW : ℕ := ((((wfM.slice (Rect.unit (s := S2x1024x2048) ![0, 0, 0] S1x1024x2048.size (by decide)) (fun _ => rfl)).squeeze S1024x2048 squeezes_S1x1024x2048_S1024x2048)).view).dmaCredit
theorem NW_pos : 0 < NW := View.dmaCredit_pos _ (by decide)

/-- The copy of a quarter of the left factor's columns, in flight. -/
def flX (c : Dev nD) (s : Fin 4) : sProp 𝕄 :=
  Flight EC (c : Thread nD τ) (xS s) () NX iprop(xfP m c (quarter c s.val).val ∗ xA m c (quarter c s.val).val)
/-- The copy of a quarter of the right factor to a slot, in flight. -/
def flW (c : Dev nD) (s : Fin 2) (q : Fin 4) : sProp 𝕄 :=
  Flight EC (c : Thread nD τ) (wS s) () NW iprop(wfP m c s.val q ∗ wA m c q.val)

theorem x_start {α : Type} {Q : α → sProp 𝕄} (c : Dev nD) (s : Fin 4) {off : Fin 2 → ℕ} {inb inb' hu hu' w₁ w₂} {sm : SemLoc sig}
    {ty : DmaTarget.Typed Space.hbm sm (DmaTarget.here (nD := nD) (p := (.tc : Proc τ)) (xfM.slice (Rect.unit (s := S4096x256) off S1024x256.size inb') hu'))}
    {K : Prog (TpuEff nD τ sig (Elt F) Λ₀ .tc) α} (hsm : sm = xS s) (ho : off = ![1024 * (quarter c s.val).val, 0]) :
    iprop(xA m c (quarter c s.val).val ∗ xfE c (quarter c s.val).val ∗ semVal ((c : Thread nD τ), xS s) 0)
      ⊢ iprop((flX m c s -∗ Wp c K Q) -∗ Wp c (.op (.enqueueDma (xM.slice (Rect.unit (s := S4096x256) off S1024x256.size inb) hu)
        (.here (xfM.slice (Rect.unit (s := S4096x256) off S1024x256.size inb') hu')) sm w₁ w₂ ty) fun _ => K) Q) := by
  have hS : (xM.slice (Rect.unit (s := S4096x256) off S1024x256.size inb) hu).view.set = rows (d := ![4096, 256]) 1024 (quarter c s.val).val :=
    (View.set_slice_whole _ _).trans (rect_rows (d := ![4096, 256]) (off := off) (size := S1024x256.size) (inb := inb) 1024 _ (by decide) (by rw [ho]; rfl) (by rw [ho]; rfl) rfl rfl)
  have hD : (xfM.slice (Rect.unit (s := S4096x256) off S1024x256.size inb') hu').view.set = rows (d := ![4096, 256]) 1024 (quarter c s.val).val :=
    (View.set_slice_whole _ _).trans (rect_rows (d := ![4096, 256]) (off := off) (size := S1024x256.size) (inb := inb') 1024 _ (by decide) (by rw [ho]; rfl) (by rw [ho]; rfl) rfl rfl)
  have hN : (xfM.slice (Rect.unit (s := S4096x256) off S1024x256.size inb') hu').view.amount sm = NX := by rw [hsm]; rfl
  unfold xA xfE flX xfP
  iintro ⟨Ha, ⟨%f, Hf⟩, Hv⟩ Hk
  iapply (copy_part c NX hN NX_pos hsm hS hD (read_xcopy m c)) $$ [Ha Hf Hv]
  · isplitl [Ha]; · iexact Ha
    isplitl [Hf]; · iexact Hf
    iexact Hv
  iintro HF
  iapply Hk
  iexact HF

theorem w_start {α : Type} {Q : α → sProp 𝕄} (c : Dev nD) (s : Fin 2) (q : Fin 4) {off : Fin 2 → ℕ} {off' : Fin 3 → ℕ} {inb inb' hu hu' sq w₁ w₂} {sm : SemLoc sig}
    {ty : DmaTarget.Typed Space.hbm sm (DmaTarget.here (nD := nD) (p := (.tc : Proc τ)) ((wfM.slice (Rect.unit (s := S2x1024x2048) off' S1x1024x2048.size inb') hu').squeeze S1024x2048 sq))}
    {K : Prog (TpuEff nD τ sig (Elt F) Λ₀ .tc) α} (hsm : sm = wS s) (ho : off = ![1024 * q.val, 0]) (ho' : off' = ![s.val, 0, 0]) :
    iprop(wA m c q.val ∗ wfE c s.val ∗ semVal ((c : Thread nD τ), wS s) 0)
      ⊢ iprop((flW m c s q -∗ Wp c K Q) -∗ Wp c (.op (.enqueueDma (wM.slice (Rect.unit (s := S4096x2048) off S1024x2048.size inb) hu)
        (.here ((wfM.slice (Rect.unit (s := S2x1024x2048) off' S1x1024x2048.size inb') hu').squeeze S1024x2048 sq)) sm w₁ w₂ ty) fun _ => K) Q) := by
  have hS : (wM.slice (Rect.unit (s := S4096x2048) off S1024x2048.size inb) hu).view.set = rows (d := ![4096, 2048]) 1024 q.val :=
    (View.set_slice_whole _ _).trans (rect_rows (d := ![4096, 2048]) (off := off) (size := S1024x2048.size) (inb := inb) 1024 _ (by decide) (by rw [ho]; rfl) (by rw [ho]; rfl) rfl rfl)
  have hD : ((wfM.slice (Rect.unit (s := S2x1024x2048) off' S1x1024x2048.size inb') hu').squeeze S1024x2048 sq).view.set = slot s.val :=
    (View.set_reshape _ _).trans ((View.set_slice_whole _ _).trans (set_slot (b := cc0_scratch3) (off := off') (inb := inb') s.val (by rw [ho']; rfl) (by rw [ho']; rfl) (by rw [ho']; rfl)))
  have hN : ((wfM.slice (Rect.unit (s := S2x1024x2048) off' S1x1024x2048.size inb') hu').squeeze S1024x2048 sq).view.amount sm = NW := by rw [hsm]; rfl
  unfold wA wfE flW wfP
  iintro ⟨Ha, ⟨%f, Hf⟩, Hv⟩ Hk
  iapply (copy_part c NW hN NW_pos hsm hS hD (read_wcopy m c q (by rw [ho]; rfl) (by rw [ho]; rfl) (by rw [ho']; rfl) (by rw [ho']; rfl))) $$ [Ha Hf Hv]
  · isplitl [Ha]; · iexact Ha
    isplitl [Hf]; · iexact Hf
    iexact Hv
  iintro HF
  iapply Hk
  iexact HF

theorem bigSep_univ_four {Φ : Fin 4 → sProp 𝕄} : bigSep Finset.univ Φ = iprop(Φ 0 ∗ Φ 1 ∗ Φ 2 ∗ Φ 3) := by
  rw [show (Finset.univ : Finset (Fin 4)) = {0, 1, 2, 3} from by decide, bigSep_insert (by decide), bigSep_insert (by decide), bigSep_insert (by decide), bigSep_singleton]
  rfl

/-- A quarter is cut into the blocks of the four peers that step `s` serves. -/
theorem four_rows {d : Fin 2 → Nat} (c : Dev nD) (s : Fin 4) :
    (∀ i : (⟨2, d⟩ : Shape).Idx, i ∈ rows (d := d) 1024 (quarter c s.val).val ↔ ∃ u : Fin 4, i ∈ rows (d := d) 256 (peer c (4 * s.val + u.val)).val)
      ∧ ∀ (i : (⟨2, d⟩ : Shape).Idx) (u u' : Fin 4), i ∈ rows (d := d) 256 (peer c (4 * s.val + u.val)).val → i ∈ rows (d := d) 256 (peer c (4 * s.val + u'.val)).val → u = u' := by
  have hp : ∀ u : Fin 4, (peer c (4 * s.val + u.val)).val = 4 * (quarter c s.val).val + u.val := by revert c s; decide +kernel
  refine ⟨fun i => ?_, fun i u u' h h' => ?_⟩
  · simp only [rows, Finset.mem_filter, Finset.mem_univ, true_and, hp]
    constructor
    · intro h
      exact ⟨⟨(i 0 : Nat) / 256 % 4, Nat.mod_lt _ (by decide)⟩, by show _ = _ + (i 0 : Nat) / 256 % 4; omega⟩
    · rintro ⟨u, h⟩; have := u.isLt; omega
  · simp only [rows, Finset.mem_filter, Finset.mem_univ, true_and, hp] at h h'
    exact Fin.ext (by omega)
theorem four_cols {d : Fin 2 → Nat} (c : Dev nD) (s : Fin 4) :
    (∀ i : (⟨2, d⟩ : Shape).Idx, i ∈ cols (d := d) 1024 (quarter c s.val).val ↔ ∃ u : Fin 4, i ∈ cols (d := d) 256 (peer c (4 * s.val + u.val)).val)
      ∧ ∀ (i : (⟨2, d⟩ : Shape).Idx) (u u' : Fin 4), i ∈ cols (d := d) 256 (peer c (4 * s.val + u.val)).val → i ∈ cols (d := d) 256 (peer c (4 * s.val + u'.val)).val → u = u' := by
  have hp : ∀ u : Fin 4, (peer c (4 * s.val + u.val)).val = 4 * (quarter c s.val).val + u.val := by revert c s; decide +kernel
  refine ⟨fun i => ?_, fun i u u' h h' => ?_⟩
  · simp only [cols, Finset.mem_filter, Finset.mem_univ, true_and, hp]
    constructor
    · intro h
      exact ⟨⟨(i 1 : Nat) / 256 % 4, Nat.mod_lt _ (by decide)⟩, by show _ = _ + (i 1 : Nat) / 256 % 4; omega⟩
    · rintro ⟨u, h⟩; have := u.isLt; omega
  · simp only [cols, Finset.mem_filter, Finset.mem_univ, true_and, hp] at h h'
    exact Fin.ext (by omega)

theorem x8_cut (c : Dev nD) (s : Fin 4) : x8Q m c (quarter c s.val).val
    = iprop(x8P m c (peer c (4 * s.val)) ∗ x8P m c (peer c (4 * s.val + 1)) ∗ x8P m c (peer c (4 * s.val + 2)) ∗ x8P m c (peer c (4 * s.val + 3))) := by
  have h := pts_cut (ℓ := (c : Thread nD τ).loc cc0_scratch1) (rows (d := ![4096, 256]) 1024 (quarter c s.val).val) fullShare (X8 m c)
    (fun u : Fin 4 => rows (d := ![4096, 256]) 256 (peer c (4 * s.val + u.val)).val) (four_rows c s).1 (four_rows c s).2
  rw [bigSep_univ_four] at h
  exact h
theorem cm_cut (c : Dev nD) (s : Fin 4) : cmQ m c (quarter c s.val).val
    = iprop(cmP m c (peer c (4 * s.val)) ∗ cmP m c (peer c (4 * s.val + 1)) ∗ cmP m c (peer c (4 * s.val + 2)) ∗ cmP m c (peer c (4 * s.val + 3))) := by
  have h := pts_cut (ℓ := (c : Thread nD τ).loc cc0_scratch2) (cols (d := ![256, 4096]) 1024 (quarter c s.val).val) fullShare (Gt m c)
    (fun u : Fin 4 => cols (d := ![256, 4096]) 256 (peer c (4 * s.val + u.val)).val) (four_cols c s).1 (four_cols c s).2
  rw [bigSep_univ_four] at h
  exact h

/-- A quarter of the left factor's columns once it is read: at rest again, in the array and in the buffer. -/
def xRest (c : Dev nD) (s : Fin 4) : sProp 𝕄 :=
  iprop(xfP m c (quarter c s.val).val ∗ xA m c (quarter c s.val).val ∗ semVal ((c : Thread nD τ), xS s) 0)

/-- The wait for a quarter of the left factor's columns, and its cast. -/
theorem x_take {α : Type} {Q : α → sProp 𝕄} (c : Dev nD) (s : Fin 4) (i : ℕ) {sp sp' : Space} {z z' : Shape} {e e' : EltTy} {src : Memref sig .tc sp z e} {dst : Memref sig .tc sp' z' e'}
    {sem : DmaSem sig} {w₁ w₂} {off : Fin 2 → ℕ} {ia ib}
    {pay : (S1024x256.Idx → Elt F .f32) → S1024x256.Idx → Elt F .fp8e5m2}
    {hla : xfM.view.LoadsAt (Rect.unit (s := S4096x256) off S1024x256.size ia).toLoadRect}
    {hlb : x8M.view.LoadsAt (Rect.unit (s := S4096x256) off S1024x256.size ia).toLoadRect}
    {hx : (x8M.access (Rect.unit (s := S4096x256) off S1024x256.size ib)).Stores Finset.univ} {hm}
    {K : Prog (TpuEff nD τ sig (Elt F) Λ₀ .tc) α} (hN : dst.view.dmaCredit = NX) (hsm : SemLoc.dma sem = xS s)
    (ho : off = ![1024 * (quarter c s.val).val, 0]) (hpay : ∀ v, pay v = truncf .fp8e5m2 v bitsLt_fp8e5m2_f32) :
    iprop(ctx m ∗ flX m c s ∗ x8E c (quarter c s.val).val ∗ ow c (owedRecv c i))
      ⊢ iprop((iprop(xRest m c s ∗ (x8P m c (peer c (4 * s.val)) ∗ x8P m c (peer c (4 * s.val + 1)) ∗ x8P m c (peer c (4 * s.val + 2)) ∗ x8P m c (peer c (4 * s.val + 3)))
            ∗ ow c (owedRecv c i)) -∗ Wp c K Q)
        -∗ Wp c (.op (.waitDma2 sem src dst w₁ w₂) fun _ =>
            .op (.load xfM (Rect.unit (s := S4096x256) off S1024x256.size ia).toLoadRect hla) fun v =>
            .op (.load x8M (Rect.unit (s := S4096x256) off S1024x256.size ia).toLoadRect hlb) fun _ =>
            .op (.store x8M (Rect.unit (s := S4096x256) off S1024x256.size ib) (pay v) Finset.univ hx hm) fun _ => K) Q) := by
  have hset : (Rect.unit (s := S4096x256) off S1024x256.size ia).set = rows (d := ![4096, 256]) 1024 (quarter c s.val).val :=
    rect_rows (d := ![4096, 256]) (off := off) (size := S1024x256.size) (inb := ia) 1024 _ (by decide) (by rw [ho]; rfl) (by rw [ho]; rfl) rfl rfl
  have hsx : (xfM.access (Rect.unit (s := S4096x256) off S1024x256.size ia)).set = rows (d := ![4096, 256]) 1024 (quarter c s.val).val :=
    (View.set_slice_whole _ _).trans hset
  have hs8 : (x8M.access (Rect.unit (s := S4096x256) off S1024x256.size ia)).set = rows (d := ![4096, 256]) 1024 (quarter c s.val).val :=
    (View.set_slice_whole _ _).trans hset
  have hw : pay ((xfM.access (Rect.unit (s := S4096x256) off S1024x256.size ia)).read (Elt F) (X m c))
      = (x8M.access (Rect.unit (s := S4096x256) off S1024x256.size ib)).read (Elt F) (X8 m c) := by
    rw [hpay]; rfl
  rw [← x8_cut]
  unfold flX x8E xRest
  iintro ⟨#Hctx, HF, ⟨%f, H8⟩, HO⟩ Hk
  iapply (copy_wait m c hN hsm i (x_ne_recv s)) $$ [HF HO]
  · isplitl []; · iexact Hctx
    isplitl [HF]; · iexact HF
    iexact HO
  iintro ⟨⟨Hf, Ha⟩, Hv, HO⟩
  unfold xfP
  iapply (load_part c (M := xfM) (r := Rect.unit (s := S4096x256) off S1024x256.size ia) hsx.le rfl) $$ [Hf]
  · iexact Hf
  iintro Hf
  iapply (load_part c (M := x8M) (r := Rect.unit (s := S4096x256) off S1024x256.size ia) hs8.le rfl) $$ [H8]
  · iexact H8
  iintro H8
  iapply (store_part c (M := x8M) (r := Rect.unit (s := S4096x256) off S1024x256.size ib) (G := X8 m c) hs8 hw) $$ [H8]
  · iexact H8
  iintro H8
  iapply Hk
  isplitl [Hf Ha Hv]
  · isplitl [Hf]; · iexact Hf
    isplitl [Ha] <;> iassumption
  isplitl [H8]; · unfold x8Q; iexact H8
  iexact HO

/-- The wait for a quarter of the right factor. -/
theorem w_wait {α : Type} {Q : α → sProp 𝕄} (c : Dev nD) (s : Fin 2) (q : Fin 4) {sp sp' : Space} {z z' : Shape} {e e' : EltTy} {src : Memref sig .tc sp z e} {dst : Memref sig .tc sp' z' e'}
    {sem : DmaSem sig} {w₁ w₂} {K : Prog (TpuEff nD τ sig (Elt F) Λ₀ .tc) α} (hN : dst.view.dmaCredit = NW) (hsm : SemLoc.dma sem = wS s) :
    iprop(ctx m ∗ flW m c s q ∗ ow c 0)
      ⊢ iprop((iprop(wfP m c s.val q ∗ wA m c q.val ∗ semVal ((c : Thread nD τ), wS s) 0 ∗ ow c 0) -∗ Wp c K Q)
        -∗ Wp c (.op (.waitDma2 sem src dst w₁ w₂) fun _ => K) Q) := by
  have h0 : owedRecv c 16 = 0 := owing_last (pos c) (pos_lt c) _
  unfold flW
  iintro ⟨#Hctx, HF, HO⟩ Hk
  rw [← h0]
  iapply (copy_wait m c hN hsm 16 (w_ne_recv s)) $$ [HF HO]
  · isplitl []; · iexact Hctx
    isplitl [HF]; · iexact HF
    iexact HO
  iintro ⟨⟨Hf, Ha⟩, Hv, HO⟩
  iapply Hk
  isplitl [Hf]; · iexact Hf
  isplitl [Ha]; · iexact Ha
  isplitl [Hv] <;> iassumption

section Slots
variable {α : Type} (c : Dev nD) (s : ℕ) (q : Fin 4) {off : Fin 3 → ℕ} {inb : ∀ a : Fin S2x1024x2048.rank, off a + S1x1024x2048.size a ≤ S2x1024x2048.size a}

theorem slot_wf (ho : off = ![s, 0, 0]) : (wfM.access (Rect.unit (s := S2x1024x2048) off S1x1024x2048.size inb)).set = slot s :=
  (View.set_slice_whole _ _).trans (set_slot (b := cc0_scratch3) (off := off) (inb := inb) s (by rw [ho]; rfl) (by rw [ho]; rfl) (by rw [ho]; rfl))
theorem slot_w8 (ho : off = ![s, 0, 0]) : (w8M.access (Rect.unit (s := S2x1024x2048) off S1x1024x2048.size inb)).set = slot s :=
  (View.set_slice_whole _ _).trans (set_slot (b := cc0_scratch4) (off := off) (inb := inb) s (by rw [ho]; rfl) (by rw [ho]; rfl) (by rw [ho]; rfl))

theorem wf_load {Q : α → sProp 𝕄} {hl} {K : (S1x1024x2048.Idx → Elt F .f32) → Prog (TpuEff nD τ sig (Elt F) Λ₀ .tc) α} (ho : off = ![s, 0, 0]) :
    wfP m c s q ⊢ iprop((wfP m c s q -∗ Wp c (K (W1 m c q)) Q)
      -∗ Wp c (.op (.load wfM (Rect.unit (s := S2x1024x2048) off S1x1024x2048.size inb).toLoadRect hl) K) Q) := by
  unfold wfP
  exact load_part c (M := wfM) (r := Rect.unit (s := S2x1024x2048) off S1x1024x2048.size inb) (slot_wf s ho).le
    (read_wf m c q (by rw [ho]; rfl) (by rw [ho]; rfl))
theorem w8_load {Q : α → sProp 𝕄} {hl} {K : (S1x1024x2048.Idx → Elt F .fp8e5m2) → Prog (TpuEff nD τ sig (Elt F) Λ₀ .tc) α} (ho : off = ![s, 0, 0]) :
    w8P m c s q ⊢ iprop((w8P m c s q -∗ Wp c (K (W81 m c q)) Q)
      -∗ Wp c (.op (.load w8M (Rect.unit (s := S2x1024x2048) off S1x1024x2048.size inb).toLoadRect hl) K) Q) := by
  unfold w8P
  exact load_part c (M := w8M) (r := Rect.unit (s := S2x1024x2048) off S1x1024x2048.size inb) (slot_w8 s ho).le
    (read_w8 m c q (by rw [ho]; rfl) (by rw [ho]; rfl))
theorem w8_peek {Q : α → sProp 𝕄} {hl} {K : Prog (TpuEff nD τ sig (Elt F) Λ₀ .tc) α} (ho : off = ![s, 0, 0]) :
    w8E c s ⊢ iprop((w8E c s -∗ Wp c K Q)
      -∗ Wp c (.op (.load w8M (Rect.unit (s := S2x1024x2048) off S1x1024x2048.size inb).toLoadRect hl) fun _ => K) Q) := by
  unfold w8E
  iintro ⟨%f, H⟩ Hk
  iapply (load_part c (M := w8M) (r := Rect.unit (s := S2x1024x2048) off S1x1024x2048.size inb) (slot_w8 s ho).le rfl) $$ [H]
  · iexact H
  iintro H
  iapply Hk
  iexists _; iexact H
theorem w8_store {Q : α → sProp 𝕄} {w : S1x1024x2048.Idx → Elt F .fp8e5m2} {hx hm} {K : Prog (TpuEff nD τ sig (Elt F) Λ₀ .tc) α} (ho : off = ![s, 0, 0]) (hw : w = W81 m c q) :
    w8E c s ⊢ iprop((w8P m c s q -∗ Wp c K Q)
      -∗ Wp c (.op (.store w8M (Rect.unit (s := S2x1024x2048) off S1x1024x2048.size inb) w Finset.univ hx hm) fun _ => K) Q) := by
  unfold w8E w8P
  iintro ⟨%f, H⟩ Hk
  iapply (store_part c (M := w8M) (r := Rect.unit (s := S2x1024x2048) off S1x1024x2048.size inb) (G := W8F m c q) (slot_w8 s ho)
    (hw.trans (read_w8 m c q (by rw [ho]; rfl) (by rw [ho]; rfl)).symm)) $$ [H]
  · iexact H
  iintro H
  iapply Hk
  iexact H

end Slots

theorem wf_drop (c : Dev nD) (s : ℕ) (q : Fin 4) : wfP m c s q ⊢ wfE c s := by unfold wfP wfE; iintro H; iexists _; iexact H
theorem w8_drop (c : Dev nD) (s : ℕ) (q : Fin 4) : w8P m c s q ⊢ w8E c s := by unfold w8P w8E; iintro H; iexists _; iexact H

theorem cm_load {α : Type} {Q : α → sProp 𝕄} (c : Dev nD) (q : Fin 4) {off : Fin 2 → ℕ} {inb hl} {K : (S256x1024.Idx → Elt F .fp8e5m2) → Prog (TpuEff nD τ sig (Elt F) Λ₀ .tc) α}
    (ho : off = ![0, 1024 * q.val]) :
    cmQ m c q.val ⊢ iprop((cmQ m c q.val -∗ Wp c (K (GQ m c q)) Q)
      -∗ Wp c (.op (.load cmM (Rect.unit (s := S256x4096) off S256x1024.size inb).toLoadRect hl) K) Q) := by
  unfold cmQ
  exact load_part c (M := cmM) (r := Rect.unit (s := S256x4096) off S256x1024.size inb)
    ((View.set_slice_whole _ _).trans (rect_cols (d := ![256, 4096]) (off := off) (size := S256x1024.size) (inb := inb) 1024 q.val (by decide)
      (by rw [ho]; rfl) (by rw [ho]; rfl) rfl rfl)).le
    (read_cm m c q (by rw [ho]; rfl) (by rw [ho]; rfl))
theorem o_load {α : Type} {Q : α → sProp 𝕄} (c : Dev nD) (v : S256x2048.Idx → Elt F .f32) {inb hl} {K : (S256x2048.Idx → Elt F .f32) → Prog (TpuEff nD τ sig (Elt F) Λ₀ .tc) α} :
    outP c v ⊢ iprop((outP c v -∗ Wp c (K v) Q)
      -∗ Wp c (.op (.load oM (Rect.unit (s := S256x2048) ![0, 0] S256x2048.size inb).toLoadRect hl) K) Q) := by
  unfold outP
  exact load_part c (M := oM) (r := Rect.unit (s := S256x2048) ![0, 0] S256x2048.size inb) (Finset.subset_univ _)
    (Memref.read_access_unit_zero (Elt F) cc0_stg2_0 (by decide) inb v)
theorem o_store {α : Type} {Q : α → sProp 𝕄} (c : Dev nD) (v w : S256x2048.Idx → Elt F .f32) {inb hx hm} {K : Prog (TpuEff nD τ sig (Elt F) Λ₀ .tc) α} :
    outP c v ⊢ iprop((outP c w -∗ Wp c K Q)
      -∗ Wp c (.op (.store oM (Rect.unit (s := S256x2048) ![0, 0] S256x2048.size inb) w Finset.univ hx hm) fun _ => K) Q) := by
  unfold outP
  refine store_part c (M := oM) (r := Rect.unit (s := S256x2048) ![0, 0] S256x2048.size inb) (S := Finset.univ) (f := v) (G := w) (k := fun _ => K) (Q := Q) ?_
    (Memref.read_access_unit_zero (Elt F) cc0_stg2_0 (by decide) inb w).symm
  refine (View.set_slice_whole _ _).trans (Finset.eq_univ_of_forall fun i => ?_)
  rw [Rect.mem_set_unit]
  have h0 : (i 0 : Nat) < 256 := (i 0).isLt
  have h1 : (i 1 : Nat) < 2048 := (i 1).isLt
  refine Fin.forall_fin_two.mpr ⟨⟨Nat.zero_le _, ?_⟩, Nat.zero_le _, ?_⟩
  · show (i 0 : Nat) < 0 + 256; omega
  · show (i 1 : Nat) < 0 + 2048; omega

end Cert.KernelIdeal.Exchange

end
-- ==== Proof.KernelIdealBody.lean ====
/-
The body of the kernel, part by part, for any float values.

Each part of the printed body is one theorem: from what the part takes, it ends with what the part leaves. Together
they take a device from the launch to the end of its one grid step.
-/
module

public import proofs.«01_k».proof.Proof.KernelIdealSteps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What a copy of a quarter of the left factor's columns starts from. -/
def xInit (c : Dev nD) (s : Fin 4) : sProp 𝕄 :=
  iprop(xA m c (quarter c s.val).val ∗ xfE c (quarter c s.val).val ∗ semVal ((c : Thread nD τ), xS s) 0)
/-- What a copy of a quarter of the right factor starts from. -/
def wInit (c : Dev nD) (s : Fin 2) (q : Fin 4) : sProp 𝕄 := iprop(wA m c q.val ∗ wfE c s.val ∗ semVal ((c : Thread nD τ), wS s) 0)
/-- The signals of the peers below `i` are sent. -/
def sigs (c : Dev nD) (i : ℕ) : sProp 𝕄 := sweep Fin.val i (sigPre (F := F) c) (sigPost c)
/-- The rights to pay, one pair for each peer. -/
def toks (c : Dev nD) : sProp 𝕄 := bigSep Finset.univ fun j => iprop(dutyTok ER (recvCell j c) 0 c ∗ dutyTok ER (sendCell c j) 0 j)

/-- Everybody's signal is in: the copies can begin. -/
theorem copies_zero (c : Dev nD) : iprop((bigSep Finset.univ fun j => land (F := F) j c) ∗ toks c) ⊢ copies m c 0 := by
  unfold copies toks
  rw [sweep_zero]
  exact Entails.of_eq (bigSep_sep' _ _ _).symm

theorem part1 (c : Dev nD) {Kt : (Σ' (d0 : Dev nD) (v2 : BitVec 32), BitVec 32) → sProp 𝕄} :
    xInit m c 0 ⊢ iprop((∀ v2 v19, flX m c 0 -∗ Kt ⟨c, v2, v19⟩)
      -∗ Wp c (k0_part1 xM (Memref.isWhole_whole _) wM (Memref.isWhole_whole _) sxM (Memref.isWhole_whole _) swM (Memref.isWhole_whole _) oM (Memref.isWhole_whole _)
          xfM (Memref.isWhole_whole _) x8M (Memref.isWhole_whole _) cmM (Memref.isWhole_whole _) wfM (Memref.isWhole_whole _) w8M (Memref.isWhole_whole _)
          cc0_scratch5 cc0_scratch6 cc0_scratch7 cc0_scratch8) Kt) := by
  rw [k0_part1_eq_skeleton]; unfold k0_part1_skel
  simp only [semSignalWord, semWaitWord, Prog.lift, wp_bind, Prog.bind_op, Prog.bind_ret, Prog.pure_eq_ret, wp_deviceId]
  unfold xInit
  iintro H Hk
  iapply (x_start m c 0 rfl (by revert c; decide +kernel)) $$ [H]
  · iexact H
  iintro HF
  iapply le_wp_ret
  iapply Hk
  iexact HF

theorem part2 (c : Dev nD) (v19 : BitVec 32) {Kt : PUnit → sProp 𝕄} :
    iprop(xInit m c 1 ∗ xInit m c 2 ∗ xInit m c 3 ∗ wInit m c 0 (quarter c 0))
      ⊢ iprop((iprop(flX m c 1 ∗ flX m c 2 ∗ flX m c 3 ∗ flW m c 0 (quarter c 0)) -∗ Kt ⟨⟩)
      -∗ Wp c (k0_part2 xM (Memref.isWhole_whole _) wM (Memref.isWhole_whole _) sxM (Memref.isWhole_whole _) swM (Memref.isWhole_whole _) oM (Memref.isWhole_whole _)
          xfM (Memref.isWhole_whole _) x8M (Memref.isWhole_whole _) cmM (Memref.isWhole_whole _) wfM (Memref.isWhole_whole _) w8M (Memref.isWhole_whole _)
          cc0_scratch5 cc0_scratch6 cc0_scratch7 cc0_scratch8 c v19) Kt) := by
  rw [k0_part2_eq_skeleton]; unfold k0_part2_skel
  simp only [semSignalWord, semWaitWord, Prog.lift, wp_bind, Prog.bind_op, Prog.bind_ret, Prog.pure_eq_ret, wp_deviceId]
  unfold xInit wInit
  iintro ⟨H1, H2, H3, HW⟩ Hk
  iapply (x_start m c 1 rfl (by revert c; decide +kernel)) $$ [H1]
  · iexact H1
  iintro H1
  iapply (x_start m c 2 rfl (by revert c; decide +kernel)) $$ [H2]
  · iexact H2
  iintro H2
  iapply (x_start m c 3 rfl (by revert c; decide +kernel)) $$ [H3]
  · iexact H3
  iintro H3
  iapply (w_start m c 0 (quarter c 0) rfl (by revert c; decide +kernel) rfl) $$ [HW]
  · iexact HW
  iintro HW
  iapply le_wp_ret
  iapply Hk
  isplitl [H1]; · iexact H1
  isplitl [H2]; · iexact H2
  isplitl [H3] <;> iassumption

theorem part3 (c : Dev nD) (v2 : BitVec 32) {Kt : (Σ' (v68 : Sems sig S_), BitVec 32) → sProp 𝕄} :
    iprop(ctx m ∗ wInit m c 1 (quarter c 1) ∗ ow c (owedRecv c 0 + owedBar c 0) ∗ sigs c 0)
      ⊢ iprop((∀ v94, iprop(flW m c 1 (quarter c 1) ∗ ow c (owedRecv c 0 + owedBar c 8) ∗ sigs c 8) -∗ Kt ⟨SemArray.scalar (sig.barrier 0 rfl), v94⟩)
      -∗ Wp c (k0_part3 xM (Memref.isWhole_whole _) wM (Memref.isWhole_whole _) sxM (Memref.isWhole_whole _) swM (Memref.isWhole_whole _) oM (Memref.isWhole_whole _)
          xfM (Memref.isWhole_whole _) x8M (Memref.isWhole_whole _) cmM (Memref.isWhole_whole _) wfM (Memref.isWhole_whole _) w8M (Memref.isWhole_whole _)
          cc0_scratch5 cc0_scratch6 cc0_scratch7 cc0_scratch8 c v2) Kt) := by
  rw [k0_part3_eq_skeleton]; unfold k0_part3_skel
  simp only [semSignalWord, semWaitWord, Prog.lift, wp_bind, Prog.bind_op, Prog.bind_ret, Prog.pure_eq_ret, wp_deviceId]
  unfold wInit sigs
  iintro ⟨#Hc, HW, HO, HS⟩ Hk
  iapply (w_start m c 1 (quarter c 1) rfl (by revert c; decide +kernel) rfl) $$ [HW]
  · iexact HW
  iintro HW
  iapply (sig_step m c 0 (by revert c; decide +kernel) rfl) $$ [HO HS]
  · isplitl []; · iexact Hc
    isplitl [HO]; · iexact HO
    iexact HS
  iintro ⟨HO, HS⟩
  iapply (sig_step m c 1 (by revert c; decide +kernel) rfl) $$ [HO HS]
  · isplitl []; · iexact Hc
    isplitl [HO]; · iexact HO
    iexact HS
  iintro ⟨HO, HS⟩
  iapply (sig_step m c 2 (by revert c; decide +kernel) rfl) $$ [HO HS]
  · isplitl []; · iexact Hc
    isplitl [HO]; · iexact HO
    iexact HS
  iintro ⟨HO, HS⟩
  iapply (sig_step m c 3 (by revert c; decide +kernel) rfl) $$ [HO HS]
  · isplitl []; · iexact Hc
    isplitl [HO]; · iexact HO
    iexact HS
  iintro ⟨HO, HS⟩
  iapply (sig_step m c 4 (by revert c; decide +kernel) rfl) $$ [HO HS]
  · isplitl []; · iexact Hc
    isplitl [HO]; · iexact HO
    iexact HS
  iintro ⟨HO, HS⟩
  iapply (sig_step m c 5 (by revert c; decide +kernel) rfl) $$ [HO HS]
  · isplitl []; · iexact Hc
    isplitl [HO]; · iexact HO
    iexact HS
  iintro ⟨HO, HS⟩
  iapply (sig_step m c 6 (by revert c; decide +kernel) rfl) $$ [HO HS]
  · isplitl []; · iexact Hc
    isplitl [HO]; · iexact HO
    iexact HS
  iintro ⟨HO, HS⟩
  iapply (sig_step m c 7 (by revert c; decide +kernel) rfl) $$ [HO HS]
  · isplitl []; · iexact Hc
    isplitl [HO]; · iexact HO
    iexact HS
  iintro ⟨HO, HS⟩
  iapply le_wp_ret
  iapply Hk
  isplitl [HW]; · iexact HW
  isplitl [HO]; · iexact HO
  iexact HS

theorem part4 (c : Dev nD) (v2 v19 v94 : BitVec 32) {Kt : BitVec 32 → sProp 𝕄} :
    iprop(ctx m ∗ ow c (owedRecv c 0 + owedBar c 8) ∗ sigs c 8)
      ⊢ iprop((∀ v118, iprop(ow c (owedRecv c 0) ∗ bigSep Finset.univ (sigPost (F := F) c)) -∗ Kt v118)
      -∗ Wp c (k0_part4 xM (Memref.isWhole_whole _) wM (Memref.isWhole_whole _) sxM (Memref.isWhole_whole _) swM (Memref.isWhole_whole _) oM (Memref.isWhole_whole _)
          xfM (Memref.isWhole_whole _) x8M (Memref.isWhole_whole _) cmM (Memref.isWhole_whole _) wfM (Memref.isWhole_whole _) w8M (Memref.isWhole_whole _)
          cc0_scratch5 cc0_scratch6 cc0_scratch7 cc0_scratch8 c v2 v19 (SemArray.scalar (sig.barrier 0 rfl)) v94) Kt) := by
  rw [k0_part4_eq_skeleton]; unfold k0_part4_skel
  simp only [semSignalWord, semWaitWord, Prog.lift, wp_bind, Prog.bind_op, Prog.bind_ret, Prog.pure_eq_ret, wp_deviceId]
  unfold sigs
  iintro ⟨#Hc, HO, HS⟩ Hk
  iapply (sig_step m c 8 (by revert c; decide +kernel) rfl) $$ [HO HS]
  · isplitl []; · iexact Hc
    isplitl [HO]; · iexact HO
    iexact HS
  iintro ⟨HO, HS⟩
  iapply (sig_step m c 9 (by revert c; decide +kernel) rfl) $$ [HO HS]
  · isplitl []; · iexact Hc
    isplitl [HO]; · iexact HO
    iexact HS
  iintro ⟨HO, HS⟩
  iapply (sig_step m c 10 (by revert c; decide +kernel) rfl) $$ [HO HS]
  · isplitl []; · iexact Hc
    isplitl [HO]; · iexact HO
    iexact HS
  iintro ⟨HO, HS⟩
  iapply (sig_step m c 11 (by revert c; decide +kernel) rfl) $$ [HO HS]
  · isplitl []; · iexact Hc
    isplitl [HO]; · iexact HO
    iexact HS
  iintro ⟨HO, HS⟩
  iapply (sig_step m c 12 (by revert c; decide +kernel) rfl) $$ [HO HS]
  · isplitl []; · iexact Hc
    isplitl [HO]; · iexact HO
    iexact HS
  iintro ⟨HO, HS⟩
  iapply (sig_step m c 13 (by revert c; decide +kernel) rfl) $$ [HO HS]
  · isplitl []; · iexact Hc
    isplitl [HO]; · iexact HO
    iexact HS
  iintro ⟨HO, HS⟩
  iapply (sig_step m c 14 (by revert c; decide +kernel) rfl) $$ [HO HS]
  · isplitl []; · iexact Hc
    isplitl [HO]; · iexact HO
    iexact HS
  iintro ⟨HO, HS⟩
  iapply (sig_step m c 15 (by revert c; decide +kernel) rfl) $$ [HO HS]
  · isplitl []; · iexact Hc
    isplitl [HO]; · iexact HO
    iexact HS
  iintro ⟨HO, HS⟩
  iapply le_wp_ret
  iapply Hk
  have h0 : owedRecv c 0 + owedBar c 16 = owedRecv c 0 := by rw [owedBar, owing_last Fin.val (fun d => d.isLt), add_zero]
  have hl : sweep Fin.val 16 (sigPre (F := F) c) (sigPost c) = bigSep Finset.univ (sigPost c) := sweep_last Fin.val (fun d => d.isLt) _ _
  isplitl [HO]
  · iapply (Entails.of_eq (congrArg (ow (F := F) c) h0)); iexact HO
  iapply (Entails.of_eq hl); iexact HS

theorem part5 (c : Dev nD) (v2 v118 : BitVec 32) {Kt : (Σ' (v152 : BitVec 32) (v157 : BitVec 32), BitVec 32) → sProp 𝕄} :
    iprop(ctx m ∗ flX m c 0 ∗ x8E c (quarter c 0).val ∗ ow c (owedRecv c 0)
        ∗ cred (tallyAt (barCell c) () 15) ∗ atPos ER (barCell c) 0 ∅ 0 ∗ bigSep Finset.univ (sigPost (F := F) c) ∗ toks c)
      ⊢ iprop((∀ r, iprop(xRest m c 0 ∗ semVal (barCell c) 0 ∗ ow c (owedRecv c 2) ∗ copiesMid m c 2 ∗ x8P m c (peer c 3)) -∗ Kt r)
      -∗ Wp c (k0_part5 xM (Memref.isWhole_whole _) wM (Memref.isWhole_whole _) sxM (Memref.isWhole_whole _) swM (Memref.isWhole_whole _) oM (Memref.isWhole_whole _)
          xfM (Memref.isWhole_whole _) x8M (Memref.isWhole_whole _) cmM (Memref.isWhole_whole _) wfM (Memref.isWhole_whole _) w8M (Memref.isWhole_whole _)
          cc0_scratch5 cc0_scratch6 cc0_scratch7 cc0_scratch8 c v2 (SemArray.scalar (sig.barrier 0 rfl)) v118) Kt) := by
  rw [k0_part5_eq_skeleton]; unfold k0_part5_skel
  simp only [semSignalWord, semWaitWord, Prog.lift, wp_bind, Prog.bind_op, Prog.bind_ret, Prog.pure_eq_ret, wp_deviceId]
  iintro ⟨#Hc, HF, H8, HO, Hcr, Hat, HS, HT⟩ Hk
  iapply (x_take m c 0 0 (by rfl) (by rfl) (by revert c; decide +kernel) (fun v => shapeCast_self _ _)) $$ [HF H8 HO]
  · isplitl []; · iexact Hc
    isplitl [HF]; · iexact HF
    isplitl [H8]; · iexact H8
    iexact HO
  iintro ⟨HX, ⟨H0, H1, H2, H3⟩, HO⟩
  iapply (bar_wait m c) $$ [HO Hcr Hat HS]
  · isplitl []; · iexact Hc
    isplitl [HO]; · iexact HO
    isplitl [Hcr]; · iexact Hcr
    isplitl [Hat]; · iexact Hat
    iexact HS
  iintro ⟨HO, Hv, HL⟩
  ihave HC := (copies_zero m c) $$ [HL HT]
  · isplitl [HL]; · iexact HL
    iexact HT
  iapply (own_step m c 0 (by revert c; decide +kernel) (by revert c; decide +kernel) (by revert c; decide +kernel) (fun v => shapeCast_self _ _)) $$ [HC H0]
  · isplitl [HC]; · iexact HC
    iexact H0
  iintro HC
  iapply (send_step m c 0 (by revert c; decide +kernel) (by revert c; decide +kernel) (by revert c; decide +kernel) (by revert c; decide +kernel) (by revert c; decide +kernel)
    (by revert c; decide +kernel)) $$ [HO HC]
  · isplitl []; · iexact Hc
    isplitl [HO]; · iexact HO
    iexact HC
  iintro ⟨HO, HC⟩
  iapply (own_step m c 1 (by revert c; decide +kernel) (by revert c; decide +kernel) (by revert c; decide +kernel) (fun v => shapeCast_self _ _)) $$ [HC H1]
  · isplitl [HC]; · iexact HC
    iexact H1
  iintro HC
  iapply (send_step m c 1 (by revert c; decide +kernel) (by revert c; decide +kernel) (by revert c; decide +kernel) (by revert c; decide +kernel) (by revert c; decide +kernel)
    (by revert c; decide +kernel)) $$ [HO HC]
  · isplitl []; · iexact Hc
    isplitl [HO]; · iexact HO
    iexact HC
  iintro ⟨HO, HC⟩
  iapply (own_step m c 2 (by revert c; decide +kernel) (by revert c; decide +kernel) (by revert c; decide +kernel) (fun v => shapeCast_self _ _)) $$ [HC H2]
  · isplitl [HC]; · iexact HC
    iexact H2
  iintro HC
  iapply le_wp_ret
  iapply Hk
  isplitl [HX]; · iexact HX
  isplitl [Hv]; · iexact Hv
  isplitl [HO]; · iexact HO
  isplitl [HC]; · iexact HC
  iexact H3

theorem part6 (c : Dev nD) (v2 v19 v118 v152 v157 v90 : BitVec 32) {Kt : (Σ' (v168 : BitVec 32) (v186 : BitVec 32) (v191 : BitVec 32), BitVec 32) → sProp 𝕄} :
    iprop(ctx m ∗ flX m c 1 ∗ x8E c (quarter c 1).val ∗ ow c (owedRecv c 2) ∗ copiesMid m c 2 ∗ x8P m c (peer c 3))
      ⊢ iprop((∀ r, iprop(xRest m c 1 ∗ ow c (owedRecv c 4) ∗ copiesMid m c 4 ∗ x8P m c (peer c 5) ∗ x8P m c (peer c 6) ∗ x8P m c (peer c 7)) -∗ Kt r)
      -∗ Wp c (k0_part6 xM (Memref.isWhole_whole _) wM (Memref.isWhole_whole _) sxM (Memref.isWhole_whole _) swM (Memref.isWhole_whole _) oM (Memref.isWhole_whole _)
          xfM (Memref.isWhole_whole _) x8M (Memref.isWhole_whole _) cmM (Memref.isWhole_whole _) wfM (Memref.isWhole_whole _) w8M (Memref.isWhole_whole _)
          cc0_scratch5 cc0_scratch6 cc0_scratch7 cc0_scratch8 c v2 v19 v118 v152 v157 v90) Kt) := by
  rw [k0_part6_eq_skeleton]; unfold k0_part6_skel
  simp only [semSignalWord, semWaitWord, Prog.lift, wp_bind, Prog.bind_op, Prog.bind_ret, Prog.pure_eq_ret, wp_deviceId]
  iintro ⟨#Hc, HF, H8, HO, HC, H3⟩ Hk
  iapply (send_step m c 2 (by revert c; decide +kernel) (by revert c; decide +kernel) (by revert c; decide +kernel) (by revert c; decide +kernel) (by revert c; decide +kernel)
    (by revert c; decide +kernel)) $$ [HO HC]
  · isplitl []; · iexact Hc
    isplitl [HO]; · iexact HO
    iexact HC
  iintro ⟨HO, HC⟩
  iapply (own_step m c 3 (by revert c; decide +kernel) (by revert c; decide +kernel) (by revert c; decide +kernel) (fun v => shapeCast_self _ _)) $$ [HC H3]
  · isplitl [HC]; · iexact HC
    iexact H3
  iintro HC
  iapply (send_step m c 3 (by revert c; decide +kernel) (by revert c; decide +kernel) (by revert c; decide +kernel) (by revert c; decide +kernel) (by revert c; decide +kernel)
    (by revert c; decide +kernel)) $$ [HO HC]
  · isplitl []; · iexact Hc
    isplitl [HO]; · iexact HO
    iexact HC
  iintro ⟨HO, HC⟩
  iapply (x_take m c 1 4 (by rfl) (by rfl) (by revert c; decide +kernel) (fun v => shapeCast_self _ _)) $$ [HF H8 HO]
  · isplitl []; · iexact Hc
    isplitl [HF]; · iexact HF
    isplitl [H8]; · iexact H8
    iexact HO
  iintro ⟨HX, ⟨H0, H1, H2, H3⟩, HO⟩
  iapply (own_step m c 4 (by revert c; decide +kernel) (by revert c; decide +kernel) (by revert c; decide +kernel) (fun v => shapeCast_self _ _)) $$ [HC H0]
  · isplitl [HC]; · iexact HC
    iexact H0
  iintro HC
  iapply le_wp_ret
  iapply Hk
  isplitl [HX]; · iexact HX
  isplitl [HO]; · iexact HO
  isplitl [HC]; · iexact HC
  isplitl [H1]; · iexact H1
  isplitl [H2]; · iexact H2
  iexact H3

theorem part7 (c : Dev nD) (v2 v19 v168 v186 v191 v110 : BitVec 32) {Kt : BitVec 32 → sProp 𝕄} :
    iprop(ctx m ∗ ow c (owedRecv c 4) ∗ copiesMid m c 4 ∗ x8P m c (peer c 5) ∗ x8P m c (peer c 6) ∗ x8P m c (peer c 7))
      ⊢ iprop((∀ r, iprop(ow c (owedRecv c 8) ∗ copies m c 8) -∗ Kt r)
      -∗ Wp c (k0_part7 xM (Memref.isWhole_whole _) wM (Memref.isWhole_whole _) sxM (Memref.isWhole_whole _) swM (Memref.isWhole_whole _) oM (Memref.isWhole_whole _)
          xfM (Memref.isWhole_whole _) x8M (Memref.isWhole_whole _) cmM (Memref.isWhole_whole _) wfM (Memref.isWhole_whole _) w8M (Memref.isWhole_whole _)
          cc0_scratch5 cc0_scratch6 cc0_scratch7 cc0_scratch8 c v2 v19 v168 v186 v191 v110) Kt) := by
  rw [k0_part7_eq_skeleton]; unfold k0_part7_skel
  simp only [semSignalWord, semWaitWord, Prog.lift, wp_bind, Prog.bind_op, Prog.bind_ret, Prog.pure_eq_ret, wp_deviceId]
  iintro ⟨#Hc, HO, HC, H1, H2, H3⟩ Hk
  iapply (send_step m c 4 (by revert c; decide +kernel) (by revert c; decide +kernel) (by revert c; decide +kernel) (by revert c; decide +kernel) (by revert c; decide +kernel)
    (by revert c; decide +kernel)) $$ [HO HC]
  · isplitl []; · iexact Hc
    isplitl [HO]; · iexact HO
    iexact HC
  iintro ⟨HO, HC⟩
  iapply (own_step m c 5 (by revert c; decide +kernel) (by revert c; decide +kernel) (by revert c; decide +kernel) (fun v => shapeCast_self _ _)) $$ [HC H1]
  · isplitl [HC]; · iexact HC
    iexact H1
  iintro HC
  iapply (send_step m c 5 (by revert c; decide +kernel) (by revert c; decide +kernel) (by revert c; decide +kernel) (by revert c; decide +kernel) (by revert c; decide +kernel)
    (by revert c; decide +kernel)) $$ [HO HC]
  · isplitl []; · iexact Hc
    isplitl [HO]; · iexact HO
    iexact HC
  iintro ⟨HO, HC⟩
  iapply (own_step m c 6 (by revert c; decide +kernel) (by revert c; decide +kernel) (by revert c; decide +kernel) (fun v => shapeCast_self _ _)) $$ [HC H2]
  · isplitl [HC]; · iexact HC
    iexact H2
  iintro HC
  iapply (send_step m c 6 (by revert c; decide +kernel) (by revert c; decide +kernel) (by revert c; decide +kernel) (by revert c; decide +kernel) (by revert c; decide +kernel)
    (by revert c; decide +kernel)) $$ [HO HC]
  · isplitl []; · iexact Hc
    isplitl [HO]; · iexact HO
    iexact HC
  iintro ⟨HO, HC⟩
  iapply (own_step m c 7 (by revert c; decide +kernel) (by revert c; decide +kernel) (by revert c; decide +kernel) (fun v => shapeCast_self _ _)) $$ [HC H3]
  · isplitl [HC]; · iexact HC
    iexact H3
  iintro HC
  iapply (send_step m c 7 (by revert c; decide +kernel) (by revert c; decide +kernel) (by revert c; decide +kernel) (by revert c; decide +kernel) (by revert c; decide +kernel)
    (by revert c; decide +kernel)) $$ [HO HC]
  · isplitl []; · iexact Hc
    isplitl [HO]; · iexact HO
    iexact HC
  iintro ⟨HO, HC⟩
  iapply le_wp_ret
  iapply Hk
  isplitl [HO]; · iexact HO
  iexact HC

theorem part8 (c : Dev nD) (v2 v218 : BitVec 32) {Kt : BitVec 32 → sProp 𝕄} :
    iprop(ctx m ∗ flX m c 2 ∗ x8E c (quarter c 2).val ∗ ow c (owedRecv c 8) ∗ copies m c 8)
      ⊢ iprop((∀ r, iprop(xRest m c 2 ∗ ow c (owedRecv c 11) ∗ copies m c 11 ∗ x8P m c (peer c 11)) -∗ Kt r)
      -∗ Wp c (k0_part8 xM (Memref.isWhole_whole _) wM (Memref.isWhole_whole _) sxM (Memref.isWhole_whole _) swM (Memref.isWhole_whole _) oM (Memref.isWhole_whole _)
          xfM (Memref.isWhole_whole _) x8M (Memref.isWhole_whole _) cmM (Memref.isWhole_whole _) wfM (Memref.isWhole_whole _) w8M (Memref.isWhole_whole _)
          cc0_scratch5 cc0_scratch6 cc0_scratch7 cc0_scratch8 c v2 v218) Kt) := by
  rw [k0_part8_eq_skeleton]; unfold k0_part8_skel
  simp only [semSignalWord, semWaitWord, Prog.lift, wp_bind, Prog.bind_op, Prog.bind_ret, Prog.pure_eq_ret, wp_deviceId]
  iintro ⟨#Hc, HF, H8, HO, HC⟩ Hk
  iapply (x_take m c 2 8 (by rfl) (by rfl) (by revert c; decide +kernel) (fun v => shapeCast_self _ _)) $$ [HF H8 HO]
  · isplitl []; · iexact Hc
    isplitl [HF]; · iexact HF
    isplitl [H8]; · iexact H8
    iexact HO
  iintro ⟨HX, ⟨H0, H1, H2, H3⟩, HO⟩
  iapply (own_step m c 8 (by revert c; decide +kernel) (by revert c; decide +kernel) (by revert c; decide +kernel) (fun v => shapeCast_self _ _)) $$ [HC H0]
  · isplitl [HC]; · iexact HC
    iexact H0
  iintro HC
  iapply (send_step m c 8 (by revert c; decide +kernel) (by revert c; decide +kernel) (by revert c; decide +kernel) (by revert c; decide +kernel) (by revert c; decide +kernel)
    (by revert c; decide +kernel)) $$ [HO HC]
  · isplitl []; · iexact Hc
    isplitl [HO]; · iexact HO
    iexact HC
  iintro ⟨HO, HC⟩
  iapply (own_step m c 9 (by revert c; decide +kernel) (by revert c; decide +kernel) (by revert c; decide +kernel) (fun v => shapeCast_self _ _)) $$ [HC H1]
  · isplitl [HC]; · iexact HC
    iexact H1
  iintro HC
  iapply (send_step m c 9 (by revert c; decide +kernel) (by revert c; decide +kernel) (by revert c; decide +kernel) (by revert c; decide +kernel) (by revert c; decide +kernel)
    (by revert c; decide +kernel)) $$ [HO HC]
  · isplitl []; · iexact Hc
    isplitl [HO]; · iexact HO
    iexact HC
  iintro ⟨HO, HC⟩
  iapply (own_step m c 10 (by revert c; decide +kernel) (by revert c; decide +kernel) (by revert c; decide +kernel) (fun v => shapeCast_self _ _)) $$ [HC H2]
  · isplitl [HC]; · iexact HC
    iexact H2
  iintro HC
  iapply (send_step m c 10 (by revert c; decide +kernel) (by revert c; decide +kernel) (by revert c; decide +kernel) (by revert c; decide +kernel) (by revert c; decide +kernel)
    (by revert c; decide +kernel)) $$ [HO HC]
  · isplitl []; · iexact Hc
    isplitl [HO]; · iexact HO
    iexact HC
  iintro ⟨HO, HC⟩
  iapply le_wp_ret
  iapply Hk
  isplitl [HX]; · iexact HX
  isplitl [HO]; · iexact HO
  isplitl [HC]; · iexact HC
  iexact H3

theorem part9 (c : Dev nD) (v2 v19 v259 : BitVec 32) {Kt : (Σ' (v268 : BitVec 32), BitVec 32) → sProp 𝕄} :
    iprop(ctx m ∗ flX m c 3 ∗ x8E c (quarter c 3).val ∗ ow c (owedRecv c 11) ∗ copies m c 11 ∗ x8P m c (peer c 11))
      ⊢ iprop((∀ r, iprop(xRest m c 3 ∗ ow c (owedRecv c 13) ∗ copies m c 13 ∗ x8P m c (peer c 13) ∗ x8P m c (peer c 14) ∗ x8P m c (peer c 15)) -∗ Kt r)
      -∗ Wp c (k0_part9 xM (Memref.isWhole_whole _) wM (Memref.isWhole_whole _) sxM (Memref.isWhole_whole _) swM (Memref.isWhole_whole _) oM (Memref.isWhole_whole _)
          xfM (Memref.isWhole_whole _) x8M (Memref.isWhole_whole _) cmM (Memref.isWhole_whole _) wfM (Memref.isWhole_whole _) w8M (Memref.isWhole_whole _)
          cc0_scratch5 cc0_scratch6 cc0_scratch7 cc0_scratch8 c v2 v19 v259) Kt) := by
  rw [k0_part9_eq_skeleton]; unfold k0_part9_skel
  simp only [semSignalWord, semWaitWord, Prog.lift, wp_bind, Prog.bind_op, Prog.bind_ret, Prog.pure_eq_ret, wp_deviceId]
  iintro ⟨#Hc, HF, H8, HO, HC, H3⟩ Hk
  iapply (own_step m c 11 (by revert c; decide +kernel) (by revert c; decide +kernel) (by revert c; decide +kernel) (fun v => shapeCast_self _ _)) $$ [HC H3]
  · isplitl [HC]; · iexact HC
    iexact H3
  iintro HC
  iapply (send_step m c 11 (by revert c; decide +kernel) (by revert c; decide +kernel) (by revert c; decide +kernel) (by revert c; decide +kernel) (by revert c; decide +kernel)
    (by revert c; decide +kernel)) $$ [HO HC]
  · isplitl []; · iexact Hc
    isplitl [HO]; · iexact HO
    iexact HC
  iintro ⟨HO, HC⟩
  iapply (x_take m c 3 12 (by rfl) (by rfl) (by revert c; decide +kernel) (fun v => shapeCast_self _ _)) $$ [HF H8 HO]
  · isplitl []; · iexact Hc
    isplitl [HF]; · iexact HF
    isplitl [H8]; · iexact H8
    iexact HO
  iintro ⟨HX, ⟨H0, H1, H2, H3⟩, HO⟩
  iapply (own_step m c 12 (by revert c; decide +kernel) (by revert c; decide +kernel) (by revert c; decide +kernel) (fun v => shapeCast_self _ _)) $$ [HC H0]
  · isplitl [HC]; · iexact HC
    iexact H0
  iintro HC
  iapply (send_step m c 12 (by revert c; decide +kernel) (by revert c; decide +kernel) (by revert c; decide +kernel) (by revert c; decide +kernel) (by revert c; decide +kernel)
    (by revert c; decide +kernel)) $$ [HO HC]
  · isplitl []; · iexact Hc
    isplitl [HO]; · iexact HO
    iexact HC
  iintro ⟨HO, HC⟩
  iapply le_wp_ret
  iapply Hk
  isplitl [HX]; · iexact HX
  isplitl [HO]; · iexact HO
  isplitl [HC]; · iexact HC
  isplitl [H1]; · iexact H1
  isplitl [H2]; · iexact H2
  iexact H3

/-- The number a scale argument holds. -/
abbrev scal (b : S1.Idx → Elt F .f32) : Elt F .f32 := b (Shape.Idx.first (by decide))

theorem part10 (c : Dev nD) (v2 v19 v268 v293 : BitVec 32) (sx sw : S1.Idx → Elt F .f32) {Kt : (Σ' (v319 : F .f32), BitVec 32) → sProp 𝕄} :
    iprop(ctx m ∗ ow c (owedRecv c 13) ∗ copies m c 13 ∗ x8P m c (peer c 13) ∗ x8P m c (peer c 14) ∗ x8P m c (peer c 15)
        ∗ (((c : Thread nD τ).loc cc0_stg0_0) ↦{fullShare} sx) ∗ (((c : Thread nD τ).loc cc0_stg1_0) ↦{fullShare} sw))
      ⊢ iprop((∀ r, iprop(ow c 0 ∗ bigSep Finset.univ (cpPost m c)
            ∗ (((c : Thread nD τ).loc cc0_stg0_0) ↦{fullShare} sx) ∗ (((c : Thread nD τ).loc cc0_stg1_0) ↦{fullShare} sw)) -∗ Kt ⟨k0_pay21 (scal sx) (scal sw), r⟩)
      -∗ Wp c (k0_part10 xM (Memref.isWhole_whole _) wM (Memref.isWhole_whole _) sxM (Memref.isWhole_whole _) swM (Memref.isWhole_whole _) oM (Memref.isWhole_whole _)
          xfM (Memref.isWhole_whole _) x8M (Memref.isWhole_whole _) cmM (Memref.isWhole_whole _) wfM (Memref.isWhole_whole _) w8M (Memref.isWhole_whole _)
          cc0_scratch5 cc0_scratch6 cc0_scratch7 cc0_scratch8 c v2 v19 v268 v293) Kt) := by
  rw [k0_part10_eq_skeleton]; unfold k0_part10_skel
  simp only [semSignalWord, semWaitWord, Prog.lift, wp_bind, Prog.bind_op, Prog.bind_ret, Prog.pure_eq_ret, wp_deviceId]
  simp only [smemLoad, smemLoadElt, Prog.bind_op, Prog.bind_ret]
  iintro ⟨#Hc, HO, HC, H1, H2, H3, Hx, Hw⟩ Hk
  iapply (own_step m c 13 (by revert c; decide +kernel) (by revert c; decide +kernel) (by revert c; decide +kernel) (fun v => shapeCast_self _ _)) $$ [HC H1]
  · isplitl [HC]; · iexact HC
    iexact H1
  iintro HC
  iapply (send_step m c 13 (by revert c; decide +kernel) (by revert c; decide +kernel) (by revert c; decide +kernel) (by revert c; decide +kernel) (by revert c; decide +kernel)
    (by revert c; decide +kernel)) $$ [HO HC]
  · isplitl []; · iexact Hc
    isplitl [HO]; · iexact HO
    iexact HC
  iintro ⟨HO, HC⟩
  iapply (own_step m c 14 (by revert c; decide +kernel) (by revert c; decide +kernel) (by revert c; decide +kernel) (fun v => shapeCast_self _ _)) $$ [HC H2]
  · isplitl [HC]; · iexact HC
    iexact H2
  iintro HC
  iapply (send_step m c 14 (by revert c; decide +kernel) (by revert c; decide +kernel) (by revert c; decide +kernel) (by revert c; decide +kernel) (by revert c; decide +kernel)
    (by revert c; decide +kernel)) $$ [HO HC]
  · isplitl []; · iexact Hc
    isplitl [HO]; · iexact HO
    iexact HC
  iintro ⟨HO, HC⟩
  iapply (own_step m c 15 (by revert c; decide +kernel) (by revert c; decide +kernel) (by revert c; decide +kernel) (fun v => shapeCast_self _ _)) $$ [HC H3]
  · isplitl [HC]; · iexact HC
    iexact H3
  iintro HC
  iapply (send_step m c 15 (by revert c; decide +kernel) (by revert c; decide +kernel) (by revert c; decide +kernel) (by revert c; decide +kernel) (by revert c; decide +kernel)
    (by revert c; decide +kernel)) $$ [HO HC]
  · isplitl []; · iexact Hc
    isplitl [HO]; · iexact HO
    iexact HC
  iintro ⟨HO, HC⟩
  iapply (load_part c (M := sxM) (S := Finset.univ) (Finset.subset_univ _) (Memref.read_access_unit_zero (Elt F) cc0_stg0_0 (by decide) _ sx)) $$ [Hx]
  · iexact Hx
  iintro Hx
  iapply (load_part c (M := swM) (S := Finset.univ) (Finset.subset_univ _) (Memref.read_access_unit_zero (Elt F) cc0_stg1_0 (by decide) _ sw)) $$ [Hw]
  · iexact Hw
  iintro Hw
  iapply le_wp_ret
  have h0 : owedRecv c (15 + 1) = 0 := owing_last (pos c) (pos_lt c) _
  have hl : copies m c (15 + 1) = bigSep Finset.univ (cpPost m c) := sweep_last (pos c) (pos_lt c) _ _
  iapply Hk
  isplitl [HO]; · iapply (Entails.of_eq (congrArg (ow (F := F) c) h0)); iexact HO
  isplitl [HC]; · iapply (Entails.of_eq hl); iexact HC
  isplitl [Hx]; · iexact Hx
  iexact Hw

/-! ## The products -/

/-- The device's block of the result after each of the four products; the last is scaled. -/
def y0 (c : Dev nD) : S256x2048.Idx → Elt F .f32 := k0_pay23 (GQ m c (quarter c 0)) (W81 m c (quarter c 0))
def y1 (c : Dev nD) : S256x2048.Idx → Elt F .f32 := k0_pay26 (GQ m c (quarter c 1)) (W81 m c (quarter c 1)) (y0 m c)
def y2 (c : Dev nD) : S256x2048.Idx → Elt F .f32 := k0_pay28 (GQ m c (quarter c 2)) (W81 m c (quarter c 2)) (y1 m c)
def y3 (c : Dev nD) (s : F .f32) : S256x2048.Idx → Elt F .f32 := k0_pay30 s (GQ m c (quarter c 3)) (W81 m c (quarter c 3)) (y2 m c)

/-- One device's share of what the waits start from. -/
theorem waits_at (c j : Dev nD) :
    iprop(cpPost m c j ∗ (if j = c then iprop(emp) else cred (tallyAt (recvCell c j) () N)) ∗ atPos ER (recvCell c j) 0 ∅ 0 ∗ atPos ER (sendCell c j) 0 ∅ 0)
      ⊢ iprop(rvPre m c j ∗ swPre m c j) := by
  by_cases h : j = c
  · subst h
    rw [cpPost, rvPre, swPre, if_pos rfl, if_pos rfl, if_pos rfl, if_pos rfl]
    iintro ⟨⟨Hc, Hx⟩, -, Ha, Hb⟩
    isplitl [Hc Ha]
    · isplitl [Hc]; · iexact Hc
      iexact Ha
    isplitl [Hx]; · iexact Hx
    iexact Hb
  · rw [cpPost, rvPre, swPre, if_neg h, if_neg h, if_neg h, if_neg h]
    iintro ⟨Hx, Hc, Ha, Hb⟩
    isplitl [Hc Ha]
    · isplitl [Hc]; · iexact Hc
      iexact Ha
    isplitl [Hx]; · iexact Hx
    iexact Hb

/-- What the copies left, with the receive credit of the launch, is what the waits start from. -/
theorem waits_zero (c : Dev nD) :
    iprop((bigSep Finset.univ (cpPost m c)) ∗ (bigSep Finset.univ fun j => if j = c then iprop(emp) else cred (tallyAt (recvCell c j) () N))
        ∗ (bigSep Finset.univ fun j => atPos ER (recvCell c j) 0 ∅ 0) ∗ bigSep Finset.univ fun j => atPos ER (sendCell c j) 0 ∅ 0)
      ⊢ iprop(recvs m c 0 ∗ sent m c 0) := by
  unfold recvs sent
  rw [sweep_zero, sweep_zero, ← bigSep_sep', ← bigSep_sep', ← bigSep_sep', ← bigSep_sep']
  exact bigSep_mono fun j _ => waits_at m c j

/-- The cast of a slot, as it is stored. -/
theorem cast_W22 (c : Dev nD) (q : Fin 4) : k0_pay22 (W1 m c q) = W81 m c q := by
  refine (cast_W8Q m c q (by decide)).symm.trans ?_ |>.symm
  unfold k0_pay22 W8Q
  rw [cast_W1 m c q]

theorem part11 (c : Dev nD) (v2 v19 v321 : BitVec 32) {Kt : (Σ' (v355 : BitVec 32), BitVec 32) → sProp 𝕄} :
    iprop(ctx m ∗ flW m c 0 (quarter c 0) ∗ wA m c (quarter c 2).val ∗ w8E c 0 ∗ ow c 0 ∗ recvs m c 0)
      ⊢ iprop((∀ r, iprop(wA m c (quarter c 0).val ∗ w8P m c 0 (quarter c 0) ∗ flW m c 0 (quarter c 2) ∗ ow c 0 ∗ recvs m c 2 ∗ cmP m c (peer c 0) ∗ cmP m c (peer c 1)) -∗ Kt r)
      -∗ Wp c (k0_part11 xM (Memref.isWhole_whole _) wM (Memref.isWhole_whole _) sxM (Memref.isWhole_whole _) swM (Memref.isWhole_whole _) oM (Memref.isWhole_whole _)
          xfM (Memref.isWhole_whole _) x8M (Memref.isWhole_whole _) cmM (Memref.isWhole_whole _) wfM (Memref.isWhole_whole _) w8M (Memref.isWhole_whole _)
          cc0_scratch5 cc0_scratch6 cc0_scratch7 cc0_scratch8 c v2 v19 v321) Kt) := by
  rw [k0_part11_eq_skeleton]; unfold k0_part11_skel
  simp only [semSignalWord, semWaitWord, Prog.lift, wp_bind, Prog.bind_op, Prog.bind_ret, Prog.pure_eq_ret, wp_deviceId]
  iintro ⟨#Hc, HF, HA, H8, HO, HR⟩ Hk
  iapply (w_wait m c 0 (quarter c 0) (by rfl) (by rfl)) $$ [HF HO]
  · isplitl []; · iexact Hc
    isplitl [HF]; · iexact HF
    iexact HO
  iintro ⟨Hf, HB, Hv, HO⟩
  iapply (wf_load m c 0 (quarter c 0) rfl) $$ [Hf]
  · iexact Hf
  iintro Hf
  iapply (w8_peek c 0 rfl) $$ [H8]
  · iexact H8
  iintro H8
  iapply (w8_store m c 0 (quarter c 0) rfl (cast_W22 m c (quarter c 0))) $$ [H8]
  · iexact H8
  iintro H8
  iapply (w_start m c 0 (quarter c 2) (by rfl) (by revert c; decide +kernel) (by rfl)) $$ [HA Hf Hv]
  · isplitl [HA]; · iexact HA
    isplitl [Hf]; · iapply (wf_drop m c 0 (quarter c 0)); iexact Hf
    iexact Hv
  iintro HF
  iapply (recv_step m c 0 (by revert c; decide +kernel) (by revert c; decide +kernel) (by intro _; rfl)) $$ [HO HR]
  · isplitl []; · iexact Hc
    isplitl [HO]; · iexact HO
    iexact HR
  iintro ⟨HO, HR, Hm0⟩
  iapply (recv_step m c 1 (by revert c; decide +kernel) (by revert c; decide +kernel) (by intro _; rfl)) $$ [HO HR]
  · isplitl []; · iexact Hc
    isplitl [HO]; · iexact HO
    iexact HR
  iintro ⟨HO, HR, Hm1⟩
  iapply le_wp_ret
  iapply Hk
  isplitl [HB]; · iexact HB
  isplitl [H8]; · iexact H8
  isplitl [HF]; · iexact HF
  isplitl [HO]; · iexact HO
  isplitl [HR]; · iexact HR
  isplitl [Hm0]; · iexact Hm0
  iexact Hm1

theorem part12 (c : Dev nD) (v2 v19 v321 v355 v357 : BitVec 32) (v : S256x2048.Idx → Elt F .f32) {Kt : (Σ' (v372 : BitVec 32), FVec F S1024x2048 .fp8e5m2) → sProp 𝕄} :
    iprop(ctx m ∗ ow c 0 ∗ recvs m c 2 ∗ cmP m c (peer c 0) ∗ cmP m c (peer c 1) ∗ w8P m c 0 (quarter c 0) ∗ outP c v ∗ flW m c 1 (quarter c 1) ∗ w8E c 1)
      ⊢ iprop((∀ r, iprop(ow c 0 ∗ recvs m c 4 ∗ cmQ m c (quarter c 0).val ∗ w8P m c 0 (quarter c 0) ∗ outP c (y0 m c)
          ∗ wfP m c 1 (quarter c 1) ∗ wA m c (quarter c 1).val ∗ semVal ((c : Thread nD τ), wS 1) 0 ∗ w8E c 1) -∗ Kt ⟨r, k0_pay24 (W1 m c (quarter c 1))⟩)
      -∗ Wp c (k0_part12 xM (Memref.isWhole_whole _) wM (Memref.isWhole_whole _) sxM (Memref.isWhole_whole _) swM (Memref.isWhole_whole _) oM (Memref.isWhole_whole _)
          xfM (Memref.isWhole_whole _) x8M (Memref.isWhole_whole _) cmM (Memref.isWhole_whole _) wfM (Memref.isWhole_whole _) w8M (Memref.isWhole_whole _)
          cc0_scratch5 cc0_scratch6 cc0_scratch7 cc0_scratch8 c v2 v19 v321 v355 v357) Kt) := by
  rw [k0_part12_eq_skeleton]; unfold k0_part12_skel
  simp only [semSignalWord, semWaitWord, Prog.lift, wp_bind, Prog.bind_op, Prog.bind_ret, Prog.pure_eq_ret, wp_deviceId]
  iintro ⟨#Hc, HO, HR, Hm0, Hm1, H8, Ho, HF, HE⟩ Hk
  iapply (recv_step m c 2 (by revert c; decide +kernel) (by revert c; decide +kernel) (by intro _; rfl)) $$ [HO HR]
  · isplitl []; · iexact Hc
    isplitl [HO]; · iexact HO
    iexact HR
  iintro ⟨HO, HR, Hm2⟩
  iapply (recv_step m c 3 (by revert c; decide +kernel) (by revert c; decide +kernel) (by intro _; rfl)) $$ [HO HR]
  · isplitl []; · iexact Hc
    isplitl [HO]; · iexact HO
    iexact HR
  iintro ⟨HO, HR, Hm3⟩
  ihave HQ := (Entails.of_eq (cm_cut m c 0).symm) $$ [Hm0 Hm1 Hm2 Hm3]
  · isplitl [Hm0]; · iexact Hm0
    isplitl [Hm1]; · iexact Hm1
    isplitl [Hm2]; · iexact Hm2
    iexact Hm3
  iapply (cm_load m c (quarter c 0) (by revert c; decide +kernel)) $$ [HQ]
  · iexact HQ
  iintro HQ
  iapply (w8_load m c 0 (quarter c 0) rfl) $$ [H8]
  · iexact H8
  iintro H8
  iapply (o_load c v) $$ [Ho]
  · iexact Ho
  iintro Ho
  iapply (o_store c v (y0 m c)) $$ [Ho]
  · iexact Ho
  iintro Ho
  iapply (w_wait m c 1 (quarter c 1) (by rfl) (by rfl)) $$ [HF HO]
  · isplitl []; · iexact Hc
    isplitl [HF]; · iexact HF
    iexact HO
  iintro ⟨Hf, HB, Hv, HO⟩
  iapply (wf_load m c 1 (quarter c 1) rfl) $$ [Hf]
  · iexact Hf
  iintro Hf
  iapply (w8_peek c 1 rfl) $$ [HE]
  · iexact HE
  iintro HE
  iapply le_wp_ret
  iapply Hk
  isplitl [HO]; · iexact HO
  isplitl [HR]; · iexact HR
  isplitl [HQ]; · iexact HQ
  isplitl [H8]; · iexact H8
  isplitl [Ho]; · iexact Ho
  isplitl [Hf]; · iexact Hf
  isplitl [HB]; · iexact HB
  isplitl [Hv]; · iexact Hv
  iexact HE

theorem part13 (c : Dev nD) (v2 v19 v372 : BitVec 32) {Kt : Vec F S256x1024 .fp8e5m2 → sProp 𝕄} :
    iprop(ctx m ∗ ow c 0 ∗ recvs m c 4 ∗ wfP m c 1 (quarter c 1) ∗ semVal ((c : Thread nD τ), wS 1) 0 ∗ w8E c 1 ∗ wA m c (quarter c 3).val)
      ⊢ iprop((iprop(ow c 0 ∗ recvs m c 8 ∗ w8P m c 1 (quarter c 1) ∗ flW m c 1 (quarter c 3) ∗ cmQ m c (quarter c 1).val) -∗ Kt (GQ m c (quarter c 1)))
      -∗ Wp c (k0_part13 xM (Memref.isWhole_whole _) wM (Memref.isWhole_whole _) sxM (Memref.isWhole_whole _) swM (Memref.isWhole_whole _) oM (Memref.isWhole_whole _)
          xfM (Memref.isWhole_whole _) x8M (Memref.isWhole_whole _) cmM (Memref.isWhole_whole _) wfM (Memref.isWhole_whole _) w8M (Memref.isWhole_whole _)
          cc0_scratch5 cc0_scratch6 cc0_scratch7 cc0_scratch8 c v2 v19 v372 (k0_pay24 (W1 m c (quarter c 1)))) Kt) := by
  rw [k0_part13_eq_skeleton]; unfold k0_part13_skel
  simp only [semSignalWord, semWaitWord, Prog.lift, wp_bind, Prog.bind_op, Prog.bind_ret, Prog.pure_eq_ret, wp_deviceId]
  iintro ⟨#Hc, HO, HR, Hf, Hv, HE, HA⟩ Hk
  iapply (w8_store m c 1 (quarter c 1) rfl (cast_W22 m c (quarter c 1))) $$ [HE]
  · iexact HE
  iintro H8
  iapply (w_start m c 1 (quarter c 3) (by rfl) (by revert c; decide +kernel) (by rfl)) $$ [HA Hf Hv]
  · isplitl [HA]; · iexact HA
    isplitl [Hf]; · iapply (wf_drop m c 1 (quarter c 1)); iexact Hf
    iexact Hv
  iintro HF
  iapply (recv_step m c 4 (by revert c; decide +kernel) (by revert c; decide +kernel) (by intro _; rfl)) $$ [HO HR]
  · isplitl []; · iexact Hc
    isplitl [HO]; · iexact HO
    iexact HR
  iintro ⟨HO, HR, Hm4⟩
  iapply (recv_step m c 5 (by revert c; decide +kernel) (by revert c; decide +kernel) (by intro _; rfl)) $$ [HO HR]
  · isplitl []; · iexact Hc
    isplitl [HO]; · iexact HO
    iexact HR
  iintro ⟨HO, HR, Hm5⟩
  iapply (recv_step m c 6 (by revert c; decide +kernel) (by revert c; decide +kernel) (by intro _; rfl)) $$ [HO HR]
  · isplitl []; · iexact Hc
    isplitl [HO]; · iexact HO
    iexact HR
  iintro ⟨HO, HR, Hm6⟩
  iapply (recv_step m c 7 (by revert c; decide +kernel) (by revert c; decide +kernel) (by intro _; rfl)) $$ [HO HR]
  · isplitl []; · iexact Hc
    isplitl [HO]; · iexact HO
    iexact HR
  iintro ⟨HO, HR, Hm7⟩
  ihave HQ := (Entails.of_eq (cm_cut m c 1).symm) $$ [Hm4 Hm5 Hm6 Hm7]
  · isplitl [Hm4]; · iexact Hm4
    isplitl [Hm5]; · iexact Hm5
    isplitl [Hm6]; · iexact Hm6
    iexact Hm7
  iapply (cm_load m c (quarter c 1) (by revert c; decide +kernel)) $$ [HQ]
  · iexact HQ
  iintro HQ
  iapply le_wp_ret
  iapply Hk
  isplitl [HO]; · iexact HO
  isplitl [HR]; · iexact HR
  isplitl [H8]; · iexact H8
  isplitl [HF]; · iexact HF
  iexact HQ

theorem part14 (c : Dev nD) (v2 v19 : BitVec 32) {Kt : (Σ' (v426 : BitVec 32), BitVec 32) → sProp 𝕄} :
    iprop(ctx m ∗ ow c 0 ∗ recvs m c 8 ∗ w8P m c 1 (quarter c 1) ∗ outP c (y0 m c) ∗ flW m c 0 (quarter c 2) ∗ w8E c 0)
      ⊢ iprop((∀ r, iprop(ow c 0 ∗ recvs m c 9 ∗ cmP m c (peer c 8) ∗ w8P m c 1 (quarter c 1) ∗ outP c (y1 m c)
          ∗ wfP m c 0 (quarter c 2) ∗ wA m c (quarter c 2).val ∗ semVal ((c : Thread nD τ), wS 0) 0 ∗ w8P m c 0 (quarter c 2)) -∗ Kt r)
      -∗ Wp c (k0_part14 xM (Memref.isWhole_whole _) wM (Memref.isWhole_whole _) sxM (Memref.isWhole_whole _) swM (Memref.isWhole_whole _) oM (Memref.isWhole_whole _)
          xfM (Memref.isWhole_whole _) x8M (Memref.isWhole_whole _) cmM (Memref.isWhole_whole _) wfM (Memref.isWhole_whole _) w8M (Memref.isWhole_whole _)
          cc0_scratch5 cc0_scratch6 cc0_scratch7 cc0_scratch8 c v2 v19 (GQ m c (quarter c 1))) Kt) := by
  rw [k0_part14_eq_skeleton]; unfold k0_part14_skel
  simp only [semSignalWord, semWaitWord, Prog.lift, wp_bind, Prog.bind_op, Prog.bind_ret, Prog.pure_eq_ret, wp_deviceId]
  iintro ⟨#Hc, HO, HR, H8, Ho, HF, HE⟩ Hk
  iapply (w8_load m c 1 (quarter c 1) rfl) $$ [H8]
  · iexact H8
  iintro H8
  iapply (o_load c (y0 m c)) $$ [Ho]
  · iexact Ho
  iintro Ho
  iapply (o_load c (y0 m c)) $$ [Ho]
  · iexact Ho
  iintro Ho
  iapply (o_store c (y0 m c) (y1 m c)) $$ [Ho]
  · iexact Ho
  iintro Ho
  iapply (w_wait m c 0 (quarter c 2) (by rfl) (by rfl)) $$ [HF HO]
  · isplitl []; · iexact Hc
    isplitl [HF]; · iexact HF
    iexact HO
  iintro ⟨Hf, HB, Hv, HO⟩
  iapply (wf_load m c 0 (quarter c 2) rfl) $$ [Hf]
  · iexact Hf
  iintro Hf
  iapply (w8_peek c 0 rfl) $$ [HE]
  · iexact HE
  iintro HE
  iapply (w8_store m c 0 (quarter c 2) rfl (cast_W22 m c (quarter c 2))) $$ [HE]
  · iexact HE
  iintro HE
  iapply (recv_step m c 8 (by revert c; decide +kernel) (by revert c; decide +kernel) (by intro _; rfl)) $$ [HO HR]
  · isplitl []; · iexact Hc
    isplitl [HO]; · iexact HO
    iexact HR
  iintro ⟨HO, HR, Hm8⟩
  iapply le_wp_ret
  iapply Hk
  isplitl [HO]; · iexact HO
  isplitl [HR]; · iexact HR
  isplitl [Hm8]; · iexact Hm8
  isplitl [H8]; · iexact H8
  isplitl [Ho]; · iexact Ho
  isplitl [Hf]; · iexact Hf
  isplitl [HB]; · iexact HB
  isplitl [Hv]; · iexact Hv
  iexact HE

theorem part15 (c : Dev nD) (v2 v19 v426 v288 : BitVec 32) {Kt : BitVec 32 → sProp 𝕄} :
    iprop(ctx m ∗ ow c 0 ∗ recvs m c 9 ∗ cmP m c (peer c 8) ∗ outP c (y1 m c) ∗ w8P m c 0 (quarter c 2))
      ⊢ iprop((∀ r, iprop(ow c 0 ∗ recvs m c 12 ∗ cmQ m c (quarter c 2).val ∗ outP c (y2 m c) ∗ w8P m c 0 (quarter c 2)) -∗ Kt r)
      -∗ Wp c (k0_part15 xM (Memref.isWhole_whole _) wM (Memref.isWhole_whole _) sxM (Memref.isWhole_whole _) swM (Memref.isWhole_whole _) oM (Memref.isWhole_whole _)
          xfM (Memref.isWhole_whole _) x8M (Memref.isWhole_whole _) cmM (Memref.isWhole_whole _) wfM (Memref.isWhole_whole _) w8M (Memref.isWhole_whole _)
          cc0_scratch5 cc0_scratch6 cc0_scratch7 cc0_scratch8 c v2 v19 v426 v288) Kt) := by
  rw [k0_part15_eq_skeleton]; unfold k0_part15_skel
  simp only [semSignalWord, semWaitWord, Prog.lift, wp_bind, Prog.bind_op, Prog.bind_ret, Prog.pure_eq_ret, wp_deviceId]
  iintro ⟨#Hc, HO, HR, Hm8, Ho, H8⟩ Hk
  iapply (recv_step m c 9 (by revert c; decide +kernel) (by revert c; decide +kernel) (by intro _; rfl)) $$ [HO HR]
  · isplitl []; · iexact Hc
    isplitl [HO]; · iexact HO
    iexact HR
  iintro ⟨HO, HR, Hm9⟩
  iapply (recv_step m c 10 (by revert c; decide +kernel) (by revert c; decide +kernel) (by intro _; rfl)) $$ [HO HR]
  · isplitl []; · iexact Hc
    isplitl [HO]; · iexact HO
    iexact HR
  iintro ⟨HO, HR, Hm10⟩
  iapply (recv_step m c 11 (by revert c; decide +kernel) (by revert c; decide +kernel) (by intro _; rfl)) $$ [HO HR]
  · isplitl []; · iexact Hc
    isplitl [HO]; · iexact HO
    iexact HR
  iintro ⟨HO, HR, Hm11⟩
  ihave HQ := (Entails.of_eq (cm_cut m c 2).symm) $$ [Hm8 Hm9 Hm10 Hm11]
  · isplitl [Hm8]; · iexact Hm8
    isplitl [Hm9]; · iexact Hm9
    isplitl [Hm10]; · iexact Hm10
    iexact Hm11
  iapply (cm_load m c (quarter c 2) (by revert c; decide +kernel)) $$ [HQ]
  · iexact HQ
  iintro HQ
  iapply (w8_load m c 0 (quarter c 2) rfl) $$ [H8]
  · iexact H8
  iintro H8
  iapply (o_load c (y1 m c)) $$ [Ho]
  · iexact Ho
  iintro Ho
  iapply (o_load c (y1 m c)) $$ [Ho]
  · iexact Ho
  iintro Ho
  iapply (o_store c (y1 m c) (y2 m c)) $$ [Ho]
  · iexact Ho
  iintro Ho
  iapply le_wp_ret
  iapply Hk
  isplitl [HO]; · iexact HO
  isplitl [HR]; · iexact HR
  isplitl [HQ]; · iexact HQ
  isplitl [Ho]; · iexact Ho
  iexact H8

theorem part16 (c : Dev nD) (v2 v472 : BitVec 32) {Kt : BitVec 32 → sProp 𝕄} :
    iprop(ctx m ∗ ow c 0 ∗ recvs m c 12 ∗ flW m c 1 (quarter c 3) ∗ w8E c 1)
      ⊢ iprop((∀ r, iprop(ow c 0 ∗ recvs m c 16 ∗ cmQ m c (quarter c 3).val ∗ wfP m c 1 (quarter c 3) ∗ wA m c (quarter c 3).val ∗ semVal ((c : Thread nD τ), wS 1) 0
          ∗ w8P m c 1 (quarter c 3)) -∗ Kt r)
      -∗ Wp c (k0_part16 xM (Memref.isWhole_whole _) wM (Memref.isWhole_whole _) sxM (Memref.isWhole_whole _) swM (Memref.isWhole_whole _) oM (Memref.isWhole_whole _)
          xfM (Memref.isWhole_whole _) x8M (Memref.isWhole_whole _) cmM (Memref.isWhole_whole _) wfM (Memref.isWhole_whole _) w8M (Memref.isWhole_whole _)
          cc0_scratch5 cc0_scratch6 cc0_scratch7 cc0_scratch8 c v2 v472) Kt) := by
  rw [k0_part16_eq_skeleton]; unfold k0_part16_skel
  simp only [semSignalWord, semWaitWord, Prog.lift, wp_bind, Prog.bind_op, Prog.bind_ret, Prog.pure_eq_ret, wp_deviceId]
  iintro ⟨#Hc, HO, HR, HF, HE⟩ Hk
  iapply (w_wait m c 1 (quarter c 3) (by rfl) (by rfl)) $$ [HF HO]
  · isplitl []; · iexact Hc
    isplitl [HF]; · iexact HF
    iexact HO
  iintro ⟨Hf, HB, Hv, HO⟩
  iapply (wf_load m c 1 (quarter c 3) rfl) $$ [Hf]
  · iexact Hf
  iintro Hf
  iapply (w8_peek c 1 rfl) $$ [HE]
  · iexact HE
  iintro HE
  iapply (w8_store m c 1 (quarter c 3) rfl (cast_W22 m c (quarter c 3))) $$ [HE]
  · iexact HE
  iintro HE
  iapply (recv_step m c 12 (by revert c; decide +kernel) (by revert c; decide +kernel) (by intro _; rfl)) $$ [HO HR]
  · isplitl []; · iexact Hc
    isplitl [HO]; · iexact HO
    iexact HR
  iintro ⟨HO, HR, Hm12⟩
  iapply (recv_step m c 13 (by revert c; decide +kernel) (by revert c; decide +kernel) (by intro _; rfl)) $$ [HO HR]
  · isplitl []; · iexact Hc
    isplitl [HO]; · iexact HO
    iexact HR
  iintro ⟨HO, HR, Hm13⟩
  iapply (recv_step m c 14 (by revert c; decide +kernel) (by revert c; decide +kernel) (by intro _; rfl)) $$ [HO HR]
  · isplitl []; · iexact Hc
    isplitl [HO]; · iexact HO
    iexact HR
  iintro ⟨HO, HR, Hm14⟩
  iapply (recv_step m c 15 (by revert c; decide +kernel) (by revert c; decide +kernel) (by intro _; rfl)) $$ [HO HR]
  · isplitl []; · iexact Hc
    isplitl [HO]; · iexact HO
    iexact HR
  iintro ⟨HO, HR, Hm15⟩
  ihave HQ := (Entails.of_eq (cm_cut m c 3).symm) $$ [Hm12 Hm13 Hm14 Hm15]
  · isplitl [Hm12]; · iexact Hm12
    isplitl [Hm13]; · iexact Hm13
    isplitl [Hm14]; · iexact Hm14
    iexact Hm15
  iapply le_wp_ret
  iapply Hk
  isplitl [HO]; · iexact HO
  isplitl [HR]; · iexact HR
  isplitl [HQ]; · iexact HQ
  isplitl [Hf]; · iexact Hf
  isplitl [HB]; · iexact HB
  isplitl [Hv]; · iexact Hv
  iexact HE

theorem part17 (c : Dev nD) (v2 v507 : BitVec 32) (s : F .f32) {Kt : (Σ' (v538 : BitVec 32), BitVec 32) → sProp 𝕄} :
    iprop(ctx m ∗ ow c 0 ∗ cmQ m c (quarter c 3).val ∗ w8P m c 1 (quarter c 3) ∗ outP c (y2 m c) ∗ sent m c 0)
      ⊢ iprop((∀ r, iprop(ow c 0 ∗ cmQ m c (quarter c 3).val ∗ w8P m c 1 (quarter c 3) ∗ outP c (y3 m c s) ∗ sent m c 6) -∗ Kt r)
      -∗ Wp c (k0_part17 xM (Memref.isWhole_whole _) wM (Memref.isWhole_whole _) sxM (Memref.isWhole_whole _) swM (Memref.isWhole_whole _) oM (Memref.isWhole_whole _)
          xfM (Memref.isWhole_whole _) x8M (Memref.isWhole_whole _) cmM (Memref.isWhole_whole _) wfM (Memref.isWhole_whole _) w8M (Memref.isWhole_whole _)
          cc0_scratch5 cc0_scratch6 cc0_scratch7 cc0_scratch8 c v2 s v507) Kt) := by
  rw [k0_part17_eq_skeleton]; unfold k0_part17_skel
  simp only [semSignalWord, semWaitWord, Prog.lift, wp_bind, Prog.bind_op, Prog.bind_ret, Prog.pure_eq_ret, wp_deviceId]
  iintro ⟨#Hc, HO, HQ, H8, Ho, HS⟩ Hk
  iapply (cm_load m c (quarter c 3) (by revert c; decide +kernel)) $$ [HQ]
  · iexact HQ
  iintro HQ
  iapply (w8_load m c 1 (quarter c 3) rfl) $$ [H8]
  · iexact H8
  iintro H8
  iapply (o_load c (y2 m c)) $$ [Ho]
  · iexact Ho
  iintro Ho
  iapply (o_load c (y2 m c)) $$ [Ho]
  · iexact Ho
  iintro Ho
  iapply (o_store c (y2 m c) (y3 m c s)) $$ [Ho]
  · iexact Ho
  iintro Ho
  iapply (sent_step m c 0 (by revert c; decide +kernel) (by intro _; rfl)) $$ [HO HS]
  · isplitl []; · iexact Hc
    isplitl [HO]; · iexact HO
    iexact HS
  iintro ⟨HO, HS⟩
  iapply (sent_step m c 1 (by revert c; decide +kernel) (by intro _; rfl)) $$ [HO HS]
  · isplitl []; · iexact Hc
    isplitl [HO]; · iexact HO
    iexact HS
  iintro ⟨HO, HS⟩
  iapply (sent_step m c 2 (by revert c; decide +kernel) (by intro _; rfl)) $$ [HO HS]
  · isplitl []; · iexact Hc
    isplitl [HO]; · iexact HO
    iexact HS
  iintro ⟨HO, HS⟩
  iapply (sent_step m c 3 (by revert c; decide +kernel) (by intro _; rfl)) $$ [HO HS]
  · isplitl []; · iexact Hc
    isplitl [HO]; · iexact HO
    iexact HS
  iintro ⟨HO, HS⟩
  iapply (sent_step m c 4 (by revert c; decide +kernel) (by intro _; rfl)) $$ [HO HS]
  · isplitl []; · iexact Hc
    isplitl [HO]; · iexact HO
    iexact HS
  iintro ⟨HO, HS⟩
  iapply (sent_step m c 5 (by revert c; decide +kernel) (by intro _; rfl)) $$ [HO HS]
  · isplitl []; · iexact Hc
    isplitl [HO]; · iexact HO
    iexact HS
  iintro ⟨HO, HS⟩
  iapply le_wp_ret
  iapply Hk
  isplitl [HO]; · iexact HO
  isplitl [HQ]; · iexact HQ
  isplitl [H8]; · iexact H8
  isplitl [Ho]; · iexact Ho
  iexact HS

/-! ## The whole body -/

/-- What a device holds as the body starts. -/
def bodyPre (c : Dev nD) (v : S256x2048.Idx → Elt F .f32) (sx sw : S1.Idx → Elt F .f32) : sProp 𝕄 :=
  iprop(xInit m c 0 ∗ xInit m c 1 ∗ xInit m c 2 ∗ xInit m c 3 ∗ wInit m c 0 (quarter c 0) ∗ wInit m c 1 (quarter c 1) ∗ wA m c (quarter c 2).val
        ∗ wA m c (quarter c 3).val ∗ x8E c (quarter c 0).val ∗ x8E c (quarter c 1).val ∗ x8E c (quarter c 2).val ∗ x8E c (quarter c 3).val ∗ w8E c 0 ∗ w8E c 1
        ∗ outP c v ∗ (((c : Thread nD τ).loc cc0_stg0_0) ↦{fullShare} sx) ∗ (((c : Thread nD τ).loc cc0_stg1_0) ↦{fullShare} sw) ∗ ow c (owedRecv c 0 + owedBar c 0)
        ∗ sigs c 0 ∗ cred (tallyAt (barCell c) () 15) ∗ atPos ER (barCell c) 0 ∅ 0 ∗ toks c
        ∗ (bigSep Finset.univ fun j => if j = c then iprop(emp) else cred (tallyAt (recvCell c j) () N))
        ∗ (bigSep Finset.univ fun j => atPos ER (recvCell c j) 0 ∅ 0) ∗ (bigSep Finset.univ fun j => atPos ER (sendCell c j) 0 ∅ 0))

/-- What a device holds after `k` of the last sixteen waits; all of them are passed as the body ends. -/
def bodyPost (c : Dev nD) (sx sw : S1.Idx → Elt F .f32) (k : ℕ) : sProp 𝕄 :=
  iprop(ow c 0 ∗ semVal (barCell c) 0 ∗ xRest m c 0 ∗ xRest m c 1 ∗ xRest m c 2 ∗ xRest m c 3 ∗ wA m c (quarter c 0).val ∗ wA m c (quarter c 1).val
        ∗ wA m c (quarter c 2).val ∗ wA m c (quarter c 3).val ∗ wfP m c 0 (quarter c 2) ∗ wfP m c 1 (quarter c 3) ∗ semVal ((c : Thread nD τ), wS 0) 0
        ∗ semVal ((c : Thread nD τ), wS 1) 0 ∗ w8P m c 0 (quarter c 2) ∗ w8P m c 1 (quarter c 3) ∗ cmQ m c (quarter c 0).val ∗ cmQ m c (quarter c 1).val
        ∗ cmQ m c (quarter c 2).val ∗ cmQ m c (quarter c 3).val ∗ outP c (y3 m c (k0_pay21 (scal sx) (scal sw))) ∗ recvs m c 16 ∗ sent m c k
        ∗ (((c : Thread nD τ).loc cc0_stg0_0) ↦{fullShare} sx) ∗ (((c : Thread nD τ).loc cc0_stg1_0) ↦{fullShare} sw))

set_option maxHeartbeats 4000000 in
theorem part18 (c : Dev nD) (v : S256x2048.Idx → Elt F .f32) (sx sw : S1.Idx → Elt F .f32) {Kt : (Σ' (d0 : Dev nD), BitVec 32) → sProp 𝕄} :
    iprop(ctx m ∗ bodyPre m c v sx sw)
      ⊢ iprop((∀ v2, bodyPost m c sx sw 13 -∗ Kt ⟨c, v2⟩)
      -∗ Wp c (k0_part18 xM (Memref.isWhole_whole _) wM (Memref.isWhole_whole _) sxM (Memref.isWhole_whole _) swM (Memref.isWhole_whole _) oM (Memref.isWhole_whole _)
          xfM (Memref.isWhole_whole _) x8M (Memref.isWhole_whole _) cmM (Memref.isWhole_whole _) wfM (Memref.isWhole_whole _) w8M (Memref.isWhole_whole _)
          cc0_scratch5 cc0_scratch6 cc0_scratch7 cc0_scratch8) Kt) := by
  rw [k0_part18_eq_skeleton]; unfold k0_part18_skel
  simp only [semSignalWord, semWaitWord, Prog.lift, wp_bind, Prog.bind_op, Prog.bind_ret, Prog.pure_eq_ret, wp_deviceId]
  unfold bodyPre bodyPost
  iintro ⟨#Hc, HX0, HX1, HX2, HX3, HW0, HW1, HA2, HA3, HE0, HE1, HE2, HE3, HV0, HV1, Ho, Hsx, Hsw, HO, HS, HB, Hb, HT, HC, Hr, Hs⟩ Hk
  iapply (part1 m c) $$ [HX0]
  · iexact HX0
  iintro %v2 %v19 HX0
  try dsimp only
  iapply (part2 m c v19) $$ [HX1 HX2 HX3 HW0]
  · isplitl [HX1]; · iexact HX1
    isplitl [HX2]; · iexact HX2
    isplitl [HX3]; · iexact HX3
    iexact HW0
  iintro ⟨HX1, HX2, HX3, HW0⟩
  try dsimp only
  iapply (part3 m c v2) $$ [HW1 HO HS]
  · isplitl []; · iexact Hc
    isplitl [HW1]; · iexact HW1
    isplitl [HO]; · iexact HO
    iexact HS
  iintro %v94 ⟨HW1, HO, HS⟩
  try dsimp only
  iapply (part4 m c v2 v19 v94) $$ [HO HS]
  · isplitl []; · iexact Hc
    isplitl [HO]; · iexact HO
    iexact HS
  iintro %v118 ⟨HO, HS⟩
  try dsimp only
  iapply (part5 m c v2 v118) $$ [HX0 HE0 HO HB Hb HS HT]
  · isplitl []; · iexact Hc
    isplitl [HX0]; · iexact HX0
    isplitl [HE0]; · iexact HE0
    isplitl [HO]; · iexact HO
    isplitl [HB]; · iexact HB
    isplitl [Hb]; · iexact Hb
    isplitl [HS]; · iexact HS
    iexact HT
  iintro %a5 ⟨HX0, Hb, HO, HP, H3⟩
  rcases a5 with ⟨a5, b5, d5⟩
  try dsimp only
  iapply (part6 m c v2 v19 v118 a5 b5 d5) $$ [HX1 HE1 HO HP H3]
  · isplitl []; · iexact Hc
    isplitl [HX1]; · iexact HX1
    isplitl [HE1]; · iexact HE1
    isplitl [HO]; · iexact HO
    isplitl [HP]; · iexact HP
    iexact H3
  iintro %a6 ⟨HX1, HO, HP, H5, H6, H7⟩
  rcases a6 with ⟨a6, b6, d6, e6⟩
  try dsimp only
  iapply (part7 m c v2 v19 a6 b6 d6 e6) $$ [HO HP H5 H6 H7]
  · isplitl []; · iexact Hc
    isplitl [HO]; · iexact HO
    isplitl [HP]; · iexact HP
    isplitl [H5]; · iexact H5
    isplitl [H6]; · iexact H6
    iexact H7
  iintro %v218 ⟨HO, HP⟩
  try dsimp only
  iapply (part8 m c v2 v218) $$ [HX2 HE2 HO HP]
  · isplitl []; · iexact Hc
    isplitl [HX2]; · iexact HX2
    isplitl [HE2]; · iexact HE2
    isplitl [HO]; · iexact HO
    iexact HP
  iintro %v259 ⟨HX2, HO, HP, H11⟩
  try dsimp only
  iapply (part9 m c v2 v19 v259) $$ [HX3 HE3 HO HP H11]
  · isplitl []; · iexact Hc
    isplitl [HX3]; · iexact HX3
    isplitl [HE3]; · iexact HE3
    isplitl [HO]; · iexact HO
    isplitl [HP]; · iexact HP
    iexact H11
  iintro %a9 ⟨HX3, HO, HP, H13, H14, H15⟩
  rcases a9 with ⟨a9, b9⟩
  try dsimp only
  iapply (part10 m c v2 v19 a9 b9 sx sw) $$ [HO HP H13 H14 H15 Hsx Hsw]
  · isplitl []; · iexact Hc
    isplitl [HO]; · iexact HO
    isplitl [HP]; · iexact HP
    isplitl [H13]; · iexact H13
    isplitl [H14]; · iexact H14
    isplitl [H15]; · iexact H15
    isplitl [Hsx]; · iexact Hsx
    iexact Hsw
  iintro %v321 ⟨HO, HP, Hsx, Hsw⟩
  try dsimp only
  ihave HRS := (waits_zero m c) $$ [HP HC Hr Hs]
  · isplitl [HP]; · iexact HP
    isplitl [HC]; · iexact HC
    isplitl [Hr]; · iexact Hr
    iexact Hs
  icases HRS with ⟨HR, HS⟩
  iapply (part11 m c v2 v19 v321) $$ [HW0 HA2 HV0 HO HR]
  · isplitl []; · iexact Hc
    isplitl [HW0]; · iexact HW0
    isplitl [HA2]; · iexact HA2
    isplitl [HV0]; · iexact HV0
    isplitl [HO]; · iexact HO
    iexact HR
  iintro %a11 ⟨HA0, HV0, HW0, HO, HR, Hm0, Hm1⟩
  rcases a11 with ⟨a11, b11⟩
  try dsimp only
  iapply (part12 m c v2 v19 v321 a11 b11 v) $$ [HO HR Hm0 Hm1 HV0 Ho HW1 HV1]
  · isplitl []; · iexact Hc
    isplitl [HO]; · iexact HO
    isplitl [HR]; · iexact HR
    isplitl [Hm0]; · iexact Hm0
    isplitl [Hm1]; · iexact Hm1
    isplitl [HV0]; · iexact HV0
    isplitl [Ho]; · iexact Ho
    isplitl [HW1]; · iexact HW1
    iexact HV1
  iintro %v372 ⟨HO, HR, HQ0, HV0, Ho, HF1, HA1, Hw1, HV1⟩
  try dsimp only
  iapply (part13 m c v2 v19 v372) $$ [HO HR HF1 Hw1 HV1 HA3]
  · isplitl []; · iexact Hc
    isplitl [HO]; · iexact HO
    isplitl [HR]; · iexact HR
    isplitl [HF1]; · iexact HF1
    isplitl [Hw1]; · iexact Hw1
    isplitl [HV1]; · iexact HV1
    iexact HA3
  iintro ⟨HO, HR, HV1, HW1, HQ1⟩
  try dsimp only
  ihave HV0 := (w8_drop m c 0 (quarter c 0)) $$ [HV0]
  · iexact HV0
  iapply (part14 m c v2 v19) $$ [HO HR HV1 Ho HW0 HV0]
  · isplitl []; · iexact Hc
    isplitl [HO]; · iexact HO
    isplitl [HR]; · iexact HR
    isplitl [HV1]; · iexact HV1
    isplitl [Ho]; · iexact Ho
    isplitl [HW0]; · iexact HW0
    iexact HV0
  iintro %a14 ⟨HO, HR, Hm8, HV1, Ho, HF0, HA2, Hw0, HV0⟩
  rcases a14 with ⟨a14, b14⟩
  try dsimp only
  iapply (part15 m c v2 v19 a14 b14) $$ [HO HR Hm8 Ho HV0]
  · isplitl []; · iexact Hc
    isplitl [HO]; · iexact HO
    isplitl [HR]; · iexact HR
    isplitl [Hm8]; · iexact Hm8
    isplitl [Ho]; · iexact Ho
    iexact HV0
  iintro %v472 ⟨HO, HR, HQ2, Ho, HV0⟩
  try dsimp only
  ihave HV1 := (w8_drop m c 1 (quarter c 1)) $$ [HV1]
  · iexact HV1
  iapply (part16 m c v2 v472) $$ [HO HR HW1 HV1]
  · isplitl []; · iexact Hc
    isplitl [HO]; · iexact HO
    isplitl [HR]; · iexact HR
    isplitl [HW1]; · iexact HW1
    iexact HV1
  iintro %v507 ⟨HO, HR, HQ3, HF1, HA3, Hw1, HV1⟩
  try dsimp only
  iapply (part17 m c v2 v507 (k0_pay21 (scal sx) (scal sw))) $$ [HO HQ3 HV1 Ho HS]
  · isplitl []; · iexact Hc
    isplitl [HO]; · iexact HO
    isplitl [HQ3]; · iexact HQ3
    isplitl [HV1]; · iexact HV1
    isplitl [Ho]; · iexact Ho
    iexact HS
  iintro %a17 ⟨HO, HQ3, HV1, Ho, HS⟩
  rcases a17 with ⟨a17, b17⟩
  try dsimp only
  iapply (sent_step m c 6 (by revert c; decide +kernel) (by intro _; rfl)) $$ [HO HS]
  · isplitl []; · iexact Hc
    isplitl [HO]; · iexact HO
    iexact HS
  iintro ⟨HO, HS⟩
  iapply (sent_step m c 7 (by revert c; decide +kernel) (by intro _; rfl)) $$ [HO HS]
  · isplitl []; · iexact Hc
    isplitl [HO]; · iexact HO
    iexact HS
  iintro ⟨HO, HS⟩
  iapply (sent_step m c 8 (by revert c; decide +kernel) (by intro _; rfl)) $$ [HO HS]
  · isplitl []; · iexact Hc
    isplitl [HO]; · iexact HO
    iexact HS
  iintro ⟨HO, HS⟩
  iapply (sent_step m c 9 (by revert c; decide +kernel) (by intro _; rfl)) $$ [HO HS]
  · isplitl []; · iexact Hc
    isplitl [HO]; · iexact HO
    iexact HS
  iintro ⟨HO, HS⟩
  iapply (sent_step m c 10 (by revert c; decide +kernel) (by intro _; rfl)) $$ [HO HS]
  · isplitl []; · iexact Hc
    isplitl [HO]; · iexact HO
    iexact HS
  iintro ⟨HO, HS⟩
  iapply (sent_step m c 11 (by revert c; decide +kernel) (by intro _; rfl)) $$ [HO HS]
  · isplitl []; · iexact Hc
    isplitl [HO]; · iexact HO
    iexact HS
  iintro ⟨HO, HS⟩
  iapply (sent_step m c 12 (by revert c; decide +kernel) (by intro _; rfl)) $$ [HO HS]
  · isplitl []; · iexact Hc
    isplitl [HO]; · iexact HO
    iexact HS
  iintro ⟨HO, HS⟩
  iapply le_wp_ret
  iapply Hk
  isplitl [HO]; · iexact HO
  isplitl [Hb]; · iexact Hb
  isplitl [HX0]; · iexact HX0
  isplitl [HX1]; · iexact HX1
  isplitl [HX2]; · iexact HX2
  isplitl [HX3]; · iexact HX3
  isplitl [HA0]; · iexact HA0
  isplitl [HA1]; · iexact HA1
  isplitl [HA2]; · iexact HA2
  isplitl [HA3]; · iexact HA3
  isplitl [HF0]; · iexact HF0
  isplitl [HF1]; · iexact HF1
  isplitl [Hw0]; · iexact Hw0
  isplitl [Hw1]; · iexact Hw1
  isplitl [HV0]; · iexact HV0
  isplitl [HV1]; · iexact HV1
  isplitl [HQ0]; · iexact HQ0
  isplitl [HQ1]; · iexact HQ1
  isplitl [HQ2]; · iexact HQ2
  isplitl [HQ3]; · iexact HQ3
  isplitl [Ho]; · iexact Ho
  isplitl [HR]; · iexact HR
  isplitl [HS]; · iexact HS
  isplitl [Hsx]; · iexact Hsx
  iexact Hsw

/-- The body: from what a device starts with to its block of the result, everything else given back. -/
theorem body_run (c : Dev nD) (v : S256x2048.Idx → Elt F .f32) (sx sw : S1.Idx → Elt F .f32) {Kt : PUnit → sProp 𝕄} :
    iprop(ctx m ∗ bodyPre m c v sx sw)
      ⊢ iprop((bodyPost m c sx sw 16 -∗ Kt ⟨⟩)
      -∗ Wp c (cc0_body xM (Memref.isWhole_whole _) wM (Memref.isWhole_whole _) sxM (Memref.isWhole_whole _) swM (Memref.isWhole_whole _) oM (Memref.isWhole_whole _)
          xfM (Memref.isWhole_whole _) x8M (Memref.isWhole_whole _) cmM (Memref.isWhole_whole _) wfM (Memref.isWhole_whole _) w8M (Memref.isWhole_whole _)
          cc0_scratch5 cc0_scratch6 cc0_scratch7 cc0_scratch8) Kt) := by
  rw [cc0_body_eq_skeleton]; unfold cc0_body_skel
  simp only [semSignalWord, semWaitWord, Prog.lift, wp_bind, Prog.bind_op, Prog.bind_ret, Prog.pure_eq_ret]
  iintro ⟨#Hc, HP⟩ Hk
  iapply (part18 m c v sx sw) $$ [HP]
  · isplitl []; · iexact Hc
    iexact HP
  unfold bodyPost
  iintro %v2 ⟨HO, Hb, HX0, HX1, HX2, HX3, HA0, HA1, HA2, HA3, HF0, HF1, Hw0, Hw1, HV0, HV1, HQ0, HQ1, HQ2, HQ3, Ho, HR, HS, Hsx, Hsw⟩
  try dsimp only
  iapply (sent_step m c 13 (by revert c; decide +kernel) (by intro _; rfl)) $$ [HO HS]
  · isplitl []; · iexact Hc
    isplitl [HO]; · iexact HO
    iexact HS
  iintro ⟨HO, HS⟩
  iapply (sent_step m c 14 (by revert c; decide +kernel) (by intro _; rfl)) $$ [HO HS]
  · isplitl []; · iexact Hc
    isplitl [HO]; · iexact HO
    iexact HS
  iintro ⟨HO, HS⟩
  iapply (sent_step m c 15 (by revert c; decide +kernel) (by intro _; rfl)) $$ [HO HS]
  · isplitl []; · iexact Hc
    isplitl [HO]; · iexact HO
    iexact HS
  iintro ⟨HO, HS⟩
  iapply le_wp_ret
  iapply Hk
  isplitl [HO]; · iexact HO
  isplitl [Hb]; · iexact Hb
  isplitl [HX0]; · iexact HX0
  isplitl [HX1]; · iexact HX1
  isplitl [HX2]; · iexact HX2
  isplitl [HX3]; · iexact HX3
  isplitl [HA0]; · iexact HA0
  isplitl [HA1]; · iexact HA1
  isplitl [HA2]; · iexact HA2
  isplitl [HA3]; · iexact HA3
  isplitl [HF0]; · iexact HF0
  isplitl [HF1]; · iexact HF1
  isplitl [Hw0]; · iexact Hw0
  isplitl [Hw1]; · iexact Hw1
  isplitl [HV0]; · iexact HV0
  isplitl [HV1]; · iexact HV1
  isplitl [HQ0]; · iexact HQ0
  isplitl [HQ1]; · iexact HQ1
  isplitl [HQ2]; · iexact HQ2
  isplitl [HQ3]; · iexact HQ3
  isplitl [Ho]; · iexact Ho
  isplitl [HR]; · iexact HR
  isplitl [HS]; · iexact HS
  isplitl [Hsx]; · iexact Hsx
  iexact Hsw

end Cert.KernelIdeal.Exchange

end
-- ==== Proof.KernelIdealBuffers.lean ====
/-
The buffers of one device, cut into the parts the exchange works on and joined again, for any float values.
-/
module

public import proofs.«01_k».proof.Proof.KernelIdealBody

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cuts -/

theorem quarter_cover (c : Dev nD) (q : Fin 4) : ∃ s : Fin 4, quarter c s.val = q := by revert c q; decide +kernel
theorem quarter_inj (c : Dev nD) (s s' : Fin 4) (h : quarter c s.val = quarter c s'.val) : s = s' := by revert c s s'; decide +kernel

/-- The rows of an array of 4096 rows are the four quarters', in the order a device takes them. -/
theorem quarter_rows (n : Nat) (c : Dev nD) :
    (∀ i : (⟨2, ![4096, n]⟩ : Shape).Idx, i ∈ Finset.univ ↔ ∃ s : Fin 4, i ∈ rows (d := ![4096, n]) 1024 (quarter c s.val).val)
      ∧ ∀ (i : (⟨2, ![4096, n]⟩ : Shape).Idx) (s s' : Fin 4), i ∈ rows (d := ![4096, n]) 1024 (quarter c s.val).val → i ∈ rows (d := ![4096, n]) 1024 (quarter c s'.val).val → s = s' := by
  refine ⟨fun i => ⟨fun _ => ?_, fun _ => Finset.mem_univ _⟩, fun i s s' h h' => ?_⟩
  · have hi : (i 0 : Nat) < 4096 := (i 0).isLt
    obtain ⟨s, hs⟩ := quarter_cover c ⟨(i 0 : Nat) / 1024, by omega⟩
    exact ⟨s, Finset.mem_filter.mpr ⟨Finset.mem_univ _, by rw [hs]⟩⟩
  · exact quarter_inj c s s' (Fin.ext ((Finset.mem_filter.mp h).2.symm.trans (Finset.mem_filter.mp h').2))
/-- The columns of an array of 4096 columns likewise. -/
theorem quarter_cols (n : Nat) (c : Dev nD) :
    (∀ i : (⟨2, ![n, 4096]⟩ : Shape).Idx, i ∈ Finset.univ ↔ ∃ s : Fin 4, i ∈ cols (d := ![n, 4096]) 1024 (quarter c s.val).val)
      ∧ ∀ (i : (⟨2, ![n, 4096]⟩ : Shape).Idx) (s s' : Fin 4), i ∈ cols (d := ![n, 4096]) 1024 (quarter c s.val).val → i ∈ cols (d := ![n, 4096]) 1024 (quarter c s'.val).val → s = s' := by
  refine ⟨fun i => ⟨fun _ => ?_, fun _ => Finset.mem_univ _⟩, fun i s s' h h' => ?_⟩
  · have hi : (i 1 : Nat) < 4096 := (i 1).isLt
    obtain ⟨s, hs⟩ := quarter_cover c ⟨(i 1 : Nat) / 1024, by omega⟩
    exact ⟨s, Finset.mem_filter.mpr ⟨Finset.mem_univ _, by rw [hs]⟩⟩
  · exact quarter_inj c s s' (Fin.ext ((Finset.mem_filter.mp h).2.symm.trans (Finset.mem_filter.mp h').2))
/-- They are also the sixteen devices' blocks, by rows -/
theorem device_rows (n : Nat) :
    (∀ i : (⟨2, ![4096, n]⟩ : Shape).Idx, i ∈ Finset.univ ↔ ∃ j : Dev nD, i ∈ rows (d := ![4096, n]) 256 j.val)
      ∧ ∀ (i : (⟨2, ![4096, n]⟩ : Shape).Idx) (j j' : Dev nD), i ∈ rows (d := ![4096, n]) 256 j.val → i ∈ rows (d := ![4096, n]) 256 j'.val → j = j' := by
  refine ⟨fun i => ⟨fun _ => ?_, fun _ => Finset.mem_univ _⟩, fun i j j' h h' => ?_⟩
  · have hi : (i 0 : Nat) < 4096 := (i 0).isLt
    exact ⟨⟨(i 0 : Nat) / 256, by show _ < 16; omega⟩, Finset.mem_filter.mpr ⟨Finset.mem_univ _, rfl⟩⟩
  · exact Fin.ext ((Finset.mem_filter.mp h).2.symm.trans (Finset.mem_filter.mp h').2)
/-- and by columns. -/
theorem device_cols (n : Nat) :
    (∀ i : (⟨2, ![n, 4096]⟩ : Shape).Idx, i ∈ Finset.univ ↔ ∃ j : Dev nD, i ∈ cols (d := ![n, 4096]) 256 j.val)
      ∧ ∀ (i : (⟨2, ![n, 4096]⟩ : Shape).Idx) (j j' : Dev nD), i ∈ cols (d := ![n, 4096]) 256 j.val → i ∈ cols (d := ![n, 4096]) 256 j'.val → j = j' := by
  refine ⟨fun i => ⟨fun _ => ?_, fun _ => Finset.mem_univ _⟩, fun i j j' h h' => ?_⟩
  · have hi : (i 1 : Nat) < 4096 := (i 1).isLt
    exact ⟨⟨(i 1 : Nat) / 256, by show _ < 16; omega⟩, Finset.mem_filter.mpr ⟨Finset.mem_univ _, rfl⟩⟩
  · exact Fin.ext ((Finset.mem_filter.mp h).2.symm.trans (Finset.mem_filter.mp h').2)
/-- A buffer of two slots is its two slots. -/
theorem two_slots :
    (∀ i : S2x1024x2048.Idx, i ∈ Finset.univ ↔ ∃ s : Fin 2, i ∈ slot s.val) ∧ ∀ (i : S2x1024x2048.Idx) (s s' : Fin 2), i ∈ slot s.val → i ∈ slot s'.val → s = s' := by
  refine ⟨fun i => ⟨fun _ => ?_, fun _ => Finset.mem_univ _⟩, fun i s s' h h' => ?_⟩
  · have hi : (i 0 : Nat) < 2 := (i 0).isLt
    exact ⟨⟨(i 0 : Nat), hi⟩, Finset.mem_filter.mpr ⟨Finset.mem_univ _, rfl⟩⟩
  · exact Fin.ext ((Finset.mem_filter.mp h).2.symm.trans (Finset.mem_filter.mp h').2)

/-! ## The buffers -/

section Parts
variable (c : Dev nD)

theorem x_parts : (((c : Thread nD τ).loc main_arg0) ↦{fullShare} X m c : sProp 𝕄)
    = iprop(xA m c (quarter c 0).val ∗ xA m c (quarter c 1).val ∗ xA m c (quarter c 2).val ∗ xA m c (quarter c 3).val) := by
  have h := pts_cut (ℓ := (c : Thread nD τ).loc main_arg0) Finset.univ fullShare (X m c)
    (fun s : Fin 4 => rows (d := ![4096, 256]) 1024 (quarter c s.val).val) (quarter_rows 256 c).1 (quarter_rows 256 c).2
  rw [bigSep_univ_four] at h
  exact h
theorem w_parts : (((c : Thread nD τ).loc main_arg1) ↦{fullShare} Wt m c : sProp 𝕄)
    = iprop(wA m c (quarter c 0).val ∗ wA m c (quarter c 1).val ∗ wA m c (quarter c 2).val ∗ wA m c (quarter c 3).val) := by
  have h := pts_cut (ℓ := (c : Thread nD τ).loc main_arg1) Finset.univ fullShare (Wt m c)
    (fun s : Fin 4 => rows (d := ![4096, 2048]) 1024 (quarter c s.val).val) (quarter_rows 2048 c).1 (quarter_rows 2048 c).2
  rw [bigSep_univ_four] at h
  exact h
theorem xf_parts (f : S4096x256.Idx → Elt F .f32) : (((c : Thread nD τ).loc cc0_scratch0) ↦{fullShare} f : sProp 𝕄)
    = bigSep Finset.univ fun s : Fin 4 => ((c : Thread nD τ).loc cc0_scratch0) ↦[rows (d := ![4096, 256]) 1024 (quarter c s.val).val]{fullShare} f :=
  pts_cut (ℓ := (c : Thread nD τ).loc cc0_scratch0) Finset.univ fullShare f
    (fun s : Fin 4 => rows (d := ![4096, 256]) 1024 (quarter c s.val).val) (quarter_rows 256 c).1 (quarter_rows 256 c).2
theorem x8_parts (f : S4096x256.Idx → Elt F .fp8e5m2) : (((c : Thread nD τ).loc cc0_scratch1) ↦{fullShare} f : sProp 𝕄)
    = bigSep Finset.univ fun s : Fin 4 => ((c : Thread nD τ).loc cc0_scratch1) ↦[rows (d := ![4096, 256]) 1024 (quarter c s.val).val]{fullShare} f :=
  pts_cut (ℓ := (c : Thread nD τ).loc cc0_scratch1) Finset.univ fullShare f
    (fun s : Fin 4 => rows (d := ![4096, 256]) 1024 (quarter c s.val).val) (quarter_rows 256 c).1 (quarter_rows 256 c).2
theorem x8_blocks : (((c : Thread nD τ).loc cc0_scratch1) ↦{fullShare} X8 m c : sProp 𝕄) = bigSep Finset.univ fun j => x8P m c j :=
  pts_cut (ℓ := (c : Thread nD τ).loc cc0_scratch1) Finset.univ fullShare (X8 m c)
    (fun j : Dev nD => rows (d := ![4096, 256]) 256 j.val) (device_rows 256).1 (device_rows 256).2
theorem cm_blocks (f : S256x4096.Idx → Elt F .fp8e5m2) : (((c : Thread nD τ).loc cc0_scratch2) ↦{fullShare} f : sProp 𝕄)
    = bigSep Finset.univ fun j : Dev nD => ((c : Thread nD τ).loc cc0_scratch2) ↦[cols (d := ![256, 4096]) 256 j.val]{fullShare} f :=
  pts_cut (ℓ := (c : Thread nD τ).loc cc0_scratch2) Finset.univ fullShare f
    (fun j : Dev nD => cols (d := ![256, 4096]) 256 j.val) (device_cols 256).1 (device_cols 256).2
theorem cm_parts : (((c : Thread nD τ).loc cc0_scratch2) ↦{fullShare} Gt m c : sProp 𝕄)
    = iprop(cmQ m c (quarter c 0).val ∗ cmQ m c (quarter c 1).val ∗ cmQ m c (quarter c 2).val ∗ cmQ m c (quarter c 3).val) := by
  have h := pts_cut (ℓ := (c : Thread nD τ).loc cc0_scratch2) Finset.univ fullShare (Gt m c)
    (fun s : Fin 4 => cols (d := ![256, 4096]) 1024 (quarter c s.val).val) (quarter_cols 256 c).1 (quarter_cols 256 c).2
  rw [bigSep_univ_four] at h
  exact h
theorem wf_parts (f : S2x1024x2048.Idx → Elt F .f32) : (((c : Thread nD τ).loc cc0_scratch3) ↦{fullShare} f : sProp 𝕄)
    = iprop((((c : Thread nD τ).loc cc0_scratch3) ↦[slot 0]{fullShare} f) ∗ (((c : Thread nD τ).loc cc0_scratch3) ↦[slot 1]{fullShare} f)) := by
  have h := pts_cut (ℓ := (c : Thread nD τ).loc cc0_scratch3) Finset.univ fullShare f (fun s : Fin 2 => slot s.val) two_slots.1 two_slots.2
  rw [bigSep_univ_two] at h
  exact h
theorem w8_parts (f : S2x1024x2048.Idx → Elt F .fp8e5m2) : (((c : Thread nD τ).loc cc0_scratch4) ↦{fullShare} f : sProp 𝕄)
    = iprop((((c : Thread nD τ).loc cc0_scratch4) ↦[slot 0]{fullShare} f) ∗ (((c : Thread nD τ).loc cc0_scratch4) ↦[slot 1]{fullShare} f)) := by
  have h := pts_cut (ℓ := (c : Thread nD τ).loc cc0_scratch4) Finset.univ fullShare f (fun s : Fin 2 => slot s.val) two_slots.1 two_slots.2
  rw [bigSep_univ_two] at h
  exact h

/-- The kernel's own buffers as it finds them, at any contents. -/
abbrev someBufs : sProp 𝕄 :=
  iprop((∃ f : S4096x256.Idx → Elt F .f32, ((c : Thread nD τ).loc cc0_scratch0) ↦{fullShare} f)
    ∗ (∃ f : S4096x256.Idx → Elt F .fp8e5m2, ((c : Thread nD τ).loc cc0_scratch1) ↦{fullShare} f)
    ∗ (∃ f : S256x4096.Idx → Elt F .fp8e5m2, ((c : Thread nD τ).loc cc0_scratch2) ↦{fullShare} f)
    ∗ (∃ f : S2x1024x2048.Idx → Elt F .f32, ((c : Thread nD τ).loc cc0_scratch3) ↦{fullShare} f)
    ∗ (∃ f : S2x1024x2048.Idx → Elt F .fp8e5m2, ((c : Thread nD τ).loc cc0_scratch4) ↦{fullShare} f))

theorem land_intro (f : S256x4096.Idx → Elt F .fp8e5m2) (j : Dev nD) :
    iprop(((c : Thread nD τ).loc cc0_scratch2) ↦[cols (d := ![256, 4096]) 256 j.val]{fullShare} f) ⊢ (land c j : sProp 𝕄) := by
  unfold land; iintro H; iexists _; iexact H
/-- The parts the body starts from. -/
theorem cut_bufs : someBufs (F := F) c
    ⊢ iprop((xfE c (quarter c 0).val ∗ xfE c (quarter c 1).val ∗ xfE c (quarter c 2).val ∗ xfE c (quarter c 3).val)
      ∗ (x8E c (quarter c 0).val ∗ x8E c (quarter c 1).val ∗ x8E c (quarter c 2).val ∗ x8E c (quarter c 3).val)
      ∗ (bigSep Finset.univ fun j => land c j) ∗ (wfE c 0 ∗ wfE c 1) ∗ (w8E c 0 ∗ w8E c 1)) := by
  iintro ⟨⟨%f0, H0⟩, ⟨%f1, H1⟩, ⟨%f2, H2⟩, ⟨%f3, H3⟩, ⟨%f4, H4⟩⟩
  have e0 := xf_parts c f0
  have e1 := x8_parts c f1
  rw [bigSep_univ_four] at e0 e1
  have e2 : (bigSep Finset.univ fun j : Dev nD => ((c : Thread nD τ).loc cc0_scratch2) ↦[cols (d := ![256, 4096]) 256 j.val]{fullShare} f2)
      ⊢ (bigSep Finset.univ fun j => land c j : sProp 𝕄) := bigSep_mono fun j _ => land_intro c f2 j
  ihave H0 := (Entails.of_eq e0) $$ H0
  ihave H1 := (Entails.of_eq e1) $$ H1
  ihave H2 := (Entails.of_eq (cm_blocks c f2)) $$ H2
  ihave H2 := e2 $$ H2
  ihave H3 := (Entails.of_eq (wf_parts c f3)) $$ H3
  ihave H4 := (Entails.of_eq (w8_parts c f4)) $$ H4
  icases H0 with ⟨A0, A1, A2, A3⟩
  icases H1 with ⟨B0, B1, B2, B3⟩
  icases H3 with ⟨C0, C1⟩
  icases H4 with ⟨D0, D1⟩
  unfold xfE x8E wfE w8E
  isplitl [A0 A1 A2 A3]
  · isplitl [A0]; · iexists _; iexact A0
    isplitl [A1]; · iexists _; iexact A1
    isplitl [A2]; · iexists _; iexact A2
    iexists _; iexact A3
  isplitl [B0 B1 B2 B3]
  · isplitl [B0]; · iexists _; iexact B0
    isplitl [B1]; · iexists _; iexact B1
    isplitl [B2]; · iexists _; iexact B2
    iexists _; iexact B3
  isplitl [H2]; · iexact H2
  isplitl [C0 C1]
  · isplitl [C0]; · iexists _; iexact C0
    iexists _; iexact C1
  isplitl [D0]; · iexists _; iexact D0
  iexists _; iexact D1

/-- Two slots at contents of their own are a buffer at some contents. -/
theorem join_wf (f g : S2x1024x2048.Idx → Elt F .f32) :
    iprop((((c : Thread nD τ).loc cc0_scratch3) ↦[slot 0]{fullShare} f) ∗ (((c : Thread nD τ).loc cc0_scratch3) ↦[slot 1]{fullShare} g))
      ⊢ (iprop(∃ h : S2x1024x2048.Idx → Elt F .f32, ((c : Thread nD τ).loc cc0_scratch3) ↦{fullShare} h) : sProp 𝕄) := by
  have e := wf_parts c (fun i => if (i 0 : Nat) = 0 then f i else g i)
  have e0 : (((c : Thread nD τ).loc cc0_scratch3) ↦[slot 0]{fullShare} f : sProp 𝕄) = ((c : Thread nD τ).loc cc0_scratch3) ↦[slot 0]{fullShare} fun i => if (i 0 : Nat) = 0 then f i else g i :=
    pointsTo_congr fun i hi => (if_pos (Finset.mem_filter.mp hi).2).symm
  have e1 : (((c : Thread nD τ).loc cc0_scratch3) ↦[slot 1]{fullShare} g : sProp 𝕄) = ((c : Thread nD τ).loc cc0_scratch3) ↦[slot 1]{fullShare} fun i => if (i 0 : Nat) = 0 then f i else g i :=
    pointsTo_congr fun i hi => (if_neg fun h => by have := (Finset.mem_filter.mp hi).2; omega).symm
  rw [e0, e1, ← e]
  iintro H; iexists _; iexact H
theorem join_w8 (f g : S2x1024x2048.Idx → Elt F .fp8e5m2) :
    iprop((((c : Thread nD τ).loc cc0_scratch4) ↦[slot 0]{fullShare} f) ∗ (((c : Thread nD τ).loc cc0_scratch4) ↦[slot 1]{fullShare} g))
      ⊢ (iprop(∃ h : S2x1024x2048.Idx → Elt F .fp8e5m2, ((c : Thread nD τ).loc cc0_scratch4) ↦{fullShare} h) : sProp 𝕄) := by
  have e := w8_parts c (fun i => if (i 0 : Nat) = 0 then f i else g i)
  have e0 : (((c : Thread nD τ).loc cc0_scratch4) ↦[slot 0]{fullShare} f : sProp 𝕄) = ((c : Thread nD τ).loc cc0_scratch4) ↦[slot 0]{fullShare} fun i => if (i 0 : Nat) = 0 then f i else g i :=
    pointsTo_congr fun i hi => (if_pos (Finset.mem_filter.mp hi).2).symm
  have e1 : (((c : Thread nD τ).loc cc0_scratch4) ↦[slot 1]{fullShare} g : sProp 𝕄) = ((c : Thread nD τ).loc cc0_scratch4) ↦[slot 1]{fullShare} fun i => if (i 0 : Nat) = 0 then f i else g i :=
    pointsTo_congr fun i hi => (if_neg fun h => by have := (Finset.mem_filter.mp hi).2; omega).symm
  rw [e0, e1, ← e]
  iintro H; iexists _; iexact H

/-- The parts the body ends with are whole buffers again. -/
theorem join_bufs :
    iprop((xfP m c (quarter c 0).val ∗ xfP m c (quarter c 1).val ∗ xfP m c (quarter c 2).val ∗ xfP m c (quarter c 3).val)
      ∗ (bigSep Finset.univ fun j => x8P m c j)
      ∗ (cmQ m c (quarter c 0).val ∗ cmQ m c (quarter c 1).val ∗ cmQ m c (quarter c 2).val ∗ cmQ m c (quarter c 3).val)
      ∗ (wfP m c 0 (quarter c 2) ∗ wfP m c 1 (quarter c 3)) ∗ (w8P m c 0 (quarter c 2) ∗ w8P m c 1 (quarter c 3)))
      ⊢ someBufs (F := F) c := by
  have e0 := xf_parts c (X m c)
  rw [bigSep_univ_four] at e0
  iintro ⟨H0, H1, H2, H3, H4⟩
  isplitl [H0]
  · iexists (X m c); iapply (Entails.of_eq e0.symm); iexact H0
  isplitl [H1]
  · iexists (X8 m c); iapply (Entails.of_eq (x8_blocks m c).symm); iexact H1
  isplitl [H2]
  · iexists (Gt m c); iapply (Entails.of_eq (cm_parts m c).symm); iexact H2
  isplitl [H3]
  · iapply (join_wf c (WF m c (quarter c 2)) (WF m c (quarter c 3))); iexact H3
  iapply (join_w8 c (W8F m c (quarter c 2)) (W8F m c (quarter c 3))); iexact H4

end Parts

end Cert.KernelIdeal.Exchange

end
-- ==== Proof.KernelIdealLaunch.lean ====
/-
The launch of the exchange, for any float values: every device is dealt its rights, runs the body, and leaves its
block of the result in place with its arguments unchanged and every semaphore at zero.
-/
module

public import proofs.«01_k».proof.Proof.KernelIdealBuffers
public import Idealize.ShloMosaic.Lib.Pipeline.CollectiveSegs
public import Idealize.ShloMosaic.Lib.Quiescent

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores: send, receive, and those of the local copies. -/
abbrev K4 : Type := Dev nD ⊕ Dev nD ⊕ Fin 2 ⊕ Fin 4
def osem : K4 → SemLoc sig := Sum.elim sendS (Sum.elim recvS (Sum.elim wS xS))

theorem ownSemFacts : Pipeline.OwnSemFacts cfg0.spec osem := by decide +kernel

/-- A device's semaphores of local copies at zero. -/
def locals (c : Dev nD) : sProp 𝕄 :=
  iprop((semVal ((c : Thread nD τ), wS 0) 0 ∗ semVal ((c : Thread nD τ), wS 1) 0)
    ∗ (semVal ((c : Thread nD τ), xS 0) 0 ∗ semVal ((c : Thread nD τ), xS 1) 0 ∗ semVal ((c : Thread nD τ), xS 2) 0 ∗ semVal ((c : Thread nD τ), xS 3) 0))

theorem ownSems0_eq (c : Dev nD) : (Pipeline.ownSems0 (Ix := Unit) (Name := ℕ) (U := UU) (Lvl := ℕ) (Val := Elt F) (τ := τ) osem c : sProp 𝕄)
    = iprop((bigSep Finset.univ fun j => semVal (sendCell c j) 0) ∗ (bigSep Finset.univ fun j => semVal (recvCell c j) 0) ∗ locals c) := by
  unfold Pipeline.ownSems0 locals
  rw [BI.bigSep_univ_sum, BI.bigSep_univ_sum, BI.bigSep_univ_sum, bigSep_univ_two, bigSep_univ_four]; rfl
theorem unscopedSems0_eq (c : Dev nD) : (unscopedSems0 c : sProp 𝕄) = semVal (barCell c) 0 := by
  unfold unscopedSems0; rw [bigSep_eq_bigSepL_of_eq [barS] (by decide) (by decide)]; rfl

/-- Over a device's cells: its barrier cell, its send cells, its receive cells. -/
theorem bigSep_CI (Φ : CI → sProp 𝕄) : bigSep Finset.univ Φ
    = iprop(Φ (.inl ()) ∗ (bigSep Finset.univ fun j => Φ (.inr (.inl j))) ∗ (bigSep Finset.univ fun j => Φ (.inr (.inr j)))) := by
  rw [BI.bigSep_univ_sum, BI.bigSep_univ_sum, BI.bigSep_univ_of_subsingleton ()]; rfl
theorem sems_cells (c : Dev nD) :
    iprop(Pipeline.ownSems0 (Ix := Unit) (Name := ℕ) (U := UU) (Lvl := ℕ) (Val := Elt F) (τ := τ) osem c ∗ unscopedSems0 c)
      ⊢ (iprop((bigSep Finset.univ fun k : CI => semVal (kcell (c, k)) 0) ∗ locals c) : sProp 𝕄) := by
  rw [ownSems0_eq, unscopedSems0_eq, bigSep_CI]
  iintro ⟨⟨HS, HV, HL⟩, HB⟩
  isplitl [HB HS HV]
  · isplitl [HB]; · iexact HB
    isplitl [HS]; · iexact HS
    iexact HV
  iexact HL

/-! ## The rights to pay -/

/-- Everybody's right to pay each of a device's cells. -/
def ownToks (c : Dev nD) : sProp 𝕄 :=
  bigSep Finset.univ fun j => iprop(dutyTok ER (barCell c) 0 j ∗ dutyTok ER (recvCell c j) 0 j ∗ dutyTok ER (sendCell c j) 0 j)

def tokOf (x : (Dev nD × Dev nD) × Fin 3) : GSem nD τ sig × ℕ × Dev nD :=
  (((x.1.1 : Thread nD τ), match x.2 with | 0 => barS | 1 => recvS x.1.2 | 2 => sendS x.1.2), 0, x.1.2)
theorem tokOf_injective : Function.Injective tokOf := by
  rintro ⟨⟨c, j⟩, k⟩ ⟨⟨c', j'⟩, k'⟩ h
  have h1 : c = c' := congrArg (fun x : GSem nD τ sig × ℕ × Dev nD => x.1.1.1) h
  have h2 : j = j' := congrArg (fun x : GSem nD τ sig × ℕ × Dev nD => x.2.2) h
  subst h1 h2
  have h3 := congrArg (fun x : GSem nD τ sig × ℕ × Dev nD => x.1.2) h
  dsimp only [tokOf] at h3
  have : k = k' := by
    fin_cases k <;> fin_cases k' <;> first
      | rfl
      | exact absurd h3 (recv_ne_bar j)
      | exact absurd h3.symm (recv_ne_bar j)
      | exact absurd h3 (send_ne_bar j)
      | exact absurd h3.symm (send_ne_bar j)
      | exact absurd h3 (send_ne_recv j j)
      | exact absurd h3.symm (send_ne_recv j j)
  subst this; rfl
def allToks : Finset (GSem nD τ sig × ℕ × Dev nD) := Finset.univ.map ⟨tokOf, tokOf_injective⟩

theorem bigSep_three (Φ : Fin 3 → sProp 𝕄) : bigSep Finset.univ Φ = iprop(Φ 0 ∗ Φ 1 ∗ Φ 2) := bigSep_univ_eq_bigSepL [0, 1, 2] (by decide) (by decide) Φ
theorem toks_dealt : bigSep allToks (fun x => (dutyTok ER x.1 x.2.1 x.2.2 : sProp 𝕄)) = bigSep Finset.univ fun c : Dev nD => ownToks c := by
  unfold allToks; rw [bigSep_map, bigSep_univ_prod, bigSep_univ_prod]
  refine bigSep_congr fun c _ => ?_
  unfold ownToks
  exact bigSep_congr fun j _ => by rw [bigSep_three]; rfl

/-- A family over pairs of devices, summed the other way round. -/
theorem bigSep_swap (Φ : Dev nD → Dev nD → sProp 𝕄) :
    (bigSep Finset.univ fun c => bigSep Finset.univ fun j => Φ c j) = bigSep Finset.univ fun j => bigSep Finset.univ fun c => Φ c j := by
  have h := bigSep_univ_equiv (Equiv.prodComm (Dev nD) (Dev nD)) (fun x : Dev nD × Dev nD => Φ x.1 x.2)
  rw [bigSep_univ_prod, bigSep_univ_prod] at h
  exact h

/-- The rights a device exercises itself. -/
def payToks (c : Dev nD) : sProp 𝕄 := iprop((bigSep Finset.univ fun j => dutyTok ER (barCell j) 0 c) ∗ toks c)

theorem toks_around : (bigSep Finset.univ fun c : Dev nD => (ownToks c : sProp 𝕄)) = bigSep Finset.univ fun c : Dev nD => payToks c := by
  unfold ownToks payToks toks
  simp only [bigSep_sep']
  rw [bigSep_swap (fun c j => (dutyTok ER (barCell c) 0 j : sProp 𝕄)), bigSep_swap (fun c j => (dutyTok ER (recvCell c j) 0 j : sProp 𝕄))]

/-! ## The launch element and what is made of it -/

def u₀ : UU := (initOf (Pipeline.cells cfgs cellOf_inj) (Pipeline.launchToks cfgs cellOf_inj), (initOf cells allToks, (1 : Counters)))

/-- What the launch element deals device `c`. -/
def G (c : Dev nD) : sProp 𝕄 :=
  iprop((bigSep Finset.univ fun k : CI => roundState ER (Rd m) (kcell (c, k)) 0) ∗ (bigSep Finset.univ fun k : CI => reached ER (kcell (c, k)) 0)
    ∗ (bigSep Finset.univ fun k : CI => atPos ER (kcell (c, k)) 0 ∅ 0) ∗ ownToks c)

/-- A family over all cells, device by device. -/
theorem bigSep_cells (Φ : GSem nD τ sig → sProp 𝕄) : bigSep cells Φ = bigSep Finset.univ fun c : Dev nD => bigSep Finset.univ fun k : CI => Φ (kcell (c, k)) := by
  unfold cells; rw [bigSep_map, bigSep_univ_prod]; rfl

theorem fund_exchange : BI.own (ER (initOf cells allToks)) ⊢ (|==> bigSep Finset.univ (G m) : sProp 𝕄) := by
  iintro HX
  imod (Rounds.fund ER (Rd m) cells allToks) $$ HX with ⟨Hst, Hr, Hat, Htok⟩
  imodintro
  ihave Hst' := (Entails.of_eq (bigSep_cells fun g => roundState ER (Rd m) g 0)) $$ Hst
  ihave Hat' := (Entails.of_eq (bigSep_cells fun g => atPos ER g 0 ∅ 0)) $$ Hat
  ihave Hr' := (Entails.of_eq (bigSep_cells fun g => reached ER g 0)) $$ Hr
  ihave Htok' := (Entails.of_eq toks_dealt) $$ Htok
  unfold G; simp only [bigSep_sep']
  isplitl [Hst']; · iexact Hst'
  isplitl [Hr']; · iexact Hr'
  isplitl [Hat']; · iexact Hat'
  iexact Htok'

/-- What stays with device `c`: its local semaphores, its positions, and the rights it exercises. -/
def linear (c : Dev nD) : sProp 𝕄 := iprop(locals c ∗ (bigSep Finset.univ fun k : CI => atPos ER (kcell (c, k)) 0 ∅ 0) ∗ payToks c)
/-- What the global step gives device `c`. -/
def G' (c : Dev nD) : sProp 𝕄 := iprop(recs m ∗ linear c)

theorem bigSep_with_persistent {I : Type} [DecidableEq I] {S : Finset I} {R : sProp 𝕄} [BI.Persistent R] {Φ : I → sProp 𝕄} :
    iprop(R ∗ bigSep S Φ) ⊢ bigSep S fun i => iprop(R ∗ Φ i) :=
  (sep_mono_left (BI.bigSep_of_persistent S R)).trans (by rw [← bigSep_sep'])

/-- The cells' invariants, all at once. -/
theorem recs_intro :
    iprop((bigSep cells fun g => semVal g 0) ∗ (bigSep cells fun g => roundState ER (Rd m) g 0) ∗ (bigSep cells fun g => reached ER g 0))
      ⊢ (|={Set.univ}=> recs m : sProp 𝕄) := by
  iintro ⟨Hv, Hst, Hr⟩
  imod ((Rounds.bodies_intro ER (Rd m) cells).trans (inv_alloc_family cells (Rounds.body ER (Rd m)) ∅ (E := Set.univ))) $$ [Hv Hst] with ⟨%κ, -, Hinv⟩
  · isplitl [Hv] <;> iassumption
  imodintro
  unfold recs
  iexists κ
  isplitl [Hinv]; · iexact Hinv
  iexact Hr

theorem core_eq (c : Dev nD) :
    iprop(Pipeline.ownSems0 (Ix := Unit) (Name := ℕ) (U := UU) (Lvl := ℕ) (Val := Elt F) (τ := τ) osem c ∗ unscopedSems0 c ∗ G m c)
      ⊢ (iprop((bigSep Finset.univ fun k : CI => semVal (kcell (c, k)) 0) ∗ (bigSep Finset.univ fun k : CI => roundState ER (Rd m) (kcell (c, k)) 0)
        ∗ (bigSep Finset.univ fun k : CI => reached ER (kcell (c, k)) 0) ∗ locals c ∗ (bigSep Finset.univ fun k : CI => atPos ER (kcell (c, k)) 0 ∅ 0) ∗ ownToks c) : sProp 𝕄) := by
  unfold G
  iintro ⟨Hos, Hus, Hst, Hr, Hat, Htok⟩
  ihave Hv := (sems_cells (F := F) c) $$ [Hos Hus]
  · isplitl [Hos] <;> iassumption
  icases Hv with ⟨Hv, HL⟩
  isplitl [Hv]; · iexact Hv
  isplitl [Hst]; · iexact Hst
  isplitl [Hr]; · iexact Hr
  isplitl [HL]; · iexact HL
  isplitl [Hat]; · iexact Hat
  iexact Htok

/-- The global step, over all devices' cells at once -/
theorem glob_cells :
    iprop((bigSep cells fun g => semVal g 0) ∗ (bigSep cells fun g => roundState ER (Rd m) g 0) ∗ (bigSep cells fun g => reached ER g 0)
        ∗ (bigSep Finset.univ fun c => locals c) ∗ (bigSep Finset.univ fun c => bigSep Finset.univ fun k : CI => atPos ER (kcell (c, k)) 0 ∅ 0)
        ∗ bigSep Finset.univ fun c => payToks c)
      ⊢ (|={Set.univ}=> bigSep Finset.univ (G' m) : sProp 𝕄) := by
  have hG : iprop(recs m ∗ bigSep Finset.univ fun c => linear c) ⊢ (bigSep Finset.univ (G' m) : sProp 𝕄) := bigSep_with_persistent
  have hL : (bigSep Finset.univ fun c : Dev nD => (linear c : sProp 𝕄))
      = iprop((bigSep Finset.univ fun c => locals c) ∗ (bigSep Finset.univ fun c => bigSep Finset.univ fun k : CI => atPos ER (kcell (c, k)) 0 ∅ 0) ∗ bigSep Finset.univ fun c => payToks c) := by
    unfold linear; simp only [bigSep_sep']
  iintro ⟨Hv, Hst, Hr, HL, Hat, Htok⟩
  imod (recs_intro m) $$ [Hv Hst Hr] with HR
  · isplitl [Hv]; · iexact Hv
    isplitl [Hst] <;> iassumption
  imodintro
  iapply hG
  isplitl [HR]; · iexact HR
  iapply (Entails.of_eq hL.symm)
  isplitl [HL]; · iexact HL
  isplitl [Hat]; · iexact Hat
  iexact Htok
/-- and as the launch states it. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  refine (bigSep_mono fun c _ => core_eq m c).trans ?_
  simp only [bigSep_sep']
  rw [← bigSep_cells (fun g => (semVal g 0 : sProp 𝕄)), ← bigSep_cells (fun g => (roundState ER (Rd m) g 0 : sProp 𝕄)), ← bigSep_cells (fun g => (reached ER g 0 : sProp 𝕄)), toks_around]
  exact glob_cells m

/-! ## The launch credit -/

theorem bar_eq_iff {a b : Dev nD} : barCell a = barCell b ↔ a = b :=
  ⟨fun h => Fin.ext (congrArg (fun g : GSem nD τ sig => g.1.1.val) h), fun h => h ▸ rfl⟩
theorem recv_eq_iff {a b j k : Dev nD} : recvCell a j = recvCell b k ↔ a = b ∧ j = k :=
  ⟨fun h => ⟨Fin.ext (congrArg (fun g : GSem nD τ sig => g.1.1.val) h), recvS_injective (congrArg Prod.snd h)⟩, fun h => by rw [h.1, h.2]⟩

/-- Device `d` owes every other device's barrier cell a unit. -/
theorem owed_bar (d c : Dev nD) : O₀ d (barCell c) () = if d = c then 0 else 1 := by
  unfold O₀
  rw [Pi.add_apply, Finsupp.add_apply]
  have h0 : owedRecv d 0 (barCell c) () = 0 := by
    by_contra hn
    obtain ⟨e, he⟩ := owedRecv_pos (Nat.pos_of_ne_zero hn)
    exact recv_ne_bar d (congrArg Prod.snd he).symm
  rw [h0, Nat.zero_add, owedBar, owing_apply, Finset.sum_eq_single c]
  · rw [if_neg (Nat.not_lt_zero _)]
    by_cases h : d = c
    · rw [if_pos h.symm, if_pos h]; rfl
    · rw [if_neg fun e => h e.symm, if_neg h, tallyAt_apply, if_pos ⟨rfl, rfl⟩]
  · intro e _ he
    rw [if_neg (Nat.not_lt_zero _)]
    split
    · rfl
    · rw [tallyAt_apply, if_neg fun ⟨h1, _⟩ => he (by first | exact bar_eq_iff.mp h1 | exact (bar_eq_iff.mp h1).symm)]
  · exact fun h => absurd (Finset.mem_univ _) h

/-- It owes every other device's receive cell for it one block's credit. -/
theorem owed_recv (d c j : Dev nD) : O₀ d (recvCell c j) () = if d = j ∧ c ≠ j then N else 0 := by
  unfold O₀
  rw [Pi.add_apply, Finsupp.add_apply]
  have h0 : owedBar d 0 (recvCell c j) () = 0 := by
    by_contra hn
    obtain ⟨e, he⟩ := owedBar_pos (Nat.pos_of_ne_zero hn)
    exact recv_ne_bar j (congrArg Prod.snd he)
  rw [h0, Nat.add_zero, owedRecv, owing_apply, Finset.sum_eq_single c]
  · rw [if_neg (Nat.not_lt_zero _)]
    by_cases h : c = d
    · rw [if_pos h, if_neg fun ⟨h1, h2⟩ => h2 (h.trans h1)]; rfl
    · rw [if_neg h, tallyAt_apply]
      by_cases hj : d = j
      · subst hj; rw [if_pos ⟨rfl, rfl⟩, if_pos ⟨rfl, h⟩]
      · rw [if_neg fun ⟨h1, _⟩ => hj (by first | exact (recv_eq_iff.mp h1).2 | exact (recv_eq_iff.mp h1).2.symm), if_neg fun ⟨h1, _⟩ => hj h1]
  · intro e _ he
    rw [if_neg (Nat.not_lt_zero _)]
    split
    · rfl
    · rw [tallyAt_apply, if_neg fun ⟨h1, _⟩ => he (by first | exact (recv_eq_iff.mp h1).1 | exact (recv_eq_iff.mp h1).1.symm)]
  · exact fun h => absurd (Finset.mem_univ _) h

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c j : Dev nD) (h : j ≠ c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_eq_single j]
  · rw [if_pos ⟨rfl, h.symm⟩]
  · exact fun d _ hd => if_neg fun e => hd e.1
  · exact fun h => absurd (Finset.mem_univ _) h

/-- The credit a device waits with: for its barrier cell and for each receive cell but its own. -/
abbrev recvCreds (c : Dev nD) : sProp 𝕄 := bigSep Finset.univ fun j => if j = c then iprop(emp) else cred (tallyAt (recvCell c j) () N)

theorem cred_item (c j : Dev nD) :
    (cred (tallyOn (recvCell c j) (launchCredit (Pipeline.owing O₀) 0 (recvCell c j))) : sProp 𝕄)
      ⊢ if j = c then iprop(emp) else cred (tallyAt (recvCell c j) () N) := by
  by_cases h : j = c
  · rw [if_pos h]; iintro -; iempintro
  · rw [if_neg h, launch_recv c j h]
theorem creds (c : Dev nD) :
    (Pipeline.launchCred O₀ c : sProp 𝕄) ⊢ iprop(cred (tallyAt (barCell c) () 15) ∗ recvCreds c) := by
  unfold Pipeline.launchCred
  rw [bigSep_univ_at _ barS, launch_bar]
  refine sep_mono_right ?_
  have hs : (Finset.univ.map ⟨recvS, recvS_injective⟩) ⊆ (Finset.univ.erase barS : Finset (SemLoc sig)) := fun sm h => by
    obtain ⟨j, -, rfl⟩ := Finset.mem_map.mp h
    exact Finset.mem_erase.mpr ⟨recv_ne_bar j, Finset.mem_univ _⟩
  refine (BI.bigSep_subset hs).trans ?_
  rw [bigSep_map]
  exact bigSep_mono fun j _ => cred_item c j

end Cert.KernelIdeal.Exchange

end
-- ==== Proof.KernelIdealRun.lean ====
/-
The run of the exchange, for any float values, with what it leaves in memory.
-/
module

public import proofs.«01_k».proof.Proof.KernelIdealLaunch

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- The scales as a device holds them. -/
def SX (c : Dev nD) : S1.Idx → Elt F .f32 := m ((c : Thread nD τ).loc main_arg2)
def SW (c : Dev nD) : S1.Idx → Elt F .f32 := m ((c : Thread nD τ).loc main_arg3)
/-- The device's block of the result. -/
def res (c : Dev nD) : S256x2048.Idx → Elt F .f32 := y3 m c (k0_pay21 (scal (SX m c)) (scal (SW m c)))

/-- The two arguments the kernel copies from itself. -/
def argsP (c : Dev nD) : sProp 𝕄 := iprop((((c : Thread nD τ).loc main_arg0) ↦{fullShare} X m c) ∗ (((c : Thread nD τ).loc main_arg1) ↦{fullShare} Wt m c))
/-- What a device starts the kernel with, but for the kernel's own buffers -/
def start (c : Dev nD) : sProp 𝕄 :=
  iprop(argsP m c ∗ ctx m ∗ (cred (tallyAt (barCell c) () 15) ∗ recvCreds c) ∗ linear c)
/-- and with them; -/
def Φ₀ (c : Dev nD) : sProp 𝕄 := iprop(start m c ∗ someBufs c)
/-- what it ends the kernel with. -/
def Φ₁ (c : Dev nD) : sProp 𝕄 :=
  iprop((argsP m c ∗ unscopedSems0 c) ∗ Pipeline.ownSems0 (Ix := Unit) (Name := ℕ) (U := UU) (Lvl := ℕ) (Val := Elt F) (τ := τ) osem c ∗ someBufs c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => SX m c
    | ⟨1, _⟩ => SW m c
    | ⟨2, _⟩ => res m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body's start and end -/

/-- What a device starts the kernel with is what the body starts from. -/
theorem start_body (c : Dev nD) (v : S256x2048.Idx → Elt F .f32) (sx sw : S1.Idx → Elt F .f32) :
    iprop(Φ₀ m c ∗ outP c v ∗ (((c : Thread nD τ).loc cc0_stg0_0) ↦{fullShare} sx) ∗ (((c : Thread nD τ).loc cc0_stg1_0) ↦{fullShare} sw) ∗ ow c (O₀ c))
      ⊢ iprop(ctx m ∗ bodyPre m c v sx sw) := by
  have hs : iprop((bigSep Finset.univ fun j => land c j) ∗ bigSep Finset.univ fun j => dutyTok ER (barCell j) 0 c) ⊢ (sigs c 0 : sProp 𝕄) := by
    unfold sigs; rw [sweep_zero]; unfold sigPre; rw [bigSep_sep']
  unfold Φ₀ start linear argsP locals payToks bodyPre xInit wInit
  iintro ⟨⟨⟨⟨Hx, Hw⟩, #Hc, ⟨Hcb, Hcr⟩, ⟨⟨W0, W1⟩, X0, X1, X2, X3⟩, Hat, Htb, Htk⟩, HB⟩, Ho, Hsx, Hsw, HO⟩
  ihave HB := (cut_bufs c) $$ HB
  icases HB with ⟨⟨A0, A1, A2, A3⟩, ⟨B0, B1, B2, B3⟩, HL, ⟨C0, C1⟩, D0, D1⟩
  ihave Hx := (Entails.of_eq (x_parts m c)) $$ Hx
  icases Hx with ⟨P0, P1, P2, P3⟩
  ihave Hw := (Entails.of_eq (w_parts m c)) $$ Hw
  icases Hw with ⟨Q0, Q1, Q2, Q3⟩
  ihave Hat := (Entails.of_eq (bigSep_CI fun k => atPos ER (kcell (c, k)) 0 ∅ 0)) $$ Hat
  icases Hat with ⟨HaB, HaS, HaV⟩
  isplitr; · iexact Hc
  isplitl [A0 P0 X0]
  · isplitl [P0]; · iexact P0
    isplitl [A0]; · iexact A0
    iexact X0
  isplitl [A1 P1 X1]
  · isplitl [P1]; · iexact P1
    isplitl [A1]; · iexact A1
    iexact X1
  isplitl [A2 P2 X2]
  · isplitl [P2]; · iexact P2
    isplitl [A2]; · iexact A2
    iexact X2
  isplitl [A3 P3 X3]
  · isplitl [P3]; · iexact P3
    isplitl [A3]; · iexact A3
    iexact X3
  isplitl [Q0 C0 W0]
  · isplitl [Q0]; · iexact Q0
    isplitl [C0]; · iexact C0
    iexact W0
  isplitl [Q1 C1 W1]
  · isplitl [Q1]; · iexact Q1
    isplitl [C1]; · iexact C1
    iexact W1
  isplitl [Q2]; · iexact Q2
  isplitl [Q3]; · iexact Q3
  isplitl [B0]; · iexact B0
  isplitl [B1]; · iexact B1
  isplitl [B2]; · iexact B2
  isplitl [B3]; · iexact B3
  isplitl [D0]; · iexact D0
  isplitl [D1]; · iexact D1
  isplitl [Ho]; · iexact Ho
  isplitl [Hsx]; · iexact Hsx
  isplitl [Hsw]; · iexact Hsw
  isplitl [HO]; · iexact HO
  isplitl [HL Htb]
  · iapply hs; isplitl [HL]; · iexact HL
    iexact Htb
  isplitl [Hcb]; · iexact Hcb
  isplitl [HaB]; · iexact HaB
  isplitl [Htk]; · iexact Htk
  isplitl [Hcr]; · iexact Hcr
  isplitl [HaV]; · iexact HaV
  iexact HaS

/-- What the body ends with is what a device ends the kernel with, and its block of the result. -/
theorem body_end (c : Dev nD) (sx sw : S1.Idx → Elt F .f32) :
    bodyPost m c sx sw 16 ⊢ iprop(Φ₁ m c ∗ ow c 0 ∗ outP c (y3 m c (k0_pay21 (scal sx) (scal sw)))
      ∗ (((c : Thread nD τ).loc cc0_stg0_0) ↦{fullShare} sx) ∗ (((c : Thread nD τ).loc cc0_stg1_0) ↦{fullShare} sw)) := by
  have hr : recvs m c 16 = (bigSep Finset.univ fun j => semVal (recvCell c j) 0 : sProp 𝕄) := by
    unfold recvs; rw [sweep_last _ (pos_lt c)]; rfl
  have hs : sent m c 16 = (iprop((bigSep Finset.univ fun j => semVal (sendCell c j) 0) ∗ bigSep Finset.univ fun j => x8P m c j) : sProp 𝕄) := by
    unfold sent; rw [sweep_last _ (fun d => d.isLt)]; unfold swPost; rw [bigSep_sep']
  unfold bodyPost Φ₁ argsP xRest
  rw [unscopedSems0_eq, ownSems0_eq, hr, hs]
  unfold locals
  iintro ⟨HO, Hb, ⟨A0, P0, X0⟩, ⟨A1, P1, X1⟩, ⟨A2, P2, X2⟩, ⟨A3, P3, X3⟩, Q0, Q1, Q2, Q3, C0, C1, W0, W1, D0, D1, G0, G1, G2, G3, Ho, HR, ⟨HS, H8⟩, Hsx, Hsw⟩
  isplitr [HO Ho Hsx Hsw]
  · isplitl [P0 P1 P2 P3 Q0 Q1 Q2 Q3 Hb]
    · isplitr [Hb]
      · isplitl [P0 P1 P2 P3]
        · iapply (Entails.of_eq (x_parts m c).symm)
          isplitl [P0]; · iexact P0
          isplitl [P1]; · iexact P1
          isplitl [P2]; · iexact P2
          iexact P3
        iapply (Entails.of_eq (w_parts m c).symm)
        isplitl [Q0]; · iexact Q0
        isplitl [Q1]; · iexact Q1
        isplitl [Q2]; · iexact Q2
        iexact Q3
      iexact Hb
    isplitl [HS HR W0 W1 X0 X1 X2 X3]
    · isplitl [HS]; · iexact HS
      isplitl [HR]; · iexact HR
      isplitl [W0 W1]
      · isplitl [W0]; · iexact W0
        iexact W1
      isplitl [X0]; · iexact X0
      isplitl [X1]; · iexact X1
      isplitl [X2]; · iexact X2
      iexact X3
    iapply (join_bufs m c)
    isplitl [A0 A1 A2 A3]
    · isplitl [A0]; · iexact A0
      isplitl [A1]; · iexact A1
      isplitl [A2]; · iexact A2
      iexact A3
    isplitl [H8]; · iexact H8
    isplitl [G0 G1 G2 G3]
    · isplitl [G0]; · iexact G0
      isplitl [G1]; · iexact G1
      isplitl [G2]; · iexact G2
      iexact G3
    isplitl [C0 C1]
    · isplitl [C0]; · iexact C0
      iexact C1
    isplitl [D0]; · iexact D0
    iexact D1
  isplitl [HO]; · iexact HO
  isplitl [Ho]; · iexact Ho
  isplitl [Hsx]; · iexact Hsx
  iexact Hsw

/-! ## The body obligation -/

abbrev stg (c : Dev nD) (b : Ref sig .tc) (Y : b.ty.Contents (Elt F)) : sProp 𝕄 :=
  iprop(∃ f : Buf (Elt F) ((c : Thread nD τ).loc b), ⌜f = Y⌝ ∗ (((c : Thread nD τ).loc b) ↦{fullShare} f))

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄) = stg c b Y := by
  unfold owns; simp only [Memref.view_whole, View.read_whole, View.set_whole]

def obPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def obPost (c : Dev nD) : sProp 𝕄 :=
  iprop(Φ₁ m c ∗ (dats m ρ 0 c).owesAt () t0_0.succ
    ∗ stg c cc0_stg0_0 (SX m c) ∗ stg c cc0_stg1_0 (SW m c) ∗ stg c cc0_stg2_0 (res m c))

/-- The one index of a scale. -/
theorem one_index (i j : S1.Idx) : i = j := funext fun a => by
  obtain rfl : a = (0 : Fin 1) := Subsingleton.elim (α := Fin 1) _ _
  exact Subsingleton.elim (α := Fin 1) (i 0) (j 0)
theorem before_sx (c : Dev nD) (d) : (dats m ρ 0 c).before (0 : Fin 3) t0_0 d = SX m c := by
  unfold Dat.before; rw [if_pos (fetch0_0 t0_0)]
  funext j
  have hm : (cfg0.win 0).moved (cfg0.grid.coords t0_0) j = true := ((cfg0.win 0).moved_iff _ j).mpr fun a => (j a).isLt
  unfold Dat.fetched Window.fill; rw [dif_pos hm]
  exact congrArg (SX m c) (one_index _ _)
theorem before_sw (c : Dev nD) (d) : (dats m ρ 0 c).before (1 : Fin 3) t0_0 d = SW m c := by
  unfold Dat.before; rw [if_pos (fetch0_1 t0_0)]
  funext j
  have hm : (cfg0.win 1).moved (cfg0.grid.coords t0_0) j = true := ((cfg0.win 1).moved_iff _ j).mpr fun a => (j a).isLt
  unfold Dat.fetched Window.fill; rw [dif_pos hm]
  exact congrArg (SW m c) (one_index _ _)

set_option maxRecDepth 4000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show obPre m ρ c ⊢ Wp c (cc0_body xM (Memref.isWhole_whole _) wM (Memref.isWhole_whole _) sxM (Memref.isWhole_whole _) swM (Memref.isWhole_whole _) oM (Memref.isWhole_whole _)
          xfM (Memref.isWhole_whole _) x8M (Memref.isWhole_whole _) cmM (Memref.isWhole_whole _) wfM (Memref.isWhole_whole _) w8M (Memref.isWhole_whole _)
          cc0_scratch5 cc0_scratch6 cc0_scratch7 cc0_scratch8) (fun _ => obPost m ρ c)
  unfold obPre
  iintro ⟨HΦ, Ho, ⟨%d0, %f0, %h0, H0⟩, ⟨%d1, %f1, %h1, H1⟩, ⟨%d2, %f2, %h2, H2⟩⟩
  have e0 : f0 = SX m c := h0.trans (before_sx m ρ c d0)
  have e1 : f1 = SW m c := h1.trans (before_sw m ρ c d1)
  subst e0 e1
  unfold Dat.owesAt Pipeline.owesWithin
  icases Ho with ⟨%W, %hW, HO⟩
  iapply (body_run m c f2 (SX m c) (SW m c) (Kt := fun _ => obPost m ρ c)) $$ [HΦ H0 H1 H2 HO]
  · iapply (start_body m c f2 (SX m c) (SW m c))
    isplitl [HΦ]; · iexact HΦ
    isplitl [H2]; · unfold outP; iexact H2
    isplitl [H0]; · iexact H0
    isplitl [H1]; · iexact H1
    unfold ow; iexists W; iexact HO
  iintro HP
  ihave HP := (body_end m c (SX m c) (SW m c)) $$ HP
  unfold obPost Dat.owesAt Pipeline.owesWithin ow outP
  icases HP with ⟨HΦ, ⟨%W', HO⟩, Ho, H0, H1⟩
  isplitl [HΦ]; · iexact HΦ
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact Ho

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' ctx argsP
  iintro ⟨⟨H0, H1⟩, Hlev, Hcr, -, HR, HL⟩
  ihave Hc := (creds (F := F) c) $$ Hcr
  imodintro
  isplitl
  · isplitl [H0 H1]
    · isplitl [H0]; · iexact H0
      iexact H1
    isplitl [HR Hlev]
    · isplitl [HR] <;> iassumption
    isplitl [Hc]; · iexact Hc
    iexact HL
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop((argsP m c ∗ unscopedSems0 c) ∗ Pipeline.ownSems0 osem c ∗ Pipeline.scopedRest cfg0.spec c) := by
  rw [show (dats m ρ 0 c).Φ (Fin.last cfg0.N) = Φ₁ m c from rfl, scopedRest0_eq]
  unfold Φ₁
  exact Entails.of_eq rfl

theorem waits (c : Dev nD) : (levAts L lv : sProp 𝕄) ⊢ Pipeline.cellsWaits cfgs (dats m ρ) () 0 c :=
  Pipeline.cellsWaits_intro cfgs (dats m ρ) () 0 c fun w s t =>
    mayWait_other c _ (by fin_cases w <;> fin_cases s <;> decide) (by fin_cases w <;> fin_cases s <;> decide +kernel) _ (by
      rcases t with ⟨_ | _, ht⟩
      · intro g u h
        have h' : 0 < owedRecv c 0 g u + owedBar c 0 g u := h
        rcases Nat.eq_zero_or_pos (owedRecv c 0 g u) with h0 | h0
        · exact Or.inl (owedBar_pos (c := c) (i := 0) (u := u) (by omega))
        · exact Or.inr (owedRecv_pos h0)
      · exact fun g u h => absurd h (Nat.lt_irrefl 0))

/-- What a device's memory holds of the two arguments the kernel copies from, and of the semaphores the launch leaves alone. -/
def QYc (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ ∀ sm : SemLoc sig, sm.isScoped .tc = false → s.sem ((c.tc : Thread nD τ), sm) = 0

theorem read_end (c : Dev nD) (s' : Phys nD τ sig (Elt F)) :
    iprop((argsP m c ∗ unscopedSems0 c) ∗ emp ∗ SI s') ⊢ (|={Set.univ}=> iprop(⌜QYc m c s'.mem⌝ ∗ SI s') : sProp 𝕄) := by
  unfold argsP
  iintro ⟨⟨⟨H0, H1⟩, Hu⟩, -, HSI⟩
  ihave %h0 := (SI_pointsTo_agree) $$ [HSI H0]
  · isplitl [HSI] <;> iassumption
  ihave %h1 := (SI_pointsTo_agree) $$ [HSI H1]
  · isplitl [HSI] <;> iassumption
  imod (Pipeline.unscopedSems0_read (X := unscopedSems0 c) (c := c) fupd_intro s') $$ [Hu HSI] with ⟨%hu, HSI⟩
  · isplitl [Hu] <;> iassumption
  imodintro
  isplitr
  · ipureintro
    exact ⟨⟨funext fun i => h0 i (Finset.mem_univ _), funext fun i => h1 i (Finset.mem_univ _)⟩, hu⟩
  iexact HSI

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w) ∧ QYc m c r.2

/-- The launch element splits into the pipeline's part and the exchange's. -/
theorem ownU_split (a : UR sig nD τ) (b : UB) : (ownU ((a, (b, (1 : Counters))) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

set_option maxRecDepth 8000 in
/-- Every weakly fair execution of the sixteen devices terminates, each device's arrays are at the contents the proof
    data give, and every semaphore is at zero. -/
theorem run_data : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := fun c => iprop(argsP m c ∗ unscopedSems0 c)) (Z := fun _ => iprop(emp))
    (hX := start_intro m ρ) (hin := phi0_intro m ρ) (hout := phi1_exit m ρ)
    (QY := QYc m) (hY := read_end m)
    (hQ := fun _ h hs => ⟨fun c => ⟨fun w => (h c).1 w, (h c).2.2⟩, sem_eq_zero hs fun c => (h c).2.2.2⟩)

/-! ## What is in memory -/

theorem final_sx (c : Dev nD) : finalA m ρ c (0 : Fin 3) = m ((c : Thread nD τ).loc main_arg2) := (dats (F := F) m ρ 0 c).arrAt_in (0 : Fin 3) rfl _
theorem final_sw (c : Dev nD) : finalA m ρ c (1 : Fin 3) = m ((c : Thread nD τ).loc main_arg3) := (dats (F := F) m ρ 0 c).arrAt_in (1 : Fin 3) rfl _

theorem blk_emb (i : S256x2048.Idx) : (win0_2.rect t0_0).emb i = i := funext fun a => Fin.ext (by
  show 0 * _ + 1 * (i a : Nat) = _
  omega)
theorem final_res (c : Dev nD) : finalA m ρ c (2 : Fin 3) = res m c :=
  (dats (F := F) m ρ 0 c).arrAt_eq_of_cover (2 : Fin 3) (res m c)
    (fun t _ => by
      obtain rfl := fin_N0 t
      unfold Dat.flushed
      funext i
      exact congrArg (res m c) (blk_emb i).symm)
    (fun i => ⟨t0_0, flush0_2 _, by
      show i ∈ ((View.whole main_v1).slice (win0_2.rect t0_0)).set
      rw [View.set_slice_whole, ← blk_emb i]
      exact (win0_2.rect t0_0).mem_set.mpr fun a => ⟨(i a : Nat), (i a).isLt, rfl⟩⟩)

/-- Every weakly fair execution of the sixteen devices terminates with every device's block of the result computed,
    its arguments unchanged, and every semaphore at zero. -/
theorem run_main : θ_run defs (onTc (τ := τ) (main (F := F))) ⟨m, fun _ => 0, ρ⟩ (fun r =>
    (∀ c : Dev nD, r.2.mem ((c.tc : Thread nD τ).loc main_v1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c => ⟨((h.1 c).1 (2 : Fin 3)).trans (final_res m ρ c), (h.1 c).2.1.1, (h.1 c).2.1.2,
    ((h.1 c).1 (0 : Fin 3)).trans (final_sx m ρ c), ((h.1 c).1 (1 : Fin 3)).trans (final_sw m ρ c)⟩, h.2⟩) (run_data m ρ)

end Cert.KernelIdeal.Exchange

end
-- ==== Proof.KernelIdealValue.lean ====
/-
What the exchange leaves, over the extended reals: each device's result is its block of rows of the
product of the whole arrays, times the two scales.
-/
module

public import proofs.«01_k».proof.Proof.KernelIdealRun
public import proofs.«01_k».proof.Proof.Gen.ReferenceIdeal.Run
public import Idealize.ShloMosaic.Lib.MatmulPlain
public import Idealize.ShloMosaic.Lib.StackMember
public import Idealize.ShloMosaic.Lib.Layout
public import Mathlib.Algebra.BigOperators.Fin

@[expose] public section

noncomputable section

namespace Cert.KernelIdeal.Exchange

open Cert.KernelIdeal Cert.KernelIdeal.Gen

open Idealize.ShloMosaic
open Idealize.ShloMosaic.TcCoe
open Idealize.ShloMosaic.ValueIdx

variable (m : (ℓ : Loc nD τ sig) → Buf (Elt Ideal) ℓ)

/-! ## One quarter's product -/

/-- A product of a block of 1024 columns with a block of 1024 rows, into zeros, at an index. -/
theorem product_at (v : FVec Ideal S256x1024 .fp8e5m2) (w : FVec Ideal S1024x2048 .fp8e5m2) (r : Fin 256) (j : Fin 2048) :
    matmul dot_S256x1024_S1024x2048_S256x2048_1_0_0_1_n_n none v w (constant S256x2048 .f32 0x00000000#32) (ix2 r j)
      = ∑ k : Fin 1024, v (ix2 r k) * w (ix2 k j) := by
  rw [show dot_S256x1024_S1024x2048_S256x2048_1_0_0_1_n_n = DotDims.plain 256 1024 2048 from rfl]
  refine (Ideal.matmul_plain_apply none v w _ r j).trans ?_
  show Ideal.ofBits .f32 0x00000000#32 + _ = _
  rw [Ideal.ofBits_zero_f32, zero_add]

/-- Quarter `q`'s share of a device's result, before the scales, at row `r` and column `j`. -/
def share (c : Dev nD) (r : Fin 256) (j : Fin 2048) (q : Fin 4) : EReal :=
  ∑ k : Fin 1024, (GQ m c q (ix2 r k) : EReal) * W8Q m c q (ix2 k j)

/-- The first quarter a device takes starts its sum. -/
theorem y0_at (c : Dev nD) (r : Fin 256) (j : Fin 2048) : y0 m c (ix2 r j) = share m c r j (quarter c 0) := by
  unfold y0 k0_pay23
  rw [cast_W81]
  exact product_at _ _ r j
/-- The second is added to it, -/
theorem y1_at (c : Dev nD) (r : Fin 256) (j : Fin 2048) :
    y1 m c (ix2 r j) = share m c r j (quarter c 0) + share m c r j (quarter c 1) := by
  unfold y1 k0_pay26
  rw [cast_W81, shapeCast_self, ← y0_at]
  exact congrArg ((y0 m c (ix2 r j) : EReal) + ·) (product_at _ _ r j)
/-- the third likewise, -/
theorem y2_at (c : Dev nD) (r : Fin 256) (j : Fin 2048) :
    y2 m c (ix2 r j) = share m c r j (quarter c 0) + share m c r j (quarter c 1) + share m c r j (quarter c 2) := by
  unfold y2 k0_pay28
  rw [cast_W81, shapeCast_self, ← y1_at]
  exact congrArg ((y1 m c (ix2 r j) : EReal) + ·) (product_at _ _ r j)
/-- and with the fourth the sum is multiplied by the scale. -/
theorem y3_at (c : Dev nD) (s : EReal) (r : Fin 256) (j : Fin 2048) :
    y3 m c s (ix2 r j) = (share m c r j (quarter c 0) + share m c r j (quarter c 1) + share m c r j (quarter c 2)
      + share m c r j (quarter c 3)) * s := by
  unfold y3 k0_pay30
  rw [cast_W81, shapeCast_self, ← y2_at]
  exact congrArg (fun z : EReal => ((y2 m c (ix2 r j) : EReal) + z) * s) (product_at _ _ r j)

/-! ## The four quarters together -/

/-- A device's order of the quarters, as a permutation of them. -/
def order (c : Dev nD) : Fin 4 ≃ Fin 4 :=
  Equiv.ofBijective (fun s => quarter c s.val) ⟨fun s s' h => quarter_inj c s s' h, fun q => quarter_cover c q⟩

/-- A sum over the quarters in a device's order is the sum over the quarters. -/
theorem sum_order (c : Dev nD) (f : Fin 4 → EReal) :
    f (quarter c 0) + f (quarter c 1) + f (quarter c 2) + f (quarter c 3) = ∑ q, f q := by
  rw [← Equiv.sum_comp (order c) f, Fin.sum_univ_four]
  rfl

/-- A sum over 4096 positions is a sum over the quarters of the sums over the 1024 positions of each. -/
theorem sum_quarters (f : Fin 4096 → EReal) :
    ∑ k, f k = ∑ q : Fin 4, ∑ k : Fin 1024, f ⟨1024 * q.val + k.val, by have := q.isLt; have := k.isLt; omega⟩ := by
  rw [← Equiv.sum_comp (finProdFinEquiv (m := 4) (n := 1024)) f, Fintype.sum_prod_type]
  refine Finset.sum_congr rfl fun q _ => Finset.sum_congr rfl fun k _ => congrArg f (Fin.ext ?_)
  exact Nat.add_comm k.val (1024 * q.val)

/-! ## Against the whole arrays -/

section Whole

variable (x : FVec Ideal ⟨2, ![4096, 4096]⟩ .f32)

/-- When every device holds its block of columns of `x`, a device's quarter `q` of the gathered
block is rows `256 c …` and columns `1024 q …` of `x`. -/
theorem GQ_at (hx : ∀ d : Dev nD, X m d = Layout.block ⟨2, ![4096, 256]⟩ ⟨2, ![4096, 4096]⟩ 1 16 d x)
    (c : Dev nD) (q : Fin 4) (r : Fin 256) (k : Fin 1024)
    (hr : 256 * c.val + r.val < 4096) (hk : 1024 * q.val + k.val < 4096) :
    GQ m c q (ix2 r k) = x (ix2 ⟨256 * c.val + r.val, hr⟩ ⟨1024 * q.val + k.val, hk⟩) := by
  unfold GQ Gt X8
  show X m _ _ = _
  rw [hx, Layout.block_apply]
  refine congrArg x (funext fun a => Fin.ext ?_)
  rw [Layout.Tiles.idx_val]
  match a with
  | ⟨0, _⟩ => rfl
  | ⟨1, _⟩ =>
    show (1024 * q.val + k.val) / 256 * 256 + (1024 * q.val + k.val) % 256 = 1024 * q.val + k.val
    omega

/-- Quarter `q` of the right operand is its rows `1024 q …`. -/
theorem W8Q_at (c : Dev nD) (q : Fin 4) (k : Fin 1024) (j : Fin 2048) (hk : 1024 * q.val + k.val < 4096) :
    W8Q m c q (ix2 k j) = Wt m c (ix2 ⟨1024 * q.val + k.val, hk⟩ j) := by
  unfold W8Q
  show WQ m c q _ = _
  unfold WQ
  refine congrArg (Wt m c) (funext fun a => Fin.ext ?_)
  match a with
  | ⟨0, _⟩ => rfl
  | ⟨1, _⟩ => rfl

/-- A device's result at an index: the whole sum over 4096 positions, times the two scales. -/
theorem res_at (hx : ∀ d : Dev nD, X m d = Layout.block ⟨2, ![4096, 256]⟩ ⟨2, ![4096, 4096]⟩ 1 16 d x)
    (c : Dev nD) (r : Fin 256) (j : Fin 2048) (hr : 256 * c.val + r.val < 4096) :
    res m c (ix2 r j) = (∑ k : Fin 4096, x (ix2 ⟨256 * c.val + r.val, hr⟩ k) * Wt m c (ix2 k j))
      * ((scal (SX m c) : EReal) * scal (SW m c)) := by
  unfold res
  refine (y3_at m c _ r j).trans ?_
  rw [sum_order c (share m c r j), sum_quarters]
  refine congrArg₂ (fun a b : EReal => a * b) ?_ rfl
  refine Finset.sum_congr rfl fun q _ => Finset.sum_congr rfl fun k _ => ?_
  have hk : 1024 * q.val + k.val < 4096 := by have := q.isLt; have := k.isLt; omega
  rw [GQ_at m x hx c q r k hr hk, W8Q_at m c q k j hk]

end Whole

/-- The reference's result, as a term of its arguments. -/
def whole (x : FVec Ideal ⟨2, ![4096, 4096]⟩ .f32) (w : FVec Ideal ⟨2, ![4096, 2048]⟩ .f32)
    (sx sw : FVec Ideal ⟨1, ![1]⟩ .f32) : FVec Ideal ⟨2, ![4096, 2048]⟩ .f32 :=
  mulf (Host.dotGeneral Cert.ReferenceIdeal.dot_S4096x4096_S4096x2048_S4096x2048_1_0_0_1_n_n none x w)
    (broadcastInDim Cert.ReferenceIdeal.S4096x2048 ![0, 1] Cert.ReferenceIdeal.Gen.bcast_S1x1_S4096x2048_0_1
      (broadcastInDim Cert.ReferenceIdeal.S1x1 ![1] Cert.ReferenceIdeal.Gen.bcast_S1_S1x1_1 (mulf sx sw)))

/-- The reference's result at an index. -/
theorem whole_at (x : FVec Ideal ⟨2, ![4096, 4096]⟩ .f32) (w : FVec Ideal ⟨2, ![4096, 2048]⟩ .f32)
    (sx sw : FVec Ideal ⟨1, ![1]⟩ .f32) (r : Fin 4096) (j : Fin 2048) :
    whole x w sx sw (ix2 r j) = (∑ k : Fin 4096, x (ix2 r k) * w (ix2 k j)) * ((scal (F := Ideal) sx : EReal) * scal (F := Ideal) sw) := by
  unfold whole
  rw [show Cert.ReferenceIdeal.dot_S4096x4096_S4096x2048_S4096x2048_1_0_0_1_n_n = DotDims.plain 4096 4096 2048 from rfl]
  refine congrArg₂ (fun a b : EReal => a * b) (Idealize.ShloMosaic.StackMember.dotGeneral_plain_apply none x w r j) ?_
  show (sx _ : EReal) * sw _ = _
  exact congrArg₂ (fun a b : EReal => a * b) (congrArg sx (one_index _ _)) (congrArg sw (one_index _ _))

/-- **Each device's result is its block of the reference's.** -/
theorem res_block (x : FVec Ideal ⟨2, ![4096, 4096]⟩ .f32) (w : FVec Ideal ⟨2, ![4096, 2048]⟩ .f32)
    (sx sw : FVec Ideal ⟨1, ![1]⟩ .f32)
    (hx : ∀ d : Dev nD, X m d = Layout.block ⟨2, ![4096, 256]⟩ ⟨2, ![4096, 4096]⟩ 1 16 d x)
    (c : Dev nD) (hw : Wt m c = w) (hsx : SX m c = sx) (hsw : SW m c = sw) :
    res m c = Layout.block ⟨2, ![256, 2048]⟩ ⟨2, ![4096, 2048]⟩ 0 16 c (whole x w sx sw) := by
  funext i
  obtain ⟨r, j, rfl⟩ : ∃ (r : Fin 256) (j : Fin 2048), i = ix2 r j := ⟨i 0, i 1, eq_ix2 i⟩
  have hr : 256 * c.val + r.val < 4096 := by have := r.isLt; have : c.val < 16 := c.isLt; omega
  rw [Layout.block_apply, res_at m x hx c r j hr, hw, hsx, hsw]
  refine (whole_at x w sx sw ⟨256 * c.val + r.val, hr⟩ j).symm.trans (congrArg (whole x w sx sw) (funext fun a => Fin.ext ?_))
  rw [Layout.Tiles.idx_val]
  match a with
  | ⟨0, _⟩ => show 256 * c.val + r.val = c.val * 256 + r.val; omega
  | ⟨1, _⟩ => rfl

end Cert.KernelIdeal.Exchange

end
-- ==== Proof.lean ====
/-
The five claims about the kernel: it, its reading over the extended reals and the reference each run to
the end, leave their arguments alone and every semaphore at zero; nothing was rewritten between the
first two; and over the extended reals each device's result is its block of rows of the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.KernelIdealValue
public import Idealize.ShloMosaic.Lib.Quiescent

@[expose] public section

noncomputable section

namespace Cert.Proof

open Idealize.ShloMosaic Idealize.SL.Sem

/-- The kernel runs, keeps its arguments and ends with every counter at zero: its run, read there. -/
theorem frame_kernel : Cert.quiescent_Kernel := fun m ρ _ =>
  (θ_run Cert.Kernel.defs _ _).mono (fun _ h => ⟨fun c => (h.1 c).2, h.2⟩) (Cert.Kernel.Exchange.run_main (F := Bits) m ρ)

/-- The same over the extended reals. -/
theorem frame_ideal : Cert.quiescent_KernelIdeal := fun m ρ _ =>
  (θ_run Cert.KernelIdeal.defs _ _).mono (fun _ h => ⟨fun c => (h.1 c).2, h.2⟩)
    (Cert.KernelIdeal.Exchange.run_main (F := Ideal) m ρ)

/-- The reference runs and keeps its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device's result is its block of rows of the reference's result. -/
theorem value : Cert.algebraic_KernelIdeal_ReferenceIdeal := by
  intro m ρ m' ρ' _ hargs
  refine ⟨Cert.KernelIdeal.Exchange.whole _ _ _ _, ?_, (θ_run Cert.ReferenceIdeal.defs _ _).mono (fun _ h => h 0)
    (Cert.ReferenceIdeal.Value.run (F := Ideal) m' ρ')⟩
  refine (θ_run Cert.KernelIdeal.defs _ _).mono (fun _ h c => ⟨(h.1 c).1.trans ?_, (h.1 c).2⟩)
    (Cert.KernelIdeal.Exchange.run_main (F := Ideal) m ρ)
  exact Cert.KernelIdeal.Exchange.res_block m _ _ _ _ (fun d => (hargs d).1) c (hargs c).2.1 (hargs c).2.2.1 (hargs c).2.2.2

/-- All five claims. -/
theorem claim : Cert.Claim :=
  ⟨Cert.Kernel.Gen.facts, Cert.KernelIdeal.Gen.facts, Cert.ReferenceIdeal.Gen.facts,
    frame_kernel, frame_ideal, frame_reference, trivial, value⟩

end Cert.Proof

end
